-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 4096, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 4096, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x128x128 : S_.BroadcastsInDim S1x4096x128x128 (![] : Fin 0 → Fin S1x4096x128x128.rank)

variable [Facts]

def fn {F : FTy → Type} [FloatOps F] (main_arg0 : FVec F S1x256x1024 .f32) (main_arg1 : FVec F S1024x1024 .f32) (main_arg2 : FVec F S1x4096x128x128 .f32) (main_arg3 : FVec F S1x4096x128x128 .f32) (main_arg4 : FVec F S1024x1024 .f32) : IVec S1x256x1024 1 × IVec S1024x1024 1 × IVec S1x4096x128x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x128x128 .f32 := Host.absf main_arg2
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Pre_finite_inputs_ReferenceIdeal.lean ====
abbrev S1x4096x1024 : Shape := ⟨3, ![1, 4096, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S1x4096x1024 : S_.BroadcastsInDim S1x4096x1024 (![] : Fin 0 → Fin S1x4096x1024.rank)
  bcast_S_S1024x16384 : S_.BroadcastsInDim S1024x16384 (![] : Fin 0 → Fin S1024x16384.rank)
  bcast_S_S1x4096x128x128 : S_.BroadcastsInDim S1x4096x128x128 (![] : Fin 0 → Fin S1x4096x128x128.rank)

variable [Facts]

def fn {F : FTy → Type} [FloatOps F] (main_arg0 : FVec F S1x4096x1024 .f32) (main_arg1 : FVec F S1024x16384 .f32) (main_arg2 : FVec F S1x4096x128x128 .f32) (main_arg3 : FVec F S1x4096x128x128 .f32) (main_arg4 : FVec F S16384x1024 .f32) : IVec S1x4096x1024 1 × IVec S1024x16384 1 × IVec S1x4096x128x128 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x4096x128x128 .f32 := Host.absf main_arg2
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S4096x1024 : Shape := ⟨2, ![4096, 1024]⟩
abbrev S4096x128 : Shape := ⟨2, ![4096, 128]⟩
abbrev S8x4096x128 : Shape := ⟨3, ![8, 4096, 128]⟩
abbrev S15 : Shape := ⟨1, ![15]⟩
abbrev S_ : Shape := ⟨0, ![]⟩
abbrev S256x1024 : Shape := ⟨2, ![256, 1024]⟩
abbrev S1 : Shape := ⟨1, ![1]⟩
abbrev S1x4096x1x128 : Shape := ⟨4, ![1, 4096, 1, 128]⟩
abbrev S1x4096x128 : Shape := ⟨3, ![1, 4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x128x128, .f32⟩
  | .hbm, ⟨3, _⟩ => ⟨S1x4096x128x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4096x1024, .bf16⟩
  | .local _ .vmem, ⟨5, _⟩ => ⟨S4096x1024, .bf16⟩
  | .local _ .vmem, ⟨6, _⟩ => ⟨S4096x128, .f32⟩
  | .local _ .vmem, ⟨7, _⟩ => ⟨S8x4096x128, .bf16⟩
  | .local _ .vmem, ⟨8, _⟩ => ⟨S8x4096x128, .bf16⟩
  | .local _ .vmem, ⟨9, _⟩ => ⟨S1024x1024, .bf16⟩
  | .local _ .vmem, ⟨10, _⟩ => ⟨S1024x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v11 : BitVec 32 := Scalar.muli v2 c256_i32
  let v12 : Index := Scalar.indexCast v11
  let c0_7 : Index := 0#32
  ![v12.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9 : BitVec 32 := 1#32
  let v17 : BitVec 32 := Scalar.muli v5 c1_i32_9
  let v18 : BitVec 32 := Scalar.addi c0_i32 v17
  v18.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11 : BitVec 32 := 1#32
  let v19 : BitVec 32 := Scalar.muli v7 c1_i32_11
  let v20 : BitVec 32 := Scalar.addi c0_i32_12 v19
  v20.toNat
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : BitVec 32 := Scalar.subi v2 c0_i32_13
  let c32_i32 : BitVec 32 := 32#32
  let v22 : BitVec 32 := Scalar.addi v21 c32_i32
  let c16_i32_14 : BitVec 32 := 16#32
  let v23 : BitVec 32 := Scalar.remsi v22 c16_i32_14
  let c256_i32_15 : BitVec 32 := 256#32
  let v24 : BitVec 32 := Scalar.muli v23 c256_i32_15
  let c0_i32_20 : BitVec 32 := 0#32
  ![v24.toNat, 0]
def k0_off2_at (r : Fin 4) : BitVec 32 :=
  if r.val < 2 then
    if r.val < 1 then
      0#32
    else
      1#32
  else
    if r.val < 3 then
      2#32
    else
      14#32
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_18 : BitVec 32 := 1#32
  let v25 : BitVec 32 := Scalar.muli v7 c1_i32_18
  let v26 : BitVec 32 := Scalar.addi c0_i32_19 v25
  v26.toNat
def k0_off3 (d0 : Dev nD) (c0_i32_30 : BitVec 32) : Fin 4 → Nat :=
  let c0_i32_31 : BitVec 32 := 0#32
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v47 : BitVec 32 := Scalar.muli v2 c8_i32
  let v48 : BitVec 32 := Scalar.addi v47 c0_i32_30
  let c0_i32_33 : BitVec 32 := 0#32
  ![0, 0, v48.toNat, 0]
def k0_dev4 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_230 : BitVec 32 := 1#32
  let v225 : BitVec 32 := Scalar.muli v7 c1_i32_230
  let v226 : BitVec 32 := Scalar.addi c0_i32_231 v225
  v226.toNat
@[reducible] def k0_t1_loop : Scf.Loop 32 :=
  let c0_i32_241 : BitVec 32 := 0#32
  let c8_i32_242 : BitVec 32 := 8#32
  let v244 : BitVec 32 := Scalar.addi c0_i32_241 c8_i32_242
  let c1_i32_243 : BitVec 32 := 1#32
  ⟨c0_i32_241, v244, c1_i32_243⟩
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_240 : BitVec 32 := 256#32
  let v243 : BitVec 32 := Scalar.muli v2 c256_i32_240
  let v418 : Index := Scalar.indexCast v243
  let c0_i32_241 : BitVec 32 := 0#32
  let c1_i32_243 : BitVec 32 := 1#32
  let arg18 : BitVec 32 := Scf.iv c0_i32_241 c1_i32_243 k0_t1
  let c128_i32 : BitVec 32 := 128#32
  let v417 : BitVec 32 := Scalar.muli arg18 c128_i32
  let v419 : Index := Scalar.indexCast v417
  ![v418.toNat, v419.toNat]
def k0_off5 (k0_t1 : Fin k0_t1_loop.trips) : Fin 3 → Nat :=
  let c0_i32_241 : BitVec 32 := 0#32
  let c1_i32_243 : BitVec 32 := 1#32
  let arg18 : BitVec 32 := Scf.iv c0_i32_241 c1_i32_243 k0_t1
  let v421 : Index := Scalar.indexCast arg18
  let c0_406 : Index := 0#32
  let c0_407 : Index := 0#32
  ![v421.toNat, 0, 0]
def k0_dev5 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_266 : BitVec 32 := 1#32
  let v263 : BitVec 32 := Scalar.muli v7 c1_i32_266
  let v264 : BitVec 32 := Scalar.addi c0_i32_267 v263
  v264.toNat
def k0_off6 (d0 : Dev nD) (c1_i32_270 : BitVec 32) (c16_i32_271 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v271 : BitVec 32 := Scalar.subi v2 c1_i32_270
  let v272 : BitVec 32 := Scalar.addi v271 c16_i32_271
  let c16_i32_272 : BitVec 32 := 16#32
  let v273 : BitVec 32 := Scalar.remsi v272 c16_i32_272
  let c256_i32_273 : BitVec 32 := 256#32
  let v274 : BitVec 32 := Scalar.muli v273 c256_i32_273
  let v275 : Index := Scalar.indexCast v274
  let c0_274 : Index := 0#32
  ![v275.toNat, 0]
def k0_off6_at (r : Fin 2) : BitVec 32 × BitVec 32 :=
  if r.val < 1 then
    (1#32, 16#32)
  else
    (14#32, 32#32)
@[reducible] def k0_t2_loop : Scf.Loop 32 :=
  let c0_i32_280 : BitVec 32 := 0#32
  let c8_i32_281 : BitVec 32 := 8#32
  let v285 : BitVec 32 := Scalar.addi c0_i32_280 c8_i32_281
  let c1_i32_282 : BitVec 32 := 1#32
  ⟨c0_i32_280, v285, c1_i32_282⟩
def k0_off7 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_270 : BitVec 32 := 1#32
  let v271 : BitVec 32 := Scalar.subi v2 c1_i32_270
  let c16_i32_271 : BitVec 32 := 16#32
  let v272 : BitVec 32 := Scalar.addi v271 c16_i32_271
  let c16_i32_272 : BitVec 32 := 16#32
  let v273 : BitVec 32 := Scalar.remsi v272 c16_i32_272
  let c256_i32_279 : BitVec 32 := 256#32
  let v284 : BitVec 32 := Scalar.muli v273 c256_i32_279
  let v418 : Index := Scalar.indexCast v284
  let c0_i32_280 : BitVec 32 := 0#32
  let c1_i32_282 : BitVec 32 := 1#32
  let arg18 : BitVec 32 := Scf.iv c0_i32_280 c1_i32_282 k0_t2
  let c128_i32 : BitVec 32 := 128#32
  let v417 : BitVec 32 := Scalar.muli arg18 c128_i32
  let v419 : Index := Scalar.indexCast v417
  ![v418.toNat, v419.toNat]
def k0_off8 (k0_t2 : Fin k0_t2_loop.trips) : Fin 3 → Nat :=
  let c0_i32_280 : BitVec 32 := 0#32
  let c1_i32_282 : BitVec 32 := 1#32
  let arg18 : BitVec 32 := Scf.iv c0_i32_280 c1_i32_282 k0_t2
  let v421 : Index := Scalar.indexCast arg18
  let c0_406 : Index := 0#32
  let c0_407 : Index := 0#32
  ![v421.toNat, 0, 0]
def k0_dev6 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_293 : BitVec 32 := 1#32
  let v295 : BitVec 32 := Scalar.muli v7 c1_i32_293
  let v296 : BitVec 32 := Scalar.addi c0_i32_294 v295
  v296.toNat
@[reducible] def k0_t3_loop : Scf.Loop 32 :=
  let c2_i32_299 : BitVec 32 := 2#32
  let c12_i32 : BitVec 32 := 12#32
  let v303 : BitVec 32 := Scalar.addi c2_i32_299 c12_i32
  let c1_i32_300 : BitVec 32 := 1#32
  ⟨c2_i32_299, v303, c1_i32_300⟩
def k0_off9 (k0_t3 : Fin k0_t3_loop.trips) : Fin 1 → Nat :=
  let c2_i32_299 : BitVec 32 := 2#32
  let c1_i32_300 : BitVec 32 := 1#32
  let arg18 : BitVec 32 := Scf.iv c2_i32_299 c1_i32_300 k0_t3
  ![arg18.toNat]
def k0_off10 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_299 : BitVec 32 := 2#32
  let c1_i32_300 : BitVec 32 := 1#32
  let arg18 : BitVec 32 := Scf.iv c2_i32_299 c1_i32_300 k0_t3
  let v417 : BitVec 32 := Scalar.subi v2 arg18
  let c32_i32_406 : BitVec 32 := 32#32
  let v418 : BitVec 32 := Scalar.addi v417 c32_i32_406
  let c16_i32_407 : BitVec 32 := 16#32
  let v419 : BitVec 32 := Scalar.remsi v418 c16_i32_407
  let c256_i32_408 : BitVec 32 := 256#32
  let v420 : BitVec 32 := Scalar.muli v419 c256_i32_408
  let c0_i32_410 : BitVec 32 := 0#32
  ![v420.toNat, 0]
def k0_off11 (k0_t3 : Fin k0_t3_loop.trips) : Fin 1 → Nat :=
  let c2_i32_299 : BitVec 32 := 2#32
  let c1_i32_300 : BitVec 32 := 1#32
  let arg18 : BitVec 32 := Scf.iv c2_i32_299 c1_i32_300 k0_t3
  let c1_i32_416 : BitVec 32 := 1#32
  let v431 : BitVec 32 := Scalar.addi arg18 c1_i32_416
  ![v431.toNat]
def k0_off12 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_299 : BitVec 32 := 2#32
  let c1_i32_300 : BitVec 32 := 1#32
  let arg18 : BitVec 32 := Scf.iv c2_i32_299 c1_i32_300 k0_t3
  let c1_i32_416 : BitVec 32 := 1#32
  let v431 : BitVec 32 := Scalar.addi arg18 c1_i32_416
  let v432 : BitVec 32 := Scalar.subi v2 v431
  let c32_i32_417 : BitVec 32 := 32#32
  let v433 : BitVec 32 := Scalar.addi v432 c32_i32_417
  let c16_i32_418 : BitVec 32 := 16#32
  let v434 : BitVec 32 := Scalar.remsi v433 c16_i32_418
  let c256_i32_419 : BitVec 32 := 256#32
  let v435 : BitVec 32 := Scalar.muli v434 c256_i32_419
  let c0_i32_422 : BitVec 32 := 0#32
  ![v435.toNat, 0]
def k0_dev7 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_420 : BitVec 32 := 1#32
  let v436 : BitVec 32 := Scalar.muli v7 c1_i32_420
  let v437 : BitVec 32 := Scalar.addi c0_i32_421 v436
  v437.toNat
def k0_off13 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_299 : BitVec 32 := 2#32
  let c1_i32_300 : BitVec 32 := 1#32
  let arg18 : BitVec 32 := Scf.iv c2_i32_299 c1_i32_300 k0_t3
  let v444 : BitVec 32 := Scalar.subi v2 arg18
  let c32_i32_424 : BitVec 32 := 32#32
  let v445 : BitVec 32 := Scalar.addi v444 c32_i32_424
  let c16_i32_425 : BitVec 32 := 16#32
  let v446 : BitVec 32 := Scalar.remsi v445 c16_i32_425
  let c256_i32_426 : BitVec 32 := 256#32
  let v447 : BitVec 32 := Scalar.muli v446 c256_i32_426
  let v448 : Index := Scalar.indexCast v447
  let c0_427 : Index := 0#32
  ![v448.toNat, 0]
@[reducible] def k0_t4_loop : Scf.Loop 32 :=
  let c0_i32_433 : BitVec 32 := 0#32
  let c8_i32_434 : BitVec 32 := 8#32
  let v458 : BitVec 32 := Scalar.addi c0_i32_433 c8_i32_434
  let c1_i32_435 : BitVec 32 := 1#32
  ⟨c0_i32_433, v458, c1_i32_435⟩
def k0_off14 (d0 : Dev nD) (k0_t3 : Fin k0_t3_loop.trips) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_299 : BitVec 32 := 2#32
  let c1_i32_300 : BitVec 32 := 1#32
  let arg18 : BitVec 32 := Scf.iv c2_i32_299 c1_i32_300 k0_t3
  let v444 : BitVec 32 := Scalar.subi v2 arg18
  let c32_i32_424 : BitVec 32 := 32#32
  let v445 : BitVec 32 := Scalar.addi v444 c32_i32_424
  let c16_i32_425 : BitVec 32 := 16#32
  let v446 : BitVec 32 := Scalar.remsi v445 c16_i32_425
  let c256_i32_432 : BitVec 32 := 256#32
  let v457 : BitVec 32 := Scalar.muli v446 c256_i32_432
  let v497 : Index := Scalar.indexCast v457
  let c0_i32_433 : BitVec 32 := 0#32
  let c1_i32_435 : BitVec 32 := 1#32
  let arg19 : BitVec 32 := Scf.iv c0_i32_433 c1_i32_435 k0_t4
  let c128_i32 : BitVec 32 := 128#32
  let v496 : BitVec 32 := Scalar.muli arg19 c128_i32
  let v498 : Index := Scalar.indexCast v496
  ![v497.toNat, v498.toNat]
def k0_off15 (k0_t4 : Fin k0_t4_loop.trips) : Fin 3 → Nat :=
  let c0_i32_433 : BitVec 32 := 0#32
  let c1_i32_435 : BitVec 32 := 1#32
  let arg19 : BitVec 32 := Scf.iv c0_i32_433 c1_i32_435 k0_t4
  let v500 : Index := Scalar.indexCast arg19
  let c0_461 : Index := 0#32
  let c0_462 : Index := 0#32
  ![v500.toNat, 0, 0]
def k0_off16 (k0_t3 : Fin k0_t3_loop.trips) : Fin 1 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  let c1_i32_438 : BitVec 32 := 1#32
  let v460 : BitVec 32 := Scalar.subi v459 c1_i32_438
  ![v460.toNat]
def k0_off17 (k0_t3 : Fin k0_t3_loop.trips) : Fin 2 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  let c1_i32_438 : BitVec 32 := 1#32
  let v460 : BitVec 32 := Scalar.subi v459 c1_i32_438
  let c1_i32_440 : BitVec 32 := 1#32
  let v462 : BitVec 32 := Scalar.addi v460 c1_i32_440
  let c256_i32_441 : BitVec 32 := 256#32
  let v463 : BitVec 32 := Scalar.muli v462 c256_i32_441
  let c0_i32_444 : BitVec 32 := 0#32
  ![v463.toNat, 0]
def k0_off18 (k0_t3 : Fin k0_t3_loop.trips) : Fin 2 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  let c1_i32_438 : BitVec 32 := 1#32
  let v460 : BitVec 32 := Scalar.subi v459 c1_i32_438
  let c256_i32_439 : BitVec 32 := 256#32
  let v461 : BitVec 32 := Scalar.muli v460 c256_i32_439
  let c0_i32_445 : BitVec 32 := 0#32
  ![v461.toNat, 0]
def k0_off19 (k0_t3 : Fin k0_t3_loop.trips) : Fin 2 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  let c256_i32_446 : BitVec 32 := 256#32
  let v470 : BitVec 32 := Scalar.muli v459 c256_i32_446
  let v471 : Index := Scalar.indexCast v470
  let c0_447 : Index := 0#32
  ![v471.toNat, 0]
def k0_off20 (k0_t3 : Fin k0_t3_loop.trips) : Fin 1 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  ![v459.toNat]
def k0_off21 (k0_t3 : Fin k0_t3_loop.trips) : Fin 2 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  let c1_i32_455 : BitVec 32 := 1#32
  let v486 : BitVec 32 := Scalar.addi v459 c1_i32_455
  let c256_i32_456 : BitVec 32 := 256#32
  let v487 : BitVec 32 := Scalar.muli v486 c256_i32_456
  let c0_i32_459 : BitVec 32 := 0#32
  ![v487.toNat, 0]
def k0_off22 (k0_t3 : Fin k0_t3_loop.trips) : Fin 2 → Nat :=
  let c2_i32_299 : BitVec 32 := 2#32
  let c1_i32_300 : BitVec 32 := 1#32
  let arg18 : BitVec 32 := Scf.iv c2_i32_299 c1_i32_300 k0_t3
  let c1_i32_437 : BitVec 32 := 1#32
  let v459 : BitVec 32 := Scalar.subi arg18 c1_i32_437
  let c256_i32_454 : BitVec 32 := 256#32
  let v485 : BitVec 32 := Scalar.muli v459 c256_i32_454
  let c0_i32_460 : BitVec 32 := 0#32
  ![v485.toNat, 0]
def k0_dev8 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_457 : BitVec 32 := 1#32
  let v488 : BitVec 32 := Scalar.muli v7 c1_i32_457
  let v489 : BitVec 32 := Scalar.addi c0_i32_458 v488
  v489.toNat
@[reducible] def k0_t5_loop : Scf.Loop 32 :=
  let c0_i32_326 : BitVec 32 := 0#32
  let c8_i32_327 : BitVec 32 := 8#32
  let v332 : BitVec 32 := Scalar.addi c0_i32_326 c8_i32_327
  let c1_i32_328 : BitVec 32 := 1#32
  ⟨c0_i32_326, v332, c1_i32_328⟩
def k0_off23 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_316 : BitVec 32 := 14#32
  let v318 : BitVec 32 := Scalar.subi v2 c14_i32_316
  let c32_i32_317 : BitVec 32 := 32#32
  let v319 : BitVec 32 := Scalar.addi v318 c32_i32_317
  let c16_i32_318 : BitVec 32 := 16#32
  let v320 : BitVec 32 := Scalar.remsi v319 c16_i32_318
  let c256_i32_325 : BitVec 32 := 256#32
  let v331 : BitVec 32 := Scalar.muli v320 c256_i32_325
  let v418 : Index := Scalar.indexCast v331
  let c0_i32_326 : BitVec 32 := 0#32
  let c1_i32_328 : BitVec 32 := 1#32
  let arg18 : BitVec 32 := Scf.iv c0_i32_326 c1_i32_328 k0_t5
  let c128_i32 : BitVec 32 := 128#32
  let v417 : BitVec 32 := Scalar.muli arg18 c128_i32
  let v419 : Index := Scalar.indexCast v417
  ![v418.toNat, v419.toNat]
def k0_off24 (k0_t5 : Fin k0_t5_loop.trips) : Fin 3 → Nat :=
  let c0_i32_326 : BitVec 32 := 0#32
  let c1_i32_328 : BitVec 32 := 1#32
  let arg18 : BitVec 32 := Scf.iv c0_i32_326 c1_i32_328 k0_t5
  let v421 : Index := Scalar.indexCast arg18
  let c0_406 : Index := 0#32
  let c0_407 : Index := 0#32
  ![v421.toNat, 0, 0]
def k0_dev9 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_345 : BitVec 32 := 1#32
  let v351 : BitVec 32 := Scalar.muli v7 c1_i32_345
  let v352 : BitVec 32 := Scalar.addi c0_i32_346 v351
  v352.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_350 : BitVec 32 := 1#32
  let v359 : BitVec 32 := Scalar.addi v2 c1_i32_350
  let c16_i32_351 : BitVec 32 := 16#32
  let v360 : BitVec 32 := Scalar.remsi v359 c16_i32_351
  let c256_i32_352 : BitVec 32 := 256#32
  let v361 : BitVec 32 := Scalar.muli v360 c256_i32_352
  let v362 : Index := Scalar.indexCast v361
  let c0_353 : Index := 0#32
  ![v362.toNat, 0]
@[reducible] def k0_t6_loop : Scf.Loop 32 :=
  let c0_i32_359 : BitVec 32 := 0#32
  let c8_i32_360 : BitVec 32 := 8#32
  let v372 : BitVec 32 := Scalar.addi c0_i32_359 c8_i32_360
  let c1_i32_361 : BitVec 32 := 1#32
  ⟨c0_i32_359, v372, c1_i32_361⟩
def k0_off26 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_350 : BitVec 32 := 1#32
  let v359 : BitVec 32 := Scalar.addi v2 c1_i32_350
  let c16_i32_351 : BitVec 32 := 16#32
  let v360 : BitVec 32 := Scalar.remsi v359 c16_i32_351
  let c256_i32_358 : BitVec 32 := 256#32
  let v371 : BitVec 32 := Scalar.muli v360 c256_i32_358
  let v418 : Index := Scalar.indexCast v371
  let c0_i32_359 : BitVec 32 := 0#32
  let c1_i32_361 : BitVec 32 := 1#32
  let arg18 : BitVec 32 := Scf.iv c0_i32_359 c1_i32_361 k0_t6
  let c128_i32 : BitVec 32 := 128#32
  let v417 : BitVec 32 := Scalar.muli arg18 c128_i32
  let v419 : Index := Scalar.indexCast v417
  ![v418.toNat, v419.toNat]
def k0_off27 (k0_t6 : Fin k0_t6_loop.trips) : Fin 3 → Nat :=
  let c0_i32_359 : BitVec 32 := 0#32
  let c1_i32_361 : BitVec 32 := 1#32
  let arg18 : BitVec 32 := Scf.iv c0_i32_359 c1_i32_361 k0_t6
  let v421 : Index := Scalar.indexCast arg18
  let c0_406 : Index := 0#32
  let c0_407 : Index := 0#32
  ![v421.toNat, 0, 0]
def k0_dev10 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_381 : BitVec 32 := 1#32
  let v391 : BitVec 32 := Scalar.muli v7 c1_i32_381
  let v392 : BitVec 32 := Scalar.addi c0_i32_382 v391
  v392.toNat
@[reducible] def k0_t7_loop : Scf.Loop 32 :=
  let c0_i32_403 : BitVec 32 := 0#32
  let c15_i32 : BitVec 32 := 15#32
  let v416 : BitVec 32 := Scalar.addi c0_i32_403 c15_i32
  let c1_i32_404 : BitVec 32 := 1#32
  ⟨c0_i32_403, v416, c1_i32_404⟩
def k0_off28 (k0_t7 : Fin k0_t7_loop.trips) : Fin 1 → Nat :=
  let c0_i32_403 : BitVec 32 := 0#32
  let c1_i32_404 : BitVec 32 := 1#32
  let arg18 : BitVec 32 := Scf.iv c0_i32_403 c1_i32_404 k0_t7
  ![arg18.toNat]
def k0_off29 (k0_t7 : Fin k0_t7_loop.trips) : Fin 2 → Nat :=
  let c0_i32_403 : BitVec 32 := 0#32
  let c1_i32_404 : BitVec 32 := 1#32
  let arg18 : BitVec 32 := Scf.iv c0_i32_403 c1_i32_404 k0_t7
  let c256_i32_406 : BitVec 32 := 256#32
  let v417 : BitVec 32 := Scalar.muli arg18 c256_i32_406
  let c0_i32_410 : BitVec 32 := 0#32
  ![v417.toNat, 0]
def k0_off30 (k0_t7 : Fin k0_t7_loop.trips) : Fin 2 → Nat :=
  let c0_i32_403 : BitVec 32 := 0#32
  let c1_i32_404 : BitVec 32 := 1#32
  let arg18 : BitVec 32 := Scf.iv c0_i32_403 c1_i32_404 k0_t7
  let c1_i32_407 : BitVec 32 := 1#32
  let v418 : BitVec 32 := Scalar.addi arg18 c1_i32_407
  let c256_i32_408 : BitVec 32 := 256#32
  let v419 : BitVec 32 := Scalar.muli v418 c256_i32_408
  let c0_i32_411 : BitVec 32 := 0#32
  ![v419.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x4096x1024 : Shape := ⟨3, ![1, 4096, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S1x4096x16384 : Shape := ⟨3, ![1, 4096, 16384]⟩
abbrev S_ : Shape := ⟨0, ![]⟩
abbrev S1x128x4096x1 : Shape := ⟨4, ![1, 128, 4096, 1]⟩
abbrev S1x1024x128x128 : Shape := ⟨4, ![1, 1024, 128, 128]⟩
abbrev S1x128x4096x1024 : Shape := ⟨4, ![1, 128, 4096, 1024]⟩
abbrev S1x128x4096 : Shape := ⟨3, ![1, 128, 4096]⟩
abbrev S1x4096x128x1 : Shape := ⟨4, ![1, 4096, 128, 1]⟩
abbrev S1x128x128x4096 : Shape := ⟨4, ![1, 128, 128, 4096]⟩

abbrev nBuf : Space → Nat
  | .hbm => 122
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x16384, .f32⟩
  | .hbm, ⟨2, _⟩ => ⟨S1x4096x128x128, .f32⟩
  | .hbm, ⟨3, _⟩ => ⟨S1x4096x128x128, .f32⟩
  | .hbm, ⟨4, _⟩ => ⟨S16384x1024, .f32⟩
  | .hbm, ⟨5, _⟩ => ⟨S1x4096x16384, .f32⟩
  | .hbm, ⟨6, _⟩ => ⟨S1x4096x128x128, .f32⟩
  | .hbm, ⟨7, _⟩ => ⟨S_, .f32⟩
  | .hbm, ⟨8, _⟩ => ⟨S1x4096x128x128, .f32⟩
  | .hbm, ⟨9, _⟩ => ⟨S_, .f32⟩
  | .hbm, ⟨10, _⟩ => ⟨S1x128x4096x1, .f32⟩
  | .hbm, ⟨11, _⟩ => ⟨S_, .f32⟩
  | .hbm, ⟨12, _⟩ => ⟨S1x128x4096x1, .f32⟩
  | .hbm, ⟨13, _⟩ => ⟨S1x1024x128x128, .f32⟩
  | .hbm, ⟨14, _⟩ => ⟨S1x1024x128x128, .f32⟩
  | .hbm, ⟨15, _⟩ => ⟨S1x128x4096x1024, .f32⟩
  | .hbm, ⟨16, _⟩ => ⟨S_, .f32⟩
  | .hbm, ⟨17, _⟩ => ⟨S1x128x4096x1024, .f32⟩
  | .hbm, ⟨18, _⟩ => ⟨S1x128x4096x1024, .f32⟩
  | .hbm, ⟨19, _⟩ => ⟨S_, .f32⟩
  | .hbm, ⟨20, _⟩ => ⟨S1x128x4096, .f32⟩
  | .hbm, ⟨21, _⟩ => ⟨S1x128x4096x1, .f32⟩
  | .hbm, ⟨22, _⟩ => ⟨S1x128x4096x1, .f32⟩
  | .hbm, ⟨23, _⟩ => ⟨S1x128x4096x1, .f32⟩
  | .hbm, ⟨24, _⟩ => ⟨S1x128x4096x1, .f32⟩
  | .hbm, ⟨25, _⟩ => ⟨S1x128x4096x1024, .f32⟩
  | .hbm, ⟨26, _⟩ => ⟨S1x128x4096x1024, .f32⟩
  | .hbm, ⟨27, _⟩ => ⟨S1x128x4096x1024, .f32⟩
  | .hbm, ⟨28, _⟩ => ⟨S1x128x4096x1, .f32⟩
  | .hbm, ⟨29, _⟩ => ⟨S_, .f32⟩
  | .hbm, ⟨30, _⟩ => ⟨S1x128x4096, .f32⟩
  | .hbm, ⟨31, _⟩ => ⟨S1x128x4096x1, .f32⟩
  | .hbm, ⟨32, _⟩ => ⟨S1x128x4096x1, .f32⟩
  | .hbm, ⟨33, _⟩ => ⟨S1x4096x128x1, .f32⟩
  | .hbm, ⟨34, _⟩ => ⟨S1x4096x128x128, .f32⟩
  | .hbm, ⟨35, _⟩ => ⟨S1x4096x128x128, .f32⟩
  | .hbm, ⟨36, _⟩ => ⟨S1x128x128x4096, .f32⟩
  | .hbm, ⟨37, _⟩ => ⟨S1x4096x128x128, .f32⟩
  | .hbm, ⟨38, _⟩ => ⟨S1x4096x128x128, .f32⟩
  | .hbm, ⟨39, _⟩ => ⟨S1x1024x128x128, .f32⟩
  | .hbm, ⟨40, _⟩ => ⟨S1x1024x128x128, .f32⟩
  | .hbm, ⟨41, _⟩ => ⟨S1x128x4096x1024, .f32⟩
  | .hbm, ⟨42, _⟩ => ⟨S_, .f32⟩
  | .hbm, ⟨43, _⟩ => ⟨S1x128x4096x1024, .f32⟩
  | .hbm, ⟨44, _⟩ => ⟨S1x128x4096x1024, .f32⟩
  | .hbm, ⟨45, _⟩ => ⟨S_, .f32⟩
  | .hbm, ⟨46, _⟩ => ⟨S1x128x4096, .f32⟩
  | .hbm, ⟨47, _⟩ => ⟨S1x128x4096x1, .f32⟩
  | .hbm, ⟨48, _⟩ => ⟨S1x128x4096x1, .f32⟩
  | .hbm, ⟨49, _⟩ => ⟨S1x128x4096x1, .f32⟩
  | .hbm, ⟨50, _⟩ => ⟨S1x128x4096x1, .f32⟩
  | .hbm, ⟨51, _⟩ => ⟨S1x128x4096x1024, .f32⟩
  | .hbm, ⟨52, _⟩ => ⟨S1x128x4096x1024, .f32⟩
  | .hbm, ⟨53, _⟩ => ⟨S1x128x4096x1024, .f32⟩
  | .hbm, ⟨54, _⟩ => ⟨S1x128x4096x1, .f32⟩
  | .hbm, ⟨55, _⟩ => ⟨S_, .f32⟩
  | .hbm, ⟨56, _⟩ => ⟨S1x128x4096, .f32⟩
  | .hbm, ⟨57, _⟩ => ⟨S1x128x4096x1, .f32⟩
  | .hbm, ⟨58, _⟩ => ⟨S1x128x4096x1, .f32⟩
  | .hbm, ⟨59, _⟩ => ⟨S1x4096x128x1, .f32⟩
  | .hbm, ⟨60, _⟩ => ⟨S1x4096x128x128, .f32⟩
  | .hbm, ⟨61, _⟩ => ⟨S1x4096x128x128, .f32⟩
  | .hbm, ⟨62, _⟩ => ⟨S1x128x128x4096, .f32⟩
  | .hbm, ⟨63, _⟩ => ⟨S1x4096x128x128, .f32⟩
  | .hbm, ⟨64, _⟩ => ⟨S1x4096x128x128, .f32⟩
  | .hbm, ⟨65, _⟩ => ⟨S1x1024x128x128, .f32⟩
  | .hbm, ⟨66, _⟩ => ⟨S1x1024x128x128, .f32⟩
  | .hbm, ⟨67, _⟩ => ⟨S1x128x4096x1024, .f32⟩
  | .hbm, ⟨68, _⟩ => ⟨S_, .f32⟩
  | .hbm, ⟨69, _⟩ => ⟨S1x128x4096x1024, .f32⟩
  | .hbm, ⟨70, _⟩ => ⟨S1x128x4096x1024, .f32⟩
  | .hbm, ⟨71, _⟩ => ⟨S_, .f32⟩
  | .hbm, ⟨72, _⟩ => ⟨S1x128x4096, .f32⟩
  | .hbm, ⟨73, _⟩ => ⟨S1x128x4096x1, .f32⟩
  | .hbm, ⟨74, _⟩ => ⟨S1x128x4096x1, .f32⟩
  | .hbm, ⟨75, _⟩ => ⟨S1x128x4096x1, .f32⟩
  | .hbm, ⟨76, _⟩ => ⟨S1x128x4096x1, .f32⟩
  | .hbm, ⟨77, _⟩ => ⟨S1x128x4096x1024, .f32⟩
  | .hbm, ⟨78, _⟩ => ⟨S1x128x4096x1024, .f32⟩
  | .hbm, ⟨79, _⟩ => ⟨S1x128x4096x1024, .f32⟩
  | .hbm, ⟨80, _⟩ => ⟨S1x128x4096x1, .f32⟩
  | .hbm, ⟨81, _⟩ => ⟨S_, .f32⟩
  | .hbm, ⟨82, _⟩ => ⟨S1x128x4096, .f32⟩
  | .hbm, ⟨83, _⟩ => ⟨S1x128x4096x1, .f32⟩
  | .hbm, ⟨84, _⟩ => ⟨S1x128x4096x1, .f32⟩
  | .hbm, ⟨85, _⟩ => ⟨S1x4096x128x1, .f32⟩
  | .hbm, ⟨86, _⟩ => ⟨S1x4096x128x128, .f32⟩
  | .hbm, ⟨87, _⟩ => ⟨S1x4096x128x128, .f32⟩
  | .hbm, ⟨88, _⟩ => ⟨S1x128x128x4096, .f32⟩
  | .hbm, ⟨89, _⟩ => ⟨S1x4096x128x128, .f32⟩
  | .hbm, ⟨90, _⟩ => ⟨S1x4096x128x128, .f32⟩
  | .hbm, ⟨91, _⟩ => ⟨S1x1024x128x128, .f32⟩
  | .hbm, ⟨92, _⟩ => ⟨S1x1024x128x128, .f32⟩
  | .hbm, ⟨93, _⟩ => ⟨S1x128x4096x1024, .f32⟩
  | .hbm, ⟨94, _⟩ => ⟨S_, .f32⟩
  | .hbm, ⟨95, _⟩ => ⟨S1x128x4096x1024, .f32⟩
  | .hbm, ⟨96, _⟩ => ⟨S1x128x4096x1024, .f32⟩
  | .hbm, ⟨97, _⟩ => ⟨S_, .f32⟩
  | .hbm, ⟨98, _⟩ => ⟨S1x128x4096, .f32⟩
  | .hbm, ⟨99, _⟩ => ⟨S1x128x4096x1, .f32⟩
  | .hbm, ⟨100, _⟩ => ⟨S1x128x4096x1, .f32⟩
  | .hbm, ⟨101, _⟩ => ⟨S1x128x4096x1, .f32⟩
  | .hbm, ⟨102, _⟩ => ⟨S1x128x4096x1, .f32⟩
  | .hbm, ⟨103, _⟩ => ⟨S1x128x4096x1024, .f32⟩
  | .hbm, ⟨104, _⟩ => ⟨S1x128x4096x1024, .f32⟩
  | .hbm, ⟨105, _⟩ => ⟨S1x128x4096x1024, .f32⟩
  | .hbm, ⟨106, _⟩ => ⟨S1x128x4096x1, .f32⟩
  | .hbm, ⟨107, _⟩ => ⟨S_, .f32⟩
  | .hbm, ⟨108, _⟩ => ⟨S1x128x4096, .f32⟩
  | .hbm, ⟨109, _⟩ => ⟨S1x128x4096x1, .f32⟩
  | .hbm, ⟨110, _⟩ => ⟨S1x128x4096x1, .f32⟩
  | .hbm, ⟨111, _⟩ => ⟨S1x4096x128x1, .f32⟩
  | .hbm, ⟨112, _⟩ => ⟨S1x4096x128x128, .f32⟩
  | .hbm, ⟨113, _⟩ => ⟨S1x4096x128x128, .f32⟩
  | .hbm, ⟨114, _⟩ => ⟨S1x128x128x4096, .f32⟩
  | .hbm, ⟨115, _⟩ => ⟨S1x4096x128x128, .f32⟩
  | .hbm, ⟨116, _⟩ => ⟨S1x4096x128x128, .f32⟩
  | .hbm, ⟨117, _⟩ => ⟨S1x4096x128x1, .f32⟩
  | .hbm, ⟨118, _⟩ => ⟨S1x4096x128x128, .f32⟩
  | .hbm, ⟨119, _⟩ => ⟨S1x4096x128x128, .f32⟩
  | .hbm, ⟨120, _⟩ => ⟨S1x4096x16384, .f32⟩
  | .hbm, ⟨121, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.KernelIdeal.Chunks.lean ====
/-
# 01_k — `Chunks`: the row blocks of the two ring buffers

The kernel's two ring buffers hold 4096 rows of 1024 numbers, in sixteen blocks of 256 rows. A device holds and hands
over these blocks one at a time. This module states what it is to hold block `j` of such a buffer at contents `v`
(`chunk`), and the loads and stores of a whole block and of one 128-column piece of a block against it.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's bookkeeping beside the ring's, whose duties are named by `Bool`, and the local copies'. -/
abbrev UB : Type := URounds (GSem nD τ sig) Bool
abbrev UU : Type := UR sig nD τ × (UB × Counters)
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev 𝒱₀ : Variants := Variants.none

/-- The running of a program of device `c`'s core to the assertion `Q` on its result. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A block of 256 rows. -/
abbrev Blk (F : FTy → Type) : Type := Vec F S256x1024 .bf16

/-- Block `j`'s rectangle: rows `256 j` to `256 j + 255`, every column. -/
def rowRect (j : Fin 16) : Rect S4096x1024 :=
  Rect.unit (s := S4096x1024) ![256 * j.val, 0] S256x1024.size (fun a => by
    have := j.isLt
    fin_cases a
    · show 256 * j.val + 256 ≤ 4096; omega
    · show 0 + 1024 ≤ 1024; omega)

theorem mem_rowRect {j : Fin 16} {i : S4096x1024.Idx} : i ∈ (rowRect j).set ↔ (i 0).val / 256 = j.val := by
  constructor
  · intro h
    obtain ⟨y, hy, e⟩ := (LoadRect.mem_set _).mp h 0
    have hy' : y < 256 := hy
    have e' : (i 0).val = 256 * j.val + 1 * y := e
    omega
  · intro h
    refine (LoadRect.mem_set _).mpr fun a => ?_
    have h0 : (i 0).val < 4096 := (i 0).isLt
    have h1 : (i 1).val < 1024 := (i 1).isLt
    fin_cases a
    · refine ⟨(i 0).val - 256 * j.val, ?_, ?_⟩
      · show _ < 256; omega
      · show (i 0).val = 256 * j.val + 1 * _; omega
    · refine ⟨(i 1).val, h1, ?_⟩
      show (i 1).val = 0 + 1 * _; omega

theorem rowRect_disjoint {j j' : Fin 16} (h : j ≠ j') : Disjoint (rowRect j).set (rowRect j').set :=
  Finset.disjoint_left.mpr fun i hi hi' => h (Fin.ext ((mem_rowRect.mp hi).symm.trans (mem_rowRect.mp hi')))

theorem rowRect_cover : Finset.univ.biUnion (fun j : Fin 16 => (rowRect j).set) = Finset.univ := by
  ext i
  simp only [Finset.mem_biUnion, Finset.mem_univ, true_and, iff_true]
  have h0 : (i 0).val < 4096 := (i 0).isLt
  exact ⟨⟨(i 0).val / 256, by omega⟩, mem_rowRect.mpr rfl⟩

abbrev BufM : Type := Memref sig .tc .vmem S4096x1024 .bf16

/-- Device `c` holds block `j` of the buffer `M`, at contents `v`. -/
def chunk (M : BufM) (c : Dev nD) (j : Fin 16) (v : Blk F) : sProp 𝕄 :=
  iprop(∃ f : Buf (Elt F) ((M.access (rowRect j)).loc (c : Thread nD τ)), ⌜(M.access (rowRect j)).read (Elt F) f = v⌝
    ∗ ((M.access (rowRect j)).loc (c : Thread nD τ) ↦[(M.access (rowRect j)).set]{fullShare} f))

/-- Device `c` holds block `j` of the buffer `M`, at some contents. -/
def anyChunk (M : BufM) (c : Dev nD) (j : Fin 16) : sProp 𝕄 := iprop(∃ v : Blk F, chunk M c j v)

omit [FloatOps F] in
instance chunk_storable (M : BufM) (c : Dev nD) (j : Fin 16) (v : Blk F) : BI.Storable (upEmb : UEmb _ 𝕄) (chunk (F := F) M c j v) := by
  unfold chunk; infer_instance

omit [FloatOps F] in
instance anyChunk_storable (M : BufM) (c : Dev nD) (j : Fin 16) : BI.Storable (upEmb : UEmb _ 𝕄) (anyChunk (F := F) M c j) := by
  unfold anyChunk; infer_instance

omit [FloatOps F] in
theorem chunk_any (M : BufM) (c : Dev nD) (j : Fin 16) (v : Blk F) : chunk M c j v ⊢ (anyChunk M c j : sProp 𝕄) := by
  unfold anyChunk; iintro H; iexists v; iexact H

/-! ## Loads and stores of a whole block -/

/-- A load of block `j`, held at `v`, reads `v`. -/
theorem ld_chunk {α : Type} {Q : α → sProp 𝕄} (M : BufM) (c : Dev nD) (j : Fin 16) (v : Blk F) (off : Fin 2 → ℕ) (inb : ∀ a, off a + S256x1024.size a ≤ S4096x1024.size a)
    (hoff : off = ![256 * j.val, 0]) {hl : M.view.LoadsAt (Rect.unit (s := S4096x1024) off S256x1024.size inb).toLoadRect}
    {k : Blk F → Prog (TpuEff nD τ sig (Elt F) Λ₀ .tc) α} :
    chunk M c j v ⊢ iprop((chunk M c j v -∗ wpc c (k v) Q)
      -∗ wpc c (.op (.load M (Rect.unit (s := S4096x1024) off S256x1024.size inb).toLoadRect hl) k) Q) := by
  subst hoff
  unfold chunk
  iintro ⟨%f, %hf, H⟩ Hk
  iapply (wp_load_rect 𝒱₀ (c : Thread nD τ) none Set.univ (m := M) (r := rowRect j) (f := f) Finset.Subset.rfl) $$ H
  iintro H
  rw [hf]
  iapply Hk
  iexists f
  isplitr; · ipureintro; exact hf
  iexact H

/-- A store to block `j` leaves what was stored. -/
theorem st_chunk {α : Type} {Q : α → sProp 𝕄} (M : BufM) (c : Dev nD) (j : Fin 16) (v w : Blk F) (off : Fin 2 → ℕ) (inb : ∀ a, off a + S256x1024.size a ≤ S4096x1024.size a)
    (hoff : off = ![256 * j.val, 0])
    {hx : (M.access (Rect.unit (s := S4096x1024) off S256x1024.size inb)).Stores Finset.univ}
    {hm : (Finset.univ : Finset (Rect.unit (s := S4096x1024) off S256x1024.size inb).shape.Idx) = Finset.univ ∨ ∀ a, (Rect.unit (s := S4096x1024) off S256x1024.size inb).stride a = 1}
    {k : PUnit → Prog (TpuEff nD τ sig (Elt F) Λ₀ .tc) α} :
    chunk M c j v ⊢ iprop((chunk M c j w -∗ wpc c (k ⟨⟩) Q)
      -∗ wpc c (.op (.store M (Rect.unit (s := S4096x1024) off S256x1024.size inb) w Finset.univ hx hm) k) Q) := by
  subst hoff
  unfold chunk
  iintro ⟨%f, %hf, H⟩ Hk
  iapply (wp_store 𝒱₀ (c : Thread nD τ) none Set.univ (m := M) (r := rowRect j) (f := f) (Mk := Finset.univ)
    (S := (M.access (rowRect j)).set) Finset.Subset.rfl) $$ H
  iintro H
  iapply Hk
  iexists _
  isplitr
  · ipureintro; exact View.read_write_univ (v := M.access (rowRect j)) f w
  iexact H

/-! ## Loads and stores of 128 columns of a block -/

/-- Columns `128 h` to `128 h + 127` of a block. -/
def colOf (v : Blk F) (h : ℕ) : Vec F S256x128 .bf16 := fun y =>
  v (Shape.pair (d := S256x1024.size) (y 0) ⟨(128 * h + (y 1).val) % 1024, Nat.mod_lt _ (by decide)⟩)

/-- A block with columns `128 h` to `128 h + 127` replaced by `w`. -/
def setCol (v : Blk F) (h : ℕ) (w : Vec F S256x128 .bf16) : Blk F := fun x =>
  if (x 1).val / 128 = h then w (Shape.pair (d := S256x128.size) (x 0) ⟨(x 1).val % 128, Nat.mod_lt _ (by decide)⟩) else v x

/-- The rectangle of columns `128 h` to `128 h + 127` of block `j`. -/
def colRect (j : Fin 16) (h : ℕ) (hh : h < 8) : Rect S4096x1024 :=
  Rect.unit (s := S4096x1024) ![256 * j.val, 128 * h] S256x128.size (fun a => by
    have := j.isLt
    fin_cases a
    · show 256 * j.val + 256 ≤ 4096; omega
    · show 128 * h + 128 ≤ 1024; omega)

/-- Where an index of the columns' rectangle lies in the block's. -/
def colIn (h : ℕ) (y : S256x128.Idx) : S256x1024.Idx :=
  Shape.pair (d := S256x1024.size) (y 0) ⟨(128 * h + (y 1).val) % 1024, Nat.mod_lt _ (by decide)⟩

theorem colRect_emb (j : Fin 16) (h : ℕ) (hh : h < 8) (y : S256x128.Idx) : (colRect j h hh).emb y = (rowRect j).emb (colIn h y) := by
  have h1 : (y 1).val < 128 := (y 1).isLt
  refine funext fun a => Fin.ext ?_
  unfold colRect rowRect
  rw [Idealize.ShloMosaic.ValueKit.rect_emb_unit_val, Idealize.ShloMosaic.ValueKit.rect_emb_unit_val]
  fin_cases a
  · rfl
  · show 128 * h + (y 1).val = 0 + (128 * h + (y 1).val) % 1024; omega

theorem colRect_sub (M : BufM) (j : Fin 16) (h : ℕ) (hh : h < 8) :
    (M.access (colRect j h hh)).set ⊆ (M.access (rowRect j)).set := by
  intro i hi
  obtain ⟨y, rfl⟩ := View.exists_emb_of_mem_set _ hi
  show M.view.emb ((colRect j h hh).emb y) ∈ _
  rw [colRect_emb j h hh y]
  exact View.emb_mem_set (M.access (rowRect j)) (colIn h y)

omit [FloatOps F] in
theorem read_col (M : BufM) (c : Dev nD) (j : Fin 16) (h : ℕ) (hh : h < 8) (f : Buf (Elt F) ((M.access (rowRect j)).loc (c : Thread nD τ))) :
    (M.access (colRect j h hh)).read (Elt F) f = colOf ((M.access (rowRect j)).read (Elt F) f) h := by
  funext y
  show M.view.read (Elt F) f ((colRect j h hh).emb y) = M.view.read (Elt F) f ((rowRect j).emb (colIn h y))
  rw [colRect_emb j h hh y]

omit [FloatOps F] in
theorem write_col (M : BufM) (c : Dev nD) (j : Fin 16) (h : ℕ) (hh : h < 8) (f : Buf (Elt F) ((M.access (rowRect j)).loc (c : Thread nD τ)))
    (w : Vec F S256x128 .bf16) :
    (M.access (rowRect j)).read (Elt F) ((M.access (colRect j h hh)).write (Elt F) f w Finset.univ)
      = setCol ((M.access (rowRect j)).read (Elt F) f) h w := by
  funext x
  have h1 : (x 1).val < 1024 := (x 1).isLt
  unfold setCol
  split
  · rename_i hx
    have e : x = colIn h (Shape.pair (d := S256x128.size) (x 0) ⟨(x 1).val % 128, Nat.mod_lt _ (by decide)⟩) := by
      refine funext fun a => Fin.ext ?_
      fin_cases a
      · rfl
      · show (x 1).val = (128 * h + (x 1).val % 128) % 1024; omega
    conv_lhs => rw [e]
    exact (congrArg (fun i => M.view.read (Elt F) ((M.access (colRect j h hh)).write (Elt F) f w Finset.univ) i) (colRect_emb j h hh _).symm).trans
      (congrFun (View.read_write_univ (v := M.access (colRect j h hh)) f w) _)
  · rename_i hx
    have hn : (M.access (rowRect j)).emb x ∉ (M.access (colRect j h hh)).setOn Finset.univ := by
      intro hm
      obtain ⟨y, hy⟩ := View.exists_emb_of_mem_set (M.access (colRect j h hh)) hm
      have hy' : M.view.emb ((colRect j h hh).emb y) = M.view.emb ((rowRect j).emb x) := hy
      rw [colRect_emb j h hh y] at hy'
      have hy2 := (rowRect j).emb.injective (M.view.emb.injective hy')
      have hy1 : (y 1).val < 128 := (y 1).isLt
      have : (128 * h + (y 1).val) % 1024 = (x 1).val := congrArg (fun z : S256x1024.Idx => (z 1).val) hy2
      exact hx (by omega)
    rw [View.read_apply, View.read_apply, View.write_of_not_mem (v := M.access (colRect j h hh)) f w Finset.univ hn]

/-- A load of 128 columns of block `j`, held at `v`, reads those columns of `v`. -/
theorem ld_col {α : Type} {Q : α → sProp 𝕄} (M : BufM) (c : Dev nD) (j : Fin 16) (h : ℕ) (hh : h < 8) (v : Blk F) (off : Fin 2 → ℕ)
    (inb : ∀ a, off a + S256x128.size a ≤ S4096x1024.size a)
    (hoff : off = ![256 * j.val, 128 * h]) {hl : M.view.LoadsAt (Rect.unit (s := S4096x1024) off S256x128.size inb).toLoadRect}
    {k : Vec F S256x128 .bf16 → Prog (TpuEff nD τ sig (Elt F) Λ₀ .tc) α} :
    chunk M c j v ⊢ iprop((chunk M c j v -∗ wpc c (k (colOf v h)) Q)
      -∗ wpc c (.op (.load M (Rect.unit (s := S4096x1024) off S256x128.size inb).toLoadRect hl) k) Q) := by
  subst hoff
  unfold chunk
  iintro ⟨%f, %hf, H⟩ Hk
  iapply (wp_load_rect 𝒱₀ (c : Thread nD τ) none Set.univ (m := M) (r := colRect j h hh) (f := f) (colRect_sub M j h hh)) $$ H
  iintro H
  rw [read_col M c j h hh f, hf]
  iapply Hk
  iexists f
  isplitr; · ipureintro; exact hf
  iexact H

/-- A store to 128 columns of block `j` replaces those columns. -/
theorem st_col {α : Type} {Q : α → sProp 𝕄} (M : BufM) (c : Dev nD) (j : Fin 16) (h : ℕ) (hh : h < 8) (v : Blk F) (w : Vec F S256x128 .bf16) (off : Fin 2 → ℕ)
    (inb : ∀ a, off a + S256x128.size a ≤ S4096x1024.size a) (hoff : off = ![256 * j.val, 128 * h])
    {hx : (M.access (Rect.unit (s := S4096x1024) off S256x128.size inb)).Stores Finset.univ}
    {hm : (Finset.univ : Finset (Rect.unit (s := S4096x1024) off S256x128.size inb).shape.Idx) = Finset.univ ∨ ∀ a, (Rect.unit (s := S4096x1024) off S256x128.size inb).stride a = 1}
    {k : PUnit → Prog (TpuEff nD τ sig (Elt F) Λ₀ .tc) α} :
    chunk M c j v ⊢ iprop((chunk M c j (setCol v h w) -∗ wpc c (k ⟨⟩) Q)
      -∗ wpc c (.op (.store M (Rect.unit (s := S4096x1024) off S256x128.size inb) w Finset.univ hx hm) k) Q) := by
  subst hoff
  unfold chunk
  iintro ⟨%f, %hf, H⟩ Hk
  iapply (wp_store 𝒱₀ (c : Thread nD τ) none Set.univ (m := M) (r := colRect j h hh) (f := f) (Mk := Finset.univ) (colRect_sub M j h hh)) $$ H
  iintro H
  iapply Hk
  iexists _
  isplitr
  · ipureintro; exact (write_col M c j h hh f w).trans (by rw [hf])
  iexact H

/-! ## A whole buffer is its sixteen blocks -/

/-- The elements of block `j` of the buffer `M` on device `c`. -/
def blkSet (M : BufM) (c : Dev nD) (j : Fin 16) : Finset (Idx (M.view.loc (c : Thread nD τ))) := (M.access (rowRect j)).set

theorem blkSet_cover (M : BufM) (hM : M.view.set = Finset.univ) (c : Dev nD) : Finset.univ.biUnion (blkSet M c) = Finset.univ := by
  ext i
  simp only [Finset.mem_biUnion, Finset.mem_univ, true_and, iff_true]
  have hi : i ∈ M.view.set := by rw [hM]; exact Finset.mem_univ _
  obtain ⟨y, rfl⟩ := View.exists_emb_of_mem_set M.view hi
  have hy : y ∈ Finset.univ.biUnion (fun j : Fin 16 => (rowRect j).set) := by rw [rowRect_cover]; exact Finset.mem_univ _
  obtain ⟨j, -, hj⟩ := Finset.mem_biUnion.mp hy
  refine ⟨j, ?_⟩
  unfold blkSet
  rw [View.set_slice]
  exact Finset.mem_map_of_mem M.view.emb hj

theorem blkSet_disjoint (M : BufM) (c : Dev nD) : ∀ j ∈ (Finset.univ : Finset (Fin 16)), ∀ j' ∈ (Finset.univ : Finset (Fin 16)), j ≠ j' →
    Disjoint (blkSet M c j) (blkSet M c j') := fun j _ j' _ h => by
  unfold blkSet
  rw [View.set_slice, View.set_slice]
  exact (Finset.disjoint_map _).mpr (rowRect_disjoint h)

omit [FloatOps F] in
theorem any_of_blk (M : BufM) (c : Dev nD) (j : Fin 16) (f : Buf (Elt F) (M.view.loc (c : Thread nD τ))) :
    (M.view.loc (c : Thread nD τ) ↦[blkSet M c j]{fullShare} f : sProp 𝕄) ⊢ anyChunk M c j := by
  unfold anyChunk chunk blkSet
  iintro H
  iexists _, f
  isplitr; · ipureintro; rfl
  iexact H

omit [FloatOps F] in
theorem blk_of_any (M : BufM) (c : Dev nD) (j : Fin 16) :
    (anyChunk M c j : sProp 𝕄) ⊢ iprop(∃ f : Buf (Elt F) (M.view.loc (c : Thread nD τ)), M.view.loc (c : Thread nD τ) ↦[blkSet M c j]{fullShare} f) := by
  unfold anyChunk chunk blkSet
  iintro ⟨%v, %f, -, H⟩
  iexists f; iexact H

omit [FloatOps F] in
/-- A buffer held whole is held block by block. -/
theorem split_chunks (M : BufM) (hM : M.view.set = Finset.univ) (c : Dev nD) (f : Buf (Elt F) (M.view.loc (c : Thread nD τ))) :
    (M.view.loc (c : Thread nD τ) ↦{fullShare} f) ⊢ (bigSep Finset.univ fun j : Fin 16 => anyChunk M c j : sProp 𝕄) :=
  (Entails.of_eq (show (M.view.loc (c : Thread nD τ) ↦{fullShare} f : sProp 𝕄)
      = bigSep Finset.univ fun j : Fin 16 => (M.view.loc (c : Thread nD τ) ↦[blkSet M c j]{fullShare} f) from by
        rw [← pointsTo_biUnion Finset.univ (blkSet M c) (blkSet_disjoint M c), blkSet_cover M hM c])).trans
    (bigSep_mono fun j _ => any_of_blk M c j f)

omit [FloatOps F] in
/-- The sixteen blocks together are the buffer held whole. -/
theorem join_chunks (M : BufM) (hM : M.view.set = Finset.univ) (c : Dev nD) [Nonempty (Buf (Elt F) (M.view.loc (c : Thread nD τ)))] :
    (bigSep Finset.univ fun j : Fin 16 => anyChunk M c j) ⊢ (iprop(∃ f : Buf (Elt F) (M.view.loc (c : Thread nD τ)), M.view.loc (c : Thread nD τ) ↦{fullShare} f) : sProp 𝕄) := by
  refine (bigSep_mono fun j _ => blk_of_any M c j).trans ?_
  refine (BI.bigSep_exists_pi Finset.univ (fun (j : Fin 16) (f : Buf (Elt F) (M.view.loc (c : Thread nD τ))) => (M.view.loc (c : Thread nD τ) ↦[blkSet M c j]{fullShare} f : sProp 𝕄))).trans ?_
  iintro ⟨%fs, H⟩
  ihave H := (pointsTo_biUnion_join Finset.univ (blkSet M c) fs (Classical.arbitrary _) (blkSet_disjoint M c)) $$ H
  rw [blkSet_cover M hM c]
  icases H with ⟨%g, -, H⟩
  iexists g; iexact H

end Cert.KernelIdeal.Ring

end
-- ==== Proof.KernelIdeal.Sched.lean ====
/-
# 01_k — `Sched`: who signals whom, and what each signal hands over

Sixteen devices in a ring; `nxt c` is the device after `c`, `prv c` the one before, `back c k` the one `k` before.
Per device there is the runtime's barrier semaphore and sixty transfer semaphores, numbered 4 to 63:

* 4 + h: block `back c h` of the first buffer has left device `c` (h < 15). Handed back: that block.
* 19 + h: block `back c (h + 1)` of the first buffer has arrived at device `c` from `prv c`. Handed over: that block.
* 34 + s: block `s` of the second buffer has left device `c` (s < 15). Handed back: that block.
* 49 + s: block `s + 1` of the second buffer has arrived at device `c` from `prv c`. Handed over: that block.

The barrier of device `c` is signalled once by each neighbour. `nxt c`, signalling, hands `c` every block of its own two
buffers that `c` is going to write; `prv c` hands over nothing. Every semaphore is used in one round only.

What block `j` of the first buffer holds when it travels is `xv j`; what block `s` of the second buffer holds when it
leaves device `c` is `sv c s`. This module is the same for all values `xv` and `sv`.
-/
module

public import proofs.«01_k».proof.Proof.KernelIdeal.Chunks

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

set_option backward.proofsInPublic true in
/-- The device after `c`. -/
def nxt (c : Dev nD) : Dev nD := ⟨(c.val + 1) % 16, Nat.mod_lt _ (by decide)⟩
set_option backward.proofsInPublic true in
/-- The device `k` places before `c`. -/
def back (c : Dev nD) (k : ℕ) : Dev nD := ⟨(c.val + 15 * k) % 16, Nat.mod_lt _ (by decide)⟩
/-- The device before `c`. -/
abbrev prv (c : Dev nD) : Dev nD := back c 1
set_option backward.proofsInPublic true in
/-- Block number `n` of the second buffer. -/
def slot (n : ℕ) : Fin 16 := ⟨n % 16, Nat.mod_lt _ (by decide)⟩

theorem dev_lt (c : Dev nD) : c.val < 16 := c.isLt

theorem prv_nxt (c : Dev nD) : prv (nxt c) = c := by
  have := dev_lt c; apply Fin.ext; simp only [prv, back, nxt]; omega
theorem nxt_prv (c : Dev nD) : nxt (prv c) = c := by
  have := dev_lt c; apply Fin.ext; simp only [prv, back, nxt]; omega
theorem back_nxt (c : Dev nD) (k : ℕ) : back (nxt c) (k + 1) = back c k := by
  have := dev_lt c; apply Fin.ext; simp only [back, nxt]; omega
theorem back_prv (c : Dev nD) (k : ℕ) : back (prv c) k = back c (k + 1) := by
  have := dev_lt c; apply Fin.ext; simp only [prv, back]; omega
theorem back_zero (c : Dev nD) : back c 0 = c := by
  have := dev_lt c; apply Fin.ext; simp only [back]; omega
theorem nxt_ne_prv (c : Dev nD) : nxt c ≠ prv c := by
  have := dev_lt c; intro h; have := congrArg Fin.val h; simp only [prv, back, nxt] at this; omega

/-- The ring as a permutation of the devices. -/
def ring : Dev nD ≃ Dev nD := ⟨nxt, prv, prv_nxt, nxt_prv⟩

/-! ## The buffers and the semaphores -/

/-- The buffer the input blocks go around in. -/
abbrev xM : BufM := Memref.whole cc0_scratch0
/-- The buffer the partial sums go around in. -/
abbrev rM : BufM := Memref.whole cc0_scratch1

/-- The runtime's barrier semaphore. -/
abbrev barS : Sem sig := (SemArray.scalar (sig.barrier 0 rfl) : Sems sig S_).sem
/-- Transfer semaphore number `n`. -/
def dsem (n : ℕ) : DmaSem sig := (⟨n % 65, Nat.mod_lt _ (by decide)⟩ : Fin 65)
abbrev barCell (c : Dev nD) : GSem nD τ sig := ((c : Thread nD τ), .reg barS)
/-- Transfer semaphore `n` of device `c`. -/
abbrev cell (c : Dev nD) (n : ℕ) : GSem nD τ sig := ((c : Thread nD τ), .dma (dsem n))

/-- What the transfer of one block credits its semaphores by. -/
abbrev N : ℕ := (xM.access (rowRect 0)).dmaCredit
theorem N_pos : 0 < N := View.dmaCredit_pos _ (by decide)
theorem N_x (j : Fin 16) : (xM.access (rowRect j)).dmaCredit = N := rfl
theorem N_r (j : Fin 16) : (rM.access (rowRect j)).dmaCredit = N := rfl

theorem dsem_val {n : ℕ} (h : n < 65) : (dsem n).val = n := Nat.mod_eq_of_lt h

theorem dsem_inj {a b : ℕ} (ha : a < 65) (hb : b < 65) (h : dsem a = dsem b) : a = b := by
  have := congrArg (fun q : DmaSem sig => q.val) h
  rwa [dsem_val ha, dsem_val hb] at this

/-- An entry of one of the four arrays of fifteen semaphores, as the kernel names it, by its number. -/
theorem ssem (base : ℕ) (hb : base + S15.numel ≤ 65) (off : Fin 1 → ℕ) (inb : ∀ a, off a + S1.size a ≤ S15.size a) (h : ℕ) (hh : h < 15) (hoff : off = ![h]) :
    (((SemArray.consecutive base S15 hb : DmaSems sig S15).slice (Rect.unit (s := S15) off S1.size inb)).squeeze S_ squeezes_S1_S_).sem = dsem (base + h) := by
  subst hoff
  have hb' : base + 15 ≤ 65 := hb
  apply Fin.ext
  rw [dsem_val (by omega)]
  have e : ∀ i : S15.Idx, (S15.rowMajor i).val = (i 0).val := by decide
  refine congrArg (base + ·) ((e _).trans ?_)
  have hz : ∀ z : Fin (S1.size 0), z.val = 0 := fun z => Nat.lt_one_iff.mp z.isLt
  show h + 1 * Fin.val (n := S1.size 0) _ = h
  rw [hz, Nat.mul_zero, Nat.add_zero]

/-! ## The schedule -/

section Sched

variable (xv : Dev nD → Blk F) (sv : Dev nD → ℕ → Blk F)

/-- The blocks of device `d`'s two buffers that the device before it writes. -/
def landing (d : Dev nD) : sProp 𝕄 :=
  iprop((bigSep (Finset.Ico 0 15) fun h => anyChunk xM d (back d (h + 1))) ∗ (bigSep (Finset.Ico 0 15) fun s => anyChunk rM d (slot (s + 1))))

/-- What transfer semaphore `n` of device `c` hands over. -/
def dmaPay (c : Dev nD) (n : ℕ) : sProp 𝕄 :=
  if n < 19 then chunk xM c (back c (n - 4)) (xv (back c (n - 4)))
  else if n < 34 then chunk xM c (back c (n - 19 + 1)) (xv (back c (n - 19 + 1)))
  else if n < 49 then chunk rM c (slot (n - 34)) (sv c (n - 34))
  else chunk rM c (slot (n - 49 + 1)) (sv (prv c) (n - 49))

/-- What a semaphore hands over. -/
def pay (c : Dev nD) (sm : SemLoc sig) (d : Bool) : sProp 𝕄 :=
  match sm with
  | .reg _ => if d then landing (nxt c) else iprop(emp)
  | .dma q => dmaPay xv sv c q.val

abbrev IsBar (g : GSem nD τ sig) : Prop := g.1.2 = .tc ∧ g.2 = .reg barS

/-- A transfer semaphore of the ring. -/
def ringNo (sm : SemLoc sig) : Prop := match sm with | .reg _ => False | .dma q => 4 ≤ q.val ∧ q.val < 64

instance (sm : SemLoc sig) : Decidable (ringNo sm) := by unfold ringNo; cases sm <;> infer_instance

abbrev IsXfer (g : GSem nD τ sig) : Prop := g.1.2 = .tc ∧ ringNo g.2

/-- One round: a barrier has the two duties `false` and `true` of one unit each, a transfer semaphore the one duty
    `false` of a block's credit. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := pay xv sv g.1.1 g.2 d
  amount_pos g _ _ _ := by
    by_cases h : g.2 = .reg barS
    · rw [if_pos h]; exact Nat.one_pos
    · rw [if_neg h]; exact N_pos

omit [FloatOps F] in
instance landing_storable (d : Dev nD) : BI.Storable (upEmb : UEmb _ 𝕄) (landing (F := F) d) := by
  unfold landing; infer_instance

omit [FloatOps F] in
instance dmaPay_storable (c : Dev nD) (n : ℕ) : BI.Storable (upEmb : UEmb _ 𝕄) (dmaPay (F := F) xv sv c n) := by
  unfold dmaPay; (repeat' split) <;> infer_instance

omit [FloatOps F] in
instance ringRd_payload_storable (g : GSem nD τ sig) (r : ℕ) (d : Bool) :
    BI.Storable (upEmb : UEmb _ 𝕄) ((ringRd (F := F) xv sv).payload g r d) := by
  show BI.Storable upEmb (pay xv sv g.1.1 g.2 d)
  unfold pay
  (repeat' split) <;> infer_instance

variable (c : Dev nD)

theorem dma_ne_bar (q : DmaSem sig) : (SemLoc.dma q : SemLoc sig) ≠ .reg barS := fun h => by cases h

theorem ringNo_dsem {n : ℕ} (h4 : 4 ≤ n) (h64 : n < 64) : ringNo (.dma (dsem n)) := by
  show 4 ≤ (dsem n).val ∧ (dsem n).val < 64
  rw [dsem_val (by omega)]; exact ⟨h4, h64⟩

omit [FloatOps F] in
theorem duties_bar : (ringRd (F := F) xv sv).duties (barCell c) 0 = Finset.univ := by dsimp only [ringRd]; exact if_pos ⟨rfl, rfl, rfl⟩
omit [FloatOps F] in
theorem duties_dma {n : ℕ} (h4 : 4 ≤ n) (h64 : n < 64) : (ringRd (F := F) xv sv).duties (cell c n) 0 = {false} := by
  dsimp only [ringRd]; rw [if_neg (fun h => dma_ne_bar _ h.2.2)]; exact if_pos ⟨rfl, rfl, ringNo_dsem h4 h64⟩
omit [FloatOps F] in
theorem duties_later (g : GSem nD τ sig) : ∀ r, 1 ≤ r → (ringRd (F := F) xv sv).duties g r = ∅ :=
  fun r hr => by dsimp only [ringRd]; rw [if_neg fun h => by omega, if_neg fun h => by omega]
omit [FloatOps F] in
theorem amount_bar (d : Bool) : (ringRd (F := F) xv sv).amount (barCell c) 0 d = 1 := by dsimp only [ringRd]; exact if_pos rfl
omit [FloatOps F] in
theorem amount_dma (n : ℕ) (d : Bool) : (ringRd (F := F) xv sv).amount (cell c n) 0 d = N := by dsimp only [ringRd]; exact if_neg (dma_ne_bar _)
omit [FloatOps F] in
theorem expect_bar : (ringRd (F := F) xv sv).expect (barCell c) 0 = 2 := by
  unfold Schedule.expect Schedule.amountOf
  rw [duties_bar, Finset.sum_congr rfl fun d _ => amount_bar xv sv c d, Finset.sum_const, Finset.card_univ, Fintype.card_bool, smul_eq_mul]
omit [FloatOps F] in
theorem expect_dma {n : ℕ} (h4 : 4 ≤ n) (h64 : n < 64) : (ringRd (F := F) xv sv).expect (cell c n) 0 = N := by
  unfold Schedule.expect Schedule.amountOf; rw [duties_dma xv sv c h4 h64, Finset.sum_singleton, amount_dma]
omit [FloatOps F] in
theorem payload_dma {n : ℕ} (h64 : n < 64) (d : Bool) : (ringRd (F := F) xv sv).payload (cell c n) 0 d = dmaPay xv sv c n := by
  show dmaPay xv sv c (dsem n).val = _; rw [dsem_val (by omega)]
omit [FloatOps F] in
theorem rest_bar : bigSep ((ringRd (F := F) xv sv).duties (barCell c) 0 \ ∅) (fun d => (ringRd (F := F) xv sv).payload (barCell c) 0 d) = iprop(emp ∗ landing (nxt c)) := by
  rw [Finset.sdiff_empty, duties_bar, bigSep_univ_eq_bigSepL [false, true] (by decide) (by decide), bigSepL_cons_cons, bigSepL_singleton]
  rfl
omit [FloatOps F] in
theorem rest_dma {n : ℕ} (h4 : 4 ≤ n) (h64 : n < 64) :
    bigSep ((ringRd (F := F) xv sv).duties (cell c n) 0 \ ∅) (fun d => (ringRd (F := F) xv sv).payload (cell c n) 0 d) = dmaPay xv sv c n := by
  rw [Finset.sdiff_empty, duties_dma xv sv c h4 h64, bigSep_singleton, payload_dma xv sv c h64]

/-! What each of the four kinds hands over. -/

omit [FloatOps F] in
theorem pay_agS (h : ℕ) (hh : h < 15) : dmaPay xv sv c (4 + h) = chunk xM c (back c h) (xv (back c h)) := by
  unfold dmaPay; rw [if_pos (by omega), show 4 + h - 4 = h by omega]
omit [FloatOps F] in
theorem pay_agR (h : ℕ) (hh : h < 15) : dmaPay xv sv c (19 + h) = chunk xM c (back c (h + 1)) (xv (back c (h + 1))) := by
  unfold dmaPay; rw [if_neg (by omega), if_pos (by omega), show 19 + h - 19 = h by omega]
omit [FloatOps F] in
theorem pay_rsS (s : ℕ) (hs : s < 15) : dmaPay xv sv c (34 + s) = chunk rM c (slot s) (sv c s) := by
  unfold dmaPay; rw [if_neg (by omega), if_neg (by omega), if_pos (by omega), show 34 + s - 34 = s by omega]
omit [FloatOps F] in
theorem pay_rsR (s : ℕ) (hs : s < 15) : dmaPay xv sv c (49 + s) = chunk rM c (slot (s + 1)) (sv (prv c) s) := by
  unfold dmaPay; rw [if_neg (by omega), if_neg (by omega), if_neg (by omega), show 49 + s - 49 = s by omega]

end Sched

/-! ## What each core owes; the levels -/

/-- What device `c` owes when it has still to send the first buffer's hops from `n` on and the second's from `k` on. -/
def owed (c : Dev nD) (n k : ℕ) : CellTallies nD τ sig Unit :=
  (∑ h ∈ Finset.Ico n 15, tallyAt (cell (nxt c) (19 + h)) () N) + (∑ s ∈ Finset.Ico k 15, tallyAt (cell (nxt c) (49 + s)) () N)

theorem owed_ag (c : Dev nD) (n k : ℕ) (hn : n < 15) : owed c n k = owed c (n + 1) k + tallyAt (cell (nxt c) (19 + n)) () N := by
  unfold owed; rw [Finset.sum_eq_sum_Ico_succ_bot hn]; abel
theorem owed_rs (c : Dev nD) (n k : ℕ) (hk : k < 15) : owed c n k = owed c n (k + 1) + tallyAt (cell (nxt c) (49 + k)) () N := by
  unfold owed; rw [Finset.sum_eq_sum_Ico_succ_bot hk]; abel
theorem owed_done (c : Dev nD) : owed c 15 15 = 0 := by unfold owed; simp

/-- At launch device `c` also owes both neighbours' barriers a unit; the second signal first, -/
def O₁ (c : Dev nD) : CellTallies nD τ sig Unit := owed c 0 0 + tallyAt (barCell (nxt c)) () 1
/-- then the first. -/
def O₀ (c : Dev nD) : CellTallies nD τ sig Unit := O₁ c + tallyAt (barCell (prv c)) () 1

def L (g : GSem nD τ sig) : Finset Unit := if g.1.2 = .tc then {()} else ∅

/-- The level of a semaphore: barriers at 1, the arrival of hop `h` of the first buffer at `2 h + 2`, of hop `s` of the
    second at `2 s + 5`, every other at 0. A core waits only at a level below all it owes. -/
def lvS (sm : SemLoc sig) : ℕ :=
  match sm with
  | .reg _ => 1
  | .dma q => if q.val < 19 then 0 else if q.val < 34 then 2 * (q.val - 19) + 2 else if q.val < 49 then 0
      else if q.val < 64 then 2 * (q.val - 49) + 5 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_agR (h : ℕ) (hh : h < 15) : lvS (.dma (dsem (19 + h))) = 2 * h + 2 := by
  unfold lvS; dsimp only; rw [dsem_val (by omega), if_neg (by omega), if_pos (by omega)]; omega
theorem lv_rsR (s : ℕ) (hs : s < 15) : lvS (.dma (dsem (49 + s))) = 2 * s + 5 := by
  unfold lvS; dsimp only; rw [dsem_val (by omega), if_neg (by omega), if_neg (by omega), if_neg (by omega), if_pos (by omega)]; omega
theorem lv_low (n : ℕ) (h : n < 19 ∨ (34 ≤ n ∧ n < 49) ∨ n = 64) : lvS (.dma (dsem n)) = 0 := by
  unfold lvS; dsimp only; rw [dsem_val (by omega)]
  rcases h with h | ⟨h, h'⟩ | h
  · rw [if_pos h]
  · rw [if_neg (by omega), if_neg (by omega), if_pos h']
  · rw [if_neg (by omega), if_neg (by omega), if_neg (by omega), if_neg (by omega)]

theorem sum_pos {ι : Type} (s : Finset ι) (f : ι → CellTallies nD τ sig Unit) (g : GSem nD τ sig) (u : Unit)
    (h : 0 < (∑ i ∈ s, f i) g u) : ∃ i ∈ s, 0 < f i g u := by
  classical
  induction s using Finset.induction_on with
  | empty => simp at h
  | insert a s ha ih =>
    rw [Finset.sum_insert ha, Pi.add_apply, Finsupp.add_apply] at h
    rcases Nat.eq_zero_or_pos (f a g u) with h0 | h0
    · obtain ⟨i, hi, hp⟩ := ih (by omega)
      exact ⟨i, Finset.mem_insert_of_mem hi, hp⟩
    · exact ⟨a, Finset.mem_insert_self _ _, h0⟩

theorem tallyAt_pos {g g' : GSem nD τ sig} {u : Unit} {n : ℕ} (h : 0 < tallyAt g' () n g u) : g = g' := by
  by_contra hn
  rw [tallyAt_apply, if_neg (fun h' => hn h'.1)] at h
  exact Nat.lt_irrefl 0 h

/-- What is owed is owed to an arrival still to come. -/
theorem owed_pos {c : Dev nD} {n k : ℕ} {g : GSem nD τ sig} {u : Unit} (h : 0 < owed c n k g u) :
    (∃ h', n ≤ h' ∧ h' < 15 ∧ g = cell (nxt c) (19 + h')) ∨ (∃ s, k ≤ s ∧ s < 15 ∧ g = cell (nxt c) (49 + s)) := by
  unfold owed at h
  rw [Pi.add_apply, Finsupp.add_apply] at h
  rcases Nat.eq_zero_or_pos ((∑ h ∈ Finset.Ico n 15, tallyAt (cell (nxt c) (19 + h)) () N) g u) with h0 | h0
  · right
    obtain ⟨s, hs, hp⟩ := sum_pos _ _ _ _ (show 0 < (∑ s ∈ Finset.Ico k 15, tallyAt (cell (nxt c) (49 + s)) () N) g u by omega)
    exact ⟨s, (Finset.mem_Ico.mp hs).1, (Finset.mem_Ico.mp hs).2, tallyAt_pos hp⟩
  · left
    obtain ⟨s, hs, hp⟩ := sum_pos _ _ _ _ h0
    exact ⟨s, (Finset.mem_Ico.mp hs).1, (Finset.mem_Ico.mp hs).2, tallyAt_pos hp⟩

omit [FloatOps F] in
/-- A wait on a semaphore of device `c` below every arrival it still owes. -/
theorem mayWait_owed (c : Dev nD) (sm : SemLoc sig) (n k : ℕ) (hn : n < 15 → lvS sm < 2 * n + 2) (hk : k < 15 → lvS sm < 2 * k + 5) :
    (levAts L lv : sProp 𝕄) ⊢ MayWait (c : Thread nD τ) sm () (owed c n k) :=
  MayOwe.of_cut (L := L) (lev := lv) (lvS sm) (fun p hp => by rw [Finset.mem_singleton.mp hp, L_tc]; exact Finset.mem_singleton_self _)
    (fun g u hg => by rcases owed_pos hg with ⟨_, _, _, rfl⟩ | ⟨_, _, _, rfl⟩ <;> exact Finset.mem_singleton_self _)
    (fun p hp => by rw [Finset.mem_singleton.mp hp]; exact le_refl _)
    (fun g u hg => by
      rcases owed_pos hg with ⟨h, h1, h2, rfl⟩ | ⟨s, h1, h2, rfl⟩
      · show lvS sm < lvS (.dma (dsem (19 + h))); rw [lv_agR h h2]; have := hn (by omega); omega
      · show lvS sm < lvS (.dma (dsem (49 + s))); rw [lv_rsR s h2]; have := hk (by omega); omega)

theorem O₀_pos {c : Dev nD} {g : GSem nD τ sig} {u : Unit} (h : 0 < O₀ c g u) : u ∈ L g ∧ 0 < lv g u := by
  unfold O₀ O₁ at h
  rw [Pi.add_apply, Finsupp.add_apply, Pi.add_apply, Finsupp.add_apply] at h
  rcases Nat.eq_zero_or_pos (tallyAt (barCell (prv c)) () 1 g u) with h0 | h0
  · rcases Nat.eq_zero_or_pos (tallyAt (barCell (nxt c)) () 1 g u) with h1 | h1
    · rcases owed_pos (show 0 < owed c 0 0 g u by omega) with ⟨i, h1, h2, rfl⟩ | ⟨s, h1, h2, rfl⟩
      · exact ⟨Finset.mem_singleton_self _, by show 0 < lvS (.dma (dsem (19 + i))); rw [lv_agR i h2]; omega⟩
      · exact ⟨Finset.mem_singleton_self _, by show 0 < lvS (.dma (dsem (49 + s))); rw [lv_rsR s h2]; omega⟩
    · rw [tallyAt_pos h1]; exact ⟨Finset.mem_singleton_self _, Nat.one_pos⟩
  · rw [tallyAt_pos h0]; exact ⟨Finset.mem_singleton_self _, Nat.one_pos⟩

omit [FloatOps F] in
/-- The waits of the staging transfers, before and after the body. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_pos hg).1)
      (fun p hp => by rw [Finset.mem_singleton.mp hp]; exact le_of_eq hq)
      (fun g u hg => (O₀_pos hg).2)
  · rw [MayWait_zero]; iintro -; iempintro

/-! ## The semaphores' invariants, shared by all devices -/

/-- The semaphores of a device that the ring uses: the sixty of the transfers and the barrier. -/
abbrev csem : Fin 61 → SemLoc sig := fun i => if i.val < 60 then .dma (dsem (4 + i.val)) else .reg barS
abbrev kcell (ck : Dev nD × Fin 61) : GSem nD τ sig := ((ck.1 : Thread nD τ), csem ck.2)

section Records

variable (xv : Dev nD → Blk F) (sv : Dev nD → ℕ → Blk F)

/-- Every device's semaphores' invariants, under the names `K`, and that each is at its round. -/
def records (K : Dev nD × Fin 61 → ℕ) : sProp 𝕄 :=
  iprop((bigSep Finset.univ fun ck : Dev nD × Fin 61 => cellInv ER (ringRd xv sv) (K ck) (kcell ck))
    ∗ bigSep Finset.univ fun ck : Dev nD × Fin 61 => reached ER (kcell ck) 0)

omit [FloatOps F] in
instance records_persistent (K : Dev nD × Fin 61 → ℕ) : BI.Persistent (records (F := F) xv sv K) := by unfold records; infer_instance

/-- One semaphore's invariant and that it is at its round. -/
def rec1 (g : GSem nD τ sig) : sProp 𝕄 := iprop((∃ κ : ℕ, cellInv ER (ringRd xv sv) κ g) ∗ reached ER g 0)

omit [FloatOps F] in
theorem rec_at (K : Dev nD × Fin 61 → ℕ) (ck : Dev nD × Fin 61) : (records xv sv K : sProp 𝕄) ⊢ rec1 xv sv (kcell ck) := by
  have h1 : (bigSep Finset.univ fun ck : Dev nD × Fin 61 => cellInv ER (ringRd xv sv) (K ck) (kcell ck) : sProp 𝕄) ⊢ iprop(∃ κ : ℕ, cellInv ER (ringRd xv sv) κ (kcell ck)) :=
    (bigSep_elim (Finset.mem_univ ck)).trans (exists_intro (Φ := fun κ : ℕ => (cellInv ER (ringRd xv sv) κ (kcell ck) : sProp 𝕄)) (K ck))
  have h2 : (bigSep Finset.univ fun ck : Dev nD × Fin 61 => reached ER (kcell ck) 0 : sProp 𝕄) ⊢ reached ER (kcell ck) 0 :=
    bigSep_elim (Finset.mem_univ ck)
  exact BIClass.sep_mono h1 h2

omit [FloatOps F] in
theorem rec_dma (K : Dev nD × Fin 61 → ℕ) (d : Dev nD) (n : ℕ) (h4 : 4 ≤ n) (h64 : n < 64) : records xv sv K ⊢ rec1 xv sv (cell d n) := by
  have e : kcell (d, ⟨n - 4, by omega⟩) = cell d n := by
    show ((d : Thread nD τ), csem ⟨n - 4, by omega⟩) = _
    unfold csem
    rw [if_pos (by show n - 4 < 60; omega)]
    show ((d : Thread nD τ), SemLoc.dma (dsem (4 + (n - 4)))) = _
    rw [show 4 + (n - 4) = n by omega]
  rw [← e]; exact rec_at xv sv K _

omit [FloatOps F] in
theorem rec_bar (K : Dev nD × Fin 61 → ℕ) (d : Dev nD) : records xv sv K ⊢ rec1 xv sv (barCell d) :=
  rec_at xv sv K (d, ⟨60, by decide⟩)

end Records

end Cert.KernelIdeal.Ring

end
-- ==== Proof.KernelIdeal.Steps.lean ====
/-
# 01_k — `Steps`: one signal, one transfer, one wait

The rules for the three effects by which the devices talk, in the form the kernel's body uses them: a transfer of a block
to the next device, and a wait on a transfer semaphore, which is then put away at zero.
-/
module

public import proofs.«01_k».proof.Proof.KernelIdeal.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (xv : Dev nD → Blk F) (sv : Dev nD → ℕ → Blk F) (K : Dev nD × Fin 61 → ℕ)

/-- Device `c` owes `O`. -/
def owe (c : Dev nD) (O : CellTallies nD τ sig Unit) : sProp 𝕄 := iprop(∃ W : Waits sig Unit, owes (c : Thread nD τ) O W)

set_option maxHeartbeats 1000000 in
/-- The transfer of block `js` of the buffer `M` to the next device's block `jd`, announced on semaphore `n₁` here and
    `n₂` there. -/
theorem send_step (c : Dev nD) {α : Type} {Q : α → sProp 𝕄} (M : BufM) (js jd : Fin 16) (v : Blk F) (n₁ n₂ : ℕ)
    (h₁ : 4 ≤ n₁ ∧ n₁ < 64) (h₂ : 4 ≤ n₂ ∧ n₂ < 64)
    (hp₁ : dmaPay xv sv c n₁ = chunk M c js v) (hp₂ : dmaPay xv sv (nxt c) n₂ = chunk M (nxt c) jd v)
    (hN : ∀ j, (M.access (rowRect j)).dmaCredit = N)
    (n : Dev nD) (hn : n = nxt c) (q₁ q₂ : DmaSem sig) (hq₁ : q₁ = dsem n₁) (hq₂ : q₂ = dsem n₂)
    (offs offd : Fin 2 → ℕ) (inbs : ∀ a, offs a + S256x1024.size a ≤ S4096x1024.size a) (inbd : ∀ a, offd a + S256x1024.size a ≤ S4096x1024.size a)
    (hoffs : offs = ![256 * js.val, 0]) (hoffd : offd = ![256 * jd.val, 0])
    (O O' : CellTallies nD τ sig Unit) (hO : O' = O + tallyAt (cell (nxt c) n₂) () N)
    {hsc : (M.slice (Rect.unit (s := S4096x1024) offd S256x1024.size inbd) (fun _ => rfl) : Memref sig (Dev.tc n : Thread nD τ).2.kind .vmem S256x1024 .bf16).view.ref.isScScratch = false}
    {hsrc : (M.slice (Rect.unit (s := S4096x1024) offs S256x1024.size inbs) (fun _ => rfl) : Memref sig .tc .vmem S256x1024 .bf16).view.WordExact}
    {hdst : (M.slice (Rect.unit (s := S4096x1024) offd S256x1024.size inbd) (fun _ => rfl) : Memref sig .tc .vmem S256x1024 .bf16).view.WordExact}
    {hsem : DmaTarget.Typed .vmem (.dma q₂) (.remote (Dev.tc n : Thread nD τ) (M.slice (Rect.unit (s := S4096x1024) offd S256x1024.size inbd) (fun _ => rfl) : Memref sig .tc .vmem S256x1024 .bf16) (.dma q₁) hsc)}
    {k : PUnit → Prog (TpuEff nD τ sig (Elt F) Λ₀ .tc) α} :
    iprop(records xv sv K ∗ chunk M c js v ∗ anyChunk M (nxt c) jd ∗ owe c O'
        ∗ dutyTok ER (cell c n₁) 0 false ∗ dutyTok ER (cell (nxt c) n₂) 0 false)
      ⊢ iprop(((cred (tallyAt (cell c n₁) () N) ∗ owe c O) -∗ wpc c (k ⟨⟩) Q)
        -∗ wpc c (.op (.enqueueDma (M.slice (Rect.unit (s := S4096x1024) offs S256x1024.size inbs) (fun _ => rfl))
            (.remote (Dev.tc n : Thread nD τ) (M.slice (Rect.unit (s := S4096x1024) offd S256x1024.size inbd) (fun _ => rfl)) (.dma q₁) hsc) (.dma q₂) hsrc hdst hsem) k) Q) := by
  subst hn hq₁ hq₂ hoffs hoffd
  iintro ⟨#HK, Hs, Hd, Ho, Ht₁, Ht₂⟩ Hk
  ihave HR₁ := (rec_dma xv sv K c n₁ h₁.1 h₁.2) $$ HK
  ihave HR₂ := (rec_dma xv sv K (nxt c) n₂ h₂.1 h₂.2) $$ HK
  unfold rec1 owe
  icases HR₁ with ⟨⟨%κ₁, #HI₁⟩, #Hr₁⟩
  icases HR₂ with ⟨⟨%κ₂, #HI₂⟩, #Hr₂⟩
  icases Ho with ⟨%W, Ho⟩
  have eqs : (chunk M c js v : sProp 𝕄) = iprop(∃ f : Buf (Elt F) ((M.access (rowRect js)).loc (c : Thread nD τ)), ⌜(M.access (rowRect js)).read (Elt F) f = v⌝
    ∗ ((M.access (rowRect js)).loc (c : Thread nD τ) ↦[(M.access (rowRect js)).set]{fullShare} f)) := rfl
  ihave Hs' := (Entails.of_eq eqs) $$ Hs
  icases Hs' with ⟨%fs, %hfs, Hs⟩
  unfold anyChunk
  icases Hd with ⟨%vd, Hd⟩
  have eqd : (chunk M (nxt c) jd vd : sProp 𝕄) = iprop(∃ f : Buf (Elt F) ((M.access (rowRect jd)).loc (nxt c : Thread nD τ)), ⌜(M.access (rowRect jd)).read (Elt F) f = vd⌝
    ∗ ((M.access (rowRect jd)).loc (nxt c : Thread nD τ) ↦[(M.access (rowRect jd)).set]{fullShare} f)) := rfl
  ihave Hd' := (Entails.of_eq eqd) $$ Hd
  icases Hd' with ⟨%fd, %hfd, Hd⟩
  iapply (Rounds.wp_send_pointsTo 𝒱₀ ER (ringRd xv sv) (c : Thread nD τ) none (κ₁ := κ₁) (κ₂ := κ₂)
    (s := S256x1024) (c' := (nxt c : Thread nD τ)) (sS := .dma (dsem n₁)) (sem := .dma (dsem n₂)) (src := M.slice (rowRect js) (fun _ => rfl)) (dst := M.slice (rowRect jd) (fun _ => rfl))
    (r₁ := 0) (r₂ := 0) (d₁ := false) (d₂ := false) (fs := fs) (fd := fd)
    (by rw [duties_dma xv sv c h₁.1 h₁.2]; exact Finset.mem_singleton_self _) (by rw [duties_dma xv sv (nxt c) h₂.1 h₂.2]; exact Finset.mem_singleton_self _)
    () () N (hN jd) (amount_dma xv sv c n₁ false) (amount_dma xv sv (nxt c) n₂ false) O hO (W := W)
    (by
      rw [payload_dma xv sv c h₁.2, hp₁, eqs]
      iintro H
      iexists fs
      isplitr; · ipureintro; exact hfs
      iexact H)
    (by
      rw [payload_dma xv sv (nxt c) h₂.2, hp₂]
      unfold chunk
      iintro H
      iexists _
      isplitr
      · ipureintro
        exact (View.read_write_univ (v := M.access (rowRect jd)) fd _).trans hfs
      iexact H)) $$ [Hs Hd Ho Ht₁ Ht₂]
  · isplitr; · iexact HI₁
    isplitr; · iexact HI₂
    isplitl [Hs]; · iexact Hs
    isplitl [Hd]; · iexact Hd
    isplitl [Ho]; · iexact Ho
    isplitl [Ht₁]; · iexact Ht₁
    isplitr; · iexact Hr₁
    isplitl [Ht₂]; · iexact Ht₂
    iexact Hr₂
  iintro ⟨Hc, Ho⟩
  iapply Hk
  isplitl [Hc]; · iexact Hc
  iexists W; iexact Ho

/-- A wait on transfer semaphore `n`: what it hands over, and the semaphore at zero for good. -/
theorem wait_step (c : Dev nD) {α : Type} {Q : α → sProp 𝕄} (n : ℕ) (h : 4 ≤ n ∧ n < 64) (P : sProp 𝕄) (hP : dmaPay xv sv c n = P)
    (q : DmaSem sig) (hq : q = dsem n) (src dst : Memref sig .tc .vmem S256x1024 .bf16) (hd : dst.view.dmaCredit = N)
    (O : CellTallies nD τ sig Unit) (hW : (levAts L lv : sProp 𝕄) ⊢ MayWait (c : Thread nD τ) (.dma (dsem n)) () O)
    {hsrc : src.view.WordExact} {hdst : dst.view.WordExact}
    {k : PUnit → Prog (TpuEff nD τ sig (Elt F) Λ₀ .tc) α} :
    iprop(records xv sv K ∗ levAts L lv ∗ cred (tallyAt (cell c n) () N) ∗ owe c O ∗ atPos ER (cell c n) 0 ∅ 0)
      ⊢ iprop(((P ∗ owe c O ∗ semVal (cell c n) 0) -∗ wpc c (k ⟨⟩) Q)
        -∗ wpc c (.op (.waitDma2 q src dst hsrc hdst) k) Q) := by
  subst hq hP
  iintro ⟨#HK, #Hlev, Hc, Ho, Hat⟩ Hk
  ihave HR := (rec_dma xv sv K c n h.1 h.2) $$ HK
  unfold rec1 owe
  icases HR with ⟨⟨%κ, #HI⟩, #Hr⟩
  icases Ho with ⟨%W, Ho⟩
  iapply (Rounds.wp_wait_rest_token 𝒱₀ ER (ringRd xv sv) (c : Thread nD τ) none (κ := κ)
      (wpE_waitDma2_eq 𝒱₀ (c : Thread nD τ) none Set.univ) (Set.mem_univ _) () (O := O) (W := W) (R := 0) (m := 0) (T := ∅)
      (by rw [expect_dma xv sv c h.1 h.2, hd, Nat.zero_add])) $$ [Hc Ho Hat]
  · isplitr; · iexact HI
    isplitl [Hc]; · rw [hd]; iexact Hc
    isplitl [Ho]; · iexact Ho
    isplitr; · iapply hW; iexact Hlev
    iexact Hat
  iintro ⟨Ho, Hat, -, Hpay⟩
  ihave Hp := (Entails.of_eq (rest_dma xv sv c h.1 h.2)) $$ Hpay
  imod (Rounds.cell_close ER (ringRd xv sv) (Set.mem_univ κ) (fun h => h) (R := 0 + 1) (duties_later xv sv (cell c n))) $$ [Hat] with Hz
  · isplitr; · iexact HI
    iexact Hat
  iapply Hk
  isplitl [Hp]; · iexact Hp
  isplitl [Ho]; · iexists _; iexact Ho
  iexact Hz

/-- The signal to the previous device's barrier, with the blocks it is to write here. -/
theorem signal_prv (c : Dev nD) {α : Type} {Q : α → sProp 𝕄} (n : Dev nD) (hn : n = prv c) (b : Sem sig) (hb : b = barS) (a : ℕ) (ha : a = 1)
    {k : PUnit → Prog (TpuEff nD τ sig (Elt F) Λ₀ .tc) α} :
    iprop(records xv sv K ∗ owe c (O₀ c) ∗ dutyTok ER (barCell (prv c)) 0 true ∗ landing c)
      ⊢ iprop((owe c (O₁ c) -∗ wpc c (k ⟨⟩) Q) -∗ wpc c (.op (.semSignal (Dev.tc n : Thread nD τ) b a) k) Q) := by
  subst hn hb ha
  iintro ⟨#HK, Ho, Ht, Hl⟩ Hk
  ihave HR := (rec_bar xv sv K (prv c)) $$ HK
  unfold rec1 owe
  icases HR with ⟨⟨%κ, #HI⟩, #Hr⟩
  icases Ho with ⟨%W, Ho⟩
  iapply (Rounds.wp_signal 𝒱₀ ER (ringRd xv sv) (c : Thread nD τ) none (dst := (prv c : Thread nD τ)) (κ := κ)
      (d := true) (by rw [duties_bar]; exact Finset.mem_univ _) ((amount_bar xv sv (prv c) true).trans (by decide)) () (O₁ c) rfl)
    $$ [Ho Ht Hl]
  · isplitr; · iexact HI
    isplitl [Ho]; · iexact Ho
    isplitl [Ht]; · iexact Ht
    isplitl [Hl]
    · rw [show (ringRd xv sv).payload (barCell (prv c)) 0 true = landing (nxt (prv c)) from rfl, nxt_prv]; iexact Hl
    iexact Hr
  iintro Ho
  iapply Hk
  iexists W; iexact Ho

/-- The signal to the next device's barrier, with nothing. -/
theorem signal_nxt (c : Dev nD) {α : Type} {Q : α → sProp 𝕄} (n : Dev nD) (hn : n = nxt c) (b : Sem sig) (hb : b = barS) (a : ℕ) (ha : a = 1)
    {k : PUnit → Prog (TpuEff nD τ sig (Elt F) Λ₀ .tc) α} :
    iprop(records xv sv K ∗ owe c (O₁ c) ∗ dutyTok ER (barCell (nxt c)) 0 false)
      ⊢ iprop((owe c (owed c 0 0) -∗ wpc c (k ⟨⟩) Q) -∗ wpc c (.op (.semSignal (Dev.tc n : Thread nD τ) b a) k) Q) := by
  subst hn hb ha
  iintro ⟨#HK, Ho, Ht⟩ Hk
  ihave HR := (rec_bar xv sv K (nxt c)) $$ HK
  unfold rec1 owe
  icases HR with ⟨⟨%κ, #HI⟩, #Hr⟩
  icases Ho with ⟨%W, Ho⟩
  iapply (Rounds.wp_signal 𝒱₀ ER (ringRd xv sv) (c : Thread nD τ) none (dst := (nxt c : Thread nD τ)) (κ := κ)
      (d := false) (by rw [duties_bar]; exact Finset.mem_univ _) ((amount_bar xv sv (nxt c) false).trans (by decide)) () (owed c 0 0) rfl)
    $$ [Ho Ht]
  · isplitr; · iexact HI
    isplitl [Ho]; · iexact Ho
    isplitl [Ht]; · iexact Ht
    isplitr
    · rw [show (ringRd xv sv).payload (barCell (nxt c)) 0 false = iprop(emp) from rfl]; iempintro
    iexact Hr
  iintro Ho
  iapply Hk
  iexists W; iexact Ho

/-- The wait on the own barrier for both neighbours: the next device's blocks that are written from here. -/
theorem wait_bar (c : Dev nD) {α : Type} {Q : α → sProp 𝕄} (b : Sem sig) (hb : b = barS) (a : ℕ) (ha : a = 2)
    {k : PUnit → Prog (TpuEff nD τ sig (Elt F) Λ₀ .tc) α} :
    iprop(records xv sv K ∗ levAts L lv ∗ cred (tallyAt (barCell c) () 2) ∗ owe c (owed c 0 0) ∗ atPos ER (barCell c) 0 ∅ 0)
      ⊢ iprop(((landing (nxt c) ∗ owe c (owed c 0 0) ∗ semVal (barCell c) 0) -∗ wpc c (k ⟨⟩) Q)
        -∗ wpc c (.op (.semWait b a) k) Q) := by
  subst hb ha
  iintro ⟨#HK, #Hlev, Hc, Ho, Hat⟩ Hk
  ihave HR := (rec_bar xv sv K c) $$ HK
  unfold rec1 owe
  icases HR with ⟨⟨%κ, #HI⟩, #Hr⟩
  icases Ho with ⟨%W, Ho⟩
  iapply (Rounds.wp_wait_rest_token 𝒱₀ ER (ringRd xv sv) (c : Thread nD τ) none (κ := κ)
      (wpE_semWait_eq 𝒱₀ (c : Thread nD τ) none Set.univ) (Set.mem_univ _) () (O := owed c 0 0) (W := W) (R := 0) (m := 0) (T := ∅)
      (by rw [expect_bar])) $$ [Hc Ho Hat]
  · isplitr; · iexact HI
    isplitl [Hc]; · iexact Hc
    isplitl [Ho]; · iexact Ho
    isplitr; · iapply (mayWait_owed c (.reg barS) 0 0 (fun _ => by show 1 < 2; decide) (fun _ => by show 1 < 5; decide)); iexact Hlev
    iexact Hat
  iintro ⟨Ho, Hat, -, Hpay⟩
  ihave Hp := (Entails.of_eq (rest_bar xv sv c)) $$ Hpay
  icases Hp with ⟨-, Hp⟩
  imod (Rounds.cell_close ER (ringRd xv sv) (Set.mem_univ κ) (fun h => h) (R := 0 + 1) (duties_later xv sv (barCell c))) $$ [Hat] with Hz
  · isplitr; · iexact HI
    iexact Hat
  iapply Hk
  isplitl [Hp]; · iexact Hp
  isplitl [Ho]; · iexists _; iexact Ho
  iexact Hz

end Steps

end Cert.KernelIdeal.Ring

end
-- ==== Proof.KernelIdeal.Local.lean ====
/-
# 01_k — `Local`: whole buffers, the keys and values, the local copies

Loads and stores of a buffer taken whole; the buffers holding eight heads' keys (or values), filled head by head; the
local copy of one head's keys (or values) into the staging buffer.
-/
module

public import proofs.«01_k».proof.Proof.KernelIdeal.Steps

public import Idealize.ShloMosaic.Lib.ValueIdxCore
public import Idealize.ShloMosaic.Lib.Pointwise.Reshape
public import Idealize.ShloMosaic.Lib.Transfers

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers -/

/-- Device `c`'s buffer `b` at contents `f`. -/
abbrev buf (c : Dev nD) (b : Ref sig .tc) (f : b.ty.Contents (Elt F)) : sProp 𝕄 := ((c : Thread nD τ).loc b ↦{fullShare} f)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load from a buffer held whole, of what the view reads there. -/
theorem ld_at {sh : Shape} {e : EltTy} {α : Type} {Q : α → sProp 𝕄} (c : Dev nD) (M : Memref sig .tc .vmem sh e) (r : Rect sh)
    (f : Buf (Elt F) (M.view.loc (c : Thread nD τ))) (v : r.shape.Idx → Elt F e) (hv : M.view.readAt (Elt F) r.toLoadRect f = v)
    {hl : M.view.LoadsAt r.toLoadRect} {k : (r.shape.Idx → Elt F e) → Prog (TpuEff nD τ sig (Elt F) Λ₀ .tc) α} :
    ((M.view.loc (c : Thread nD τ) ↦{fullShare} f) : sProp 𝕄)
      ⊢ iprop(((M.view.loc (c : Thread nD τ) ↦{fullShare} f) -∗ wpc c (k v) Q) -∗ wpc c (.op (.load M r.toLoadRect hl) k) Q) := by
  subst hv
  iintro H Hk
  iapply (wp_load 𝒱₀ (c : Thread nD τ) none Set.univ (m := M) (r := r.toLoadRect) (f := f) (S := Finset.univ) (Finset.subset_univ _)) $$ H
  iintro H
  iapply Hk; iexact H

/-- A store to a buffer held whole. -/
theorem st_at {sh : Shape} {e : EltTy} {α : Type} {Q : α → sProp 𝕄} (c : Dev nD) (M : Memref sig .tc .vmem sh e) (r : Rect sh)
    (f g : Buf (Elt F) (M.view.loc (c : Thread nD τ))) (w : r.shape.Idx → Elt F e) (hg : (M.access r).write (Elt F) f w Finset.univ = g)
    {hx : (M.access r).Stores Finset.univ} {hm : (Finset.univ : Finset r.shape.Idx) = Finset.univ ∨ ∀ a, r.stride a = 1}
    {k : PUnit → Prog (TpuEff nD τ sig (Elt F) Λ₀ .tc) α} :
    ((M.view.loc (c : Thread nD τ) ↦{fullShare} f) : sProp 𝕄)
      ⊢ iprop(((M.view.loc (c : Thread nD τ) ↦{fullShare} g) -∗ wpc c (k ⟨⟩) Q) -∗ wpc c (.op (.store M r w Finset.univ hx hm) k) Q) := by
  subst hg
  iintro H Hk
  iapply (wp_store 𝒱₀ (c : Thread nD τ) none Set.univ (m := M) (r := r) (f := f) (Mk := Finset.univ) (S := Finset.univ) (Finset.subset_univ _)) $$ H
  iintro H
  iapply Hk; iexact H

/-! ## The keys' and values' buffers -/

/-- One head's keys or values, for every head. -/
abbrev Heads (F : FTy → Type) : Type := ℕ → Vec F S1x4096x128 .bf16

/-- The contents of the buffer with the first `n` heads filled in. -/
def kvFill (f0 : Vec F S8x4096x128 .bf16) (kh : Heads F) (n : ℕ) : Vec F S8x4096x128 .bf16 := fun i =>
  if (i 0).val < n then kh (i 0).val (ValueIdx.ix3 (n0 := 1) (n1 := 4096) (n2 := 128) 0 (i 1) (i 2)) else f0 i

theorem kvFill_zero (f0 : Vec F S8x4096x128 .bf16) (kh : Heads F) : kvFill f0 kh 0 = f0 := by
  funext i; unfold kvFill; rw [if_neg (Nat.not_lt_zero _)]

/-- Head `h`'s rectangle. -/
def headRect (h : ℕ) (hh : h < 8) : Rect S8x4096x128 :=
  Rect.unit (s := S8x4096x128) ![h, 0, 0] S1x4096x128.size (fun a => by
    fin_cases a
    · show h + 1 ≤ 8; omega
    · show 0 + 4096 ≤ 4096; omega
    · show 0 + 128 ≤ 128; omega)

theorem headRect_emb (h : ℕ) (hh : h < 8) (y : S1x4096x128.Idx) :
    (headRect h hh).emb y = ValueIdx.ix3 (n0 := 8) (n1 := 4096) (n2 := 128) ⟨h, hh⟩ (y 1) (y 2) := by
  have h0 : (y 0).val < 1 := (y 0).isLt
  funext a
  apply Fin.ext
  unfold headRect
  refine (ValueKit.rect_emb_unit_val _ _ _ _ _).trans ?_
  fin_cases a
  · show h + (y 0).val = h; omega
  · show 0 + (y 1).val = (y 1).val; omega
  · show 0 + (y 2).val = (y 2).val; omega

abbrev kM : Memref sig .tc .vmem S8x4096x128 .bf16 := Memref.whole cc0_scratch3
abbrev vM : Memref sig .tc .vmem S8x4096x128 .bf16 := Memref.whole cc0_scratch4

theorem kv_read (f : Vec F S8x4096x128 .bf16) (r : Rect S8x4096x128) (y : r.shape.Idx) :
    (kM.view.readAt (Elt F) r.toLoadRect f) y = f (r.emb y) := rfl

theorem kvFill_read (f0 : Vec F S8x4096x128 .bf16) (kh : Heads F) (n h : ℕ) (hn : h < n) (hh : h < 8) :
    (fun y : S1x4096x128.Idx => kvFill f0 kh n ((headRect h hh).emb y)) = kh h := by
  funext y
  rw [headRect_emb]
  unfold kvFill
  rw [if_pos (show h < n from hn)]
  show kh h _ = kh h y
  congr 1
  refine Eq.trans ?_ (ValueIdx.eq_ix3 (n0 := 1) (n1 := 4096) (n2 := 128) y).symm
  have : (0 : Fin 1) = y 0 := Subsingleton.elim _ _
  rw [← this]
  rfl

theorem kvFill_write (M : Memref sig .tc .vmem S8x4096x128 .bf16) (c : Dev nD) (f0 : Vec F S8x4096x128 .bf16) (kh : Heads F) (n : ℕ) (hn : n < 8)
    (g : Buf (Elt F) (M.view.loc (c : Thread nD τ))) (hg : M.view.read (Elt F) g = kvFill f0 kh n) :
    M.view.read (Elt F) ((M.access (headRect n hn)).write (Elt F) g (kh n) Finset.univ) = kvFill f0 kh (n + 1) := by
  funext x
  by_cases hx : (x 0).val = n
  · have e : x = (headRect n hn).emb (ValueIdx.ix3 (n0 := 1) (n1 := 4096) (n2 := 128) 0 (x 1) (x 2)) := by
      rw [headRect_emb]
      refine (ValueIdx.eq_ix3 (n0 := 8) (n1 := 4096) (n2 := 128) x).trans ?_
      congr 1
      exact Fin.ext hx
    have e2 : kvFill f0 kh (n + 1) x = kh n (ValueIdx.ix3 (n0 := 1) (n1 := 4096) (n2 := 128) 0 (x 1) (x 2)) := by
      unfold kvFill; rw [if_pos (show (x 0).val < n + 1 by omega), hx]
    rw [e2]
    conv_lhs => rw [e]
    exact congrFun (View.read_write_univ (v := M.access (headRect n hn)) g (kh n)) _
  · have hm : M.view.emb x ∉ (M.access (headRect n hn)).setOn Finset.univ := by
      intro hm
      obtain ⟨y, hy⟩ := View.exists_emb_of_mem_set (M.access (headRect n hn)) hm
      have hy' : M.view.emb ((headRect n hn).emb y) = M.view.emb x := hy
      rw [headRect_emb n hn y] at hy'
      exact hx (congrArg (fun z : S8x4096x128.Idx => (z 0).val) (M.view.emb.injective hy')).symm
    rw [View.read_apply, View.write_of_not_mem (v := M.access (headRect n hn)) g (kh n) Finset.univ hm, ← View.read_apply, hg]
    unfold kvFill
    by_cases h : (x 0).val < n
    · rw [if_pos h, if_pos (by omega)]
    · rw [if_neg h, if_neg (by omega)]

/-- Device `c` holds the buffer `M` with the first `n` heads filled in. -/
def heads (M : Memref sig .tc .vmem S8x4096x128 .bf16) (c : Dev nD) (kh : Heads F) (n : ℕ) : sProp 𝕄 :=
  iprop(∃ f0 : Vec F S8x4096x128 .bf16, ∃ g : Buf (Elt F) (M.view.loc (c : Thread nD τ)), ⌜M.view.read (Elt F) g = kvFill f0 kh n⌝
    ∗ (M.view.loc (c : Thread nD τ) ↦{fullShare} g))

theorem st_head {α : Type} {Q : α → sProp 𝕄} (M : Memref sig .tc .vmem S8x4096x128 .bf16) (c : Dev nD) (kh : Heads F) (n : ℕ) (hn : n < 8)
    (w : Vec F S1x4096x128 .bf16) (hw : w = kh n) (off : Fin 3 → ℕ) (inb : ∀ a, off a + S1x4096x128.size a ≤ S8x4096x128.size a) (hoff : off = ![n, 0, 0])
    {hx : (M.access (Rect.unit (s := S8x4096x128) off S1x4096x128.size inb)).Stores Finset.univ}
    {hm : (Finset.univ : Finset (Rect.unit (s := S8x4096x128) off S1x4096x128.size inb).shape.Idx) = Finset.univ ∨ ∀ a, (Rect.unit (s := S8x4096x128) off S1x4096x128.size inb).stride a = 1}
    {k : PUnit → Prog (TpuEff nD τ sig (Elt F) Λ₀ .tc) α} :
    (heads M c kh n : sProp 𝕄) ⊢ iprop((heads M c kh (n + 1) -∗ wpc c (k ⟨⟩) Q)
      -∗ wpc c (.op (.store M (Rect.unit (s := S8x4096x128) off S1x4096x128.size inb) w Finset.univ hx hm) k) Q) := by
  subst hoff hw
  unfold heads
  iintro ⟨%f0, %g, %hg, H⟩ Hk
  iapply (st_at c M (headRect n hn) g _ (kh n) rfl) $$ H
  iintro H
  iapply Hk
  iexists f0; iexists _
  isplitr
  · ipureintro; exact kvFill_write M c f0 kh n hn g hg
  iexact H

/-- A load of head `h` from a buffer with `n > h` heads filled in. -/
theorem ld_head {α : Type} {Q : α → sProp 𝕄} (M : Memref sig .tc .vmem S8x4096x128 .bf16) (c : Dev nD) (kh : Heads F) (n h : ℕ) (hn : h < n) (hh : h < 8)
    (off : Fin 3 → ℕ) (inb : ∀ a, off a + S1x4096x128.size a ≤ S8x4096x128.size a) (hoff : off = ![h, 0, 0])
    {hl : M.view.LoadsAt (Rect.unit (s := S8x4096x128) off S1x4096x128.size inb).toLoadRect}
    {k : Vec F S1x4096x128 .bf16 → Prog (TpuEff nD τ sig (Elt F) Λ₀ .tc) α} :
    (heads M c kh n : sProp 𝕄) ⊢ iprop((heads M c kh n -∗ wpc c (k (kh h)) Q)
      -∗ wpc c (.op (.load M (Rect.unit (s := S8x4096x128) off S1x4096x128.size inb).toLoadRect hl) k) Q) := by
  subst hoff
  unfold heads
  iintro ⟨%f0, %g, %hg, H⟩ Hk
  iapply (ld_at c M (headRect h hh) g (kh h) (by
    refine Eq.trans ?_ (kvFill_read f0 kh n h hn hh)
    rw [← hg]; rfl)) $$ H
  iintro H
  iapply Hk
  iexists f0; iexists g
  isplitr
  · ipureintro; exact hg
  iexact H

/-- A load whose value is not used, from a buffer of heads. -/
theorem ld_head_any {α : Type} {Q : α → sProp 𝕄} (M : Memref sig .tc .vmem S8x4096x128 .bf16) (c : Dev nD) (kh : Heads F) (n : ℕ)
    (r : Rect S8x4096x128) {hl : M.view.LoadsAt r.toLoadRect} {k : (r.shape.Idx → Elt F .bf16) → Prog (TpuEff nD τ sig (Elt F) Λ₀ .tc) α} :
    (heads M c kh n : sProp 𝕄) ⊢ iprop((∀ v, heads M c kh n -∗ wpc c (k v) Q) -∗ wpc c (.op (.load M r.toLoadRect hl) k) Q) := by
  unfold heads
  iintro ⟨%f0, %g, %hg, H⟩ Hk
  iapply (ld_at c M r g _ rfl) $$ H
  iintro H
  iapply Hk
  iexists f0; iexists g
  isplitr
  · ipureintro; exact hg
  iexact H

/-! ## The local copies -/

/-- Head `g` of the keys (or values) of the one batch entry. -/
def headOf (kv : Vec F S1x4096x128x128 .f32) (g : ℕ) : Vec F S4096x128 .f32 := fun y =>
  kv (ValueIdx.ix4 (n0 := 1) (n1 := 4096) (n2 := 128) (n3 := 128) 0 (y 0) ⟨g % 128, Nat.mod_lt _ (by decide)⟩ (y 1))

abbrev SrcM : Type := Memref sig .tc .hbm S1x4096x128x128 .f32
/-- The staging buffer of the local copies. -/
abbrev gM : Memref sig .tc .vmem S4096x128 .f32 := Memref.whole cc0_scratch2

/-- One head's slice of the keys (or values), as the kernel names it. -/
abbrev headSrc (A : SrcM) (off : Fin 4 → ℕ) (inb : ∀ a, off a + S1x4096x1x128.size a ≤ S1x4096x128x128.size a) : Memref sig .tc .hbm S4096x128 .f32 :=
  (A.slice (Rect.unit (s := S1x4096x128x128) off S1x4096x1x128.size inb) (fun _ => rfl)).squeeze S4096x128 squeezes_S1x4096x1x128_S4096x128

theorem unsqueeze (y : S4096x128.Idx) : Shape.reshapeEquiv squeezes_S1x4096x1x128_S4096x128.numel_eq y
    = ValueIdx.ix4 (n0 := 1) (n1 := 4096) (n2 := 1) (n3 := 128) 0 (y 0) 0 (y 1) := by
  apply Shape.reshapeEquiv_eq_of_rowMajor
  refine (Shape.rowMajor_val_four _).trans (Eq.trans ?_ (Shape.rowMajor_val_two _).symm)
  show ((0 * 4096 + (y 0).val) * 1 + 0) * 128 + (y 1).val = (y 0).val * 128 + (y 1).val
  omega

theorem headSrc_read (A : SrcM) (c : Dev nD) (g : ℕ) (hg : g < 128) (off : Fin 4 → ℕ) (inb : ∀ a, off a + S1x4096x1x128.size a ≤ S1x4096x128x128.size a)
    (hoff : off = ![0, 0, g, 0]) (f : Buf (Elt F) (A.view.loc (c : Thread nD τ))) (kv : Vec F S1x4096x128x128 .f32) (hf : A.view.read (Elt F) f = kv) :
    (headSrc A off inb).view.read (Elt F) f = headOf kv g := by
  subst hoff hf
  funext y
  unfold headOf
  show A.view.read (Elt F) f ((Rect.unit (s := S1x4096x128x128) ![0, 0, g, 0] S1x4096x1x128.size inb).emb (Shape.reshapeEquiv squeezes_S1x4096x1x128_S4096x128.numel_eq y)) = _
  rw [unsqueeze]
  refine congrArg (A.view.read (Elt F) f) (funext fun a => Fin.ext ?_)
  rw [ValueKit.rect_emb_unit_val]
  fin_cases a
  · rfl
  · show 0 + (y 0).val = (y 0).val; omega
  · show g + 0 = g % 128; omega
  · show 0 + (y 1).val = (y 1).val; omega

/-- Device `c` holds the keys (or values) `kv` in the array `A`. -/
def kvIn (A : SrcM) (c : Dev nD) (kv : Vec F S1x4096x128x128 .f32) : sProp 𝕄 :=
  iprop(∃ f : Buf (Elt F) (A.view.loc (c : Thread nD τ)), ⌜A.view.read (Elt F) f = kv⌝ ∗ (A.view.loc (c : Thread nD τ) ↦{fullShare} f))

/-- Device `c`'s staging buffer of the local copies at `w`. -/
def staged (c : Dev nD) (w : Vec F S4096x128 .f32) : sProp 𝕄 := (gM.view.loc (c : Thread nD τ) ↦{fullShare} (w : Buf (Elt F) (gM.view.loc (c : Thread nD τ))))

/-- What the copy of one head credits its semaphore by. -/
abbrev Nk : ℕ := gM.view.dmaCredit
theorem Nk_pos : 0 < Nk := View.dmaCredit_pos _ (by decide)

theorem headInb (g : ℕ) (hg : g < 128) : ∀ a, (![0, 0, g, 0] : Fin 4 → ℕ) a + S1x4096x1x128.size a ≤ S1x4096x128x128.size a := fun a => by
  fin_cases a
  · show 0 + 1 ≤ 1; omega
  · show 0 + 4096 ≤ 4096; omega
  · show g + 1 ≤ 128; omega
  · show 0 + 128 ≤ 128; omega

/-- The copy of head `g` of `A`'s contents `kv` into the staging buffer, under way. -/
def copying (A : SrcM) (c : Dev nD) (kv : Vec F S1x4096x128x128 .f32) (g : ℕ) (hg : g < 128) : sProp 𝕄 :=
  iprop(∃ f : Buf (Elt F) (A.view.loc (c : Thread nD τ)), ⌜A.view.read (Elt F) f = kv⌝
    ∗ Transfers.Flight (countersEmb (U := UU)) (c : Thread nD τ) (.dma (dsem 64)) () Nk
        iprop(staged c (headOf kv g) ∗ (A.view.loc (c : Thread nD τ) ↦[(headSrc A ![0, 0, g, 0] (headInb g hg)).view.set]{fullShare} f))
    ∗ (A.view.loc (c : Thread nD τ) ↦[Finset.univ \ (headSrc A ![0, 0, g, 0] (headInb g hg)).view.set]{fullShare} f))

theorem copy_start {α : Type} {Q : α → sProp 𝕄} (A : SrcM) (c : Dev nD) (kv : Vec F S1x4096x128x128 .f32) (w : Vec F S4096x128 .f32) (g : ℕ) (hg : g < 128)
    (off : Fin 4 → ℕ) (inb : ∀ a, off a + S1x4096x1x128.size a ≤ S1x4096x128x128.size a) (hoff : off = ![0, 0, g, 0])
    (q : DmaSem sig) (hq : q = dsem 64)
    {hsrc : (headSrc A off inb).view.WordExact} {hdst : gM.view.WordExact} {hsem : DmaTarget.Typed (nD := nD) (τ := τ) .hbm (.dma q) (.here (p := (.tc : Proc τ)) gM)}
    {k : PUnit → Prog (TpuEff nD τ sig (Elt F) Λ₀ .tc) α} :
    iprop(kvIn A c kv ∗ staged c w ∗ semVal ((c : Thread nD τ), SemLoc.dma (dsem 64)) 0)
      ⊢ iprop((copying A c kv g hg -∗ wpc c (k ⟨⟩) Q) -∗ wpc c (.op (.enqueueDma (headSrc A off inb) (.here gM) (.dma q) hsrc hdst hsem) k) Q) := by
  subst hq hoff
  unfold kvIn
  iintro ⟨⟨%f, %hf, Hs⟩, Hd, Hz⟩ Hk
  ihave Hs' := (pointsTo_split_subset (Finset.subset_univ (headSrc A ![0, 0, g, 0] (headInb g hg)).view.set)).1 $$ Hs
  icases Hs' with ⟨Hs, Hr⟩
  iapply (Transfers.wp_dmaLocal (countersEmb (U := UU)) 𝒱₀ (c : Thread nD τ) none (src := headSrc A ![0, 0, g, 0] (headInb g hg)) (dst := gM)
    (fs := f) (fd := w) (q := fullShare) (Sd := Finset.univ) () Nk rfl Nk_pos (Finset.subset_univ _)) $$ [Hs Hd Hz]
  · isplitl [Hs]; · iexact Hs
    isplitl [Hd]; · unfold staged; iexact Hd
    iexact Hz
  iintro Hf
  iapply Hk
  unfold copying
  iexists f
  isplitr; · ipureintro; exact hf
  isplitl [Hf]
  · iapply (Transfers.Flight_mono (countersEmb (U := UU)) (c : Thread nD τ) (h := ?_)) $$ Hf
    unfold staged
    rw [← headSrc_read A c g hg ![0, 0, g, 0] (headInb g hg) rfl f kv hf]
    iintro ⟨H, H'⟩
    isplitl [H]
    · rw [show gM.view.write (Elt F) w ((headSrc A ![0, 0, g, 0] (headInb g hg)).view.read (Elt F) f) Finset.univ = _ from View.write_whole_univ cc0_scratch2 w _]
      iexact H
    · iexact H'
  · iexact Hr

theorem copy_wait {α : Type} {Q : α → sProp 𝕄} (A : SrcM) (c : Dev nD) (kv : Vec F S1x4096x128x128 .f32) (g : ℕ) (hg : g < 128)
    (q : DmaSem sig) (hq : q = dsem 64) (src : Memref sig .tc .hbm S4096x128 .f32) (O : CellTallies nD τ sig Unit)
    (hW : (levAts L lv : sProp 𝕄) ⊢ MayWait (c : Thread nD τ) (.dma (dsem 64)) () O)
    {hsrc : src.view.WordExact} {hdst : gM.view.WordExact}
    {k : PUnit → Prog (TpuEff nD τ sig (Elt F) Λ₀ .tc) α} :
    iprop(levAts L lv ∗ copying A c kv g hg ∗ owe c O)
      ⊢ iprop(((kvIn A c kv ∗ staged c (headOf kv g) ∗ semVal ((c : Thread nD τ), SemLoc.dma (dsem 64)) 0 ∗ owe c O) -∗ wpc c (k ⟨⟩) Q)
        -∗ wpc c (.op (.waitDma2 q src gM hsrc hdst) k) Q) := by
  subst hq
  unfold copying Transfers.Flight owe
  iintro ⟨#Hlev, ⟨%f, %hf, ⟨⟨%R, HR, %hcap, %hpeek⟩, Hcred⟩, Hr⟩, ⟨%W, HO⟩⟩ Hk
  iapply (wp_waitDma_token 𝒱₀ (c : Thread nD τ) none Set.univ () (O := O) (W := W)) $$ [Hcred HO]
  · isplitl [Hcred]; · iexact Hcred
    isplitl [HO]; · iexact HO
    iapply hW; iexact Hlev
  iapply (hcap _)
  isplitl [HR]; · iexact HR
  iintro ⟨Hv, ⟨Hst, Hs⟩⟩ HO
  iapply Hk
  isplitl [Hs Hr]
  · unfold kvIn
    iexists f
    isplitr; · ipureintro; exact hf
    iapply (pointsTo_split_subset (Finset.subset_univ (headSrc A ![0, 0, g, 0] (headInb g hg)).view.set)).2
    isplitl [Hs]; · iexact Hs
    iexact Hr
  isplitl [Hst]; · iexact Hst
  isplitl [Hv]; · iexact Hv
  iexists _; iexact HO

end Cert.KernelIdeal.Ring

end
-- ==== Proof.KernelIdeal.Kit.lean ====
/-
# 01_k — `Kit`: what a device still holds of the protocol

The duties, positions and credits of the fifteen hops of each buffer, grouped by hop, and the transfers and waits that use
up hop `n`'s.
-/
module

public import proofs.«01_k».proof.Proof.KernelIdeal.Local
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The families -/

/-- For the sends from hop `n` on, announced on semaphores `b + h` here and `b' + h` there: the duties, and the next
    device's blocks `jd h` of the buffer `M`. -/
def sends (c : Dev nD) (b b' : ℕ) (M : BufM) (jd : ℕ → Fin 16) (n : ℕ) : sProp 𝕄 :=
  bigSep (Finset.Ico n 15) fun h => iprop(dutyTok ER (cell c (b + h)) 0 false ∗ dutyTok ER (cell (nxt c) (b' + h)) 0 false ∗ anyChunk M (nxt c) (jd h))
/-- For the arrivals from hop `n` on, on semaphores `b + h`: the position and the credit. -/
def waits (c : Dev nD) (b n : ℕ) : sProp 𝕄 :=
  bigSep (Finset.Ico n 15) fun h => iprop(atPos ER (cell c (b + h)) 0 ∅ 0 ∗ cred (tallyAt (cell c (b + h)) () N))
/-- For the departures from hop `n` on, on semaphores `b + h`: the position. -/
def poss (c : Dev nD) (b n : ℕ) : sProp 𝕄 := bigSep (Finset.Ico n 15) fun h => atPos ER (cell c (b + h)) 0 ∅ 0
/-- Semaphores `b + h` below hop `n` are at zero for good. -/
def zeros (c : Dev nD) (b n : ℕ) : sProp 𝕄 := bigSep (Finset.range n) fun h => semVal (cell c (b + h)) 0
/-- The credits of the second buffer's departures from hop `k` up to hop `n`. -/
def creds (c : Dev nD) (k n : ℕ) : sProp 𝕄 := bigSep (Finset.Ico k n) fun s => cred (tallyAt (cell c (34 + s)) () N)

theorem sends_peel (c : Dev nD) (b b' : ℕ) (M : BufM) (jd : ℕ → Fin 16) (n : ℕ) (hn : n < 15) :
    (sends c b b' M jd n : sProp 𝕄) = iprop((dutyTok ER (cell c (b + n)) 0 false ∗ dutyTok ER (cell (nxt c) (b' + n)) 0 false ∗ anyChunk M (nxt c) (jd n)) ∗ sends c b b' M jd (n + 1)) := by
  unfold sends; rw [bigSep_Ico_succ_bot hn]
theorem waits_peel (c : Dev nD) (b n : ℕ) (hn : n < 15) :
    (waits c b n : sProp 𝕄) = iprop((atPos ER (cell c (b + n)) 0 ∅ 0 ∗ cred (tallyAt (cell c (b + n)) () N)) ∗ waits c b (n + 1)) := by
  unfold waits; rw [bigSep_Ico_succ_bot hn]
theorem poss_peel (c : Dev nD) (b n : ℕ) (hn : n < 15) :
    (poss c b n : sProp 𝕄) = iprop(atPos ER (cell c (b + n)) 0 ∅ 0 ∗ poss c b (n + 1)) := by
  unfold poss; rw [bigSep_Ico_succ_bot hn]
theorem zeros_succ (c : Dev nD) (b n : ℕ) : (zeros c b (n + 1) : sProp 𝕄) = iprop(semVal (cell c (b + n)) 0 ∗ zeros c b n) := by
  unfold zeros; rw [bigSep_range_succ]
theorem zeros_zero (c : Dev nD) (b : ℕ) : (zeros c b 0 : sProp 𝕄) = iprop(emp) := by
  unfold zeros; rw [Finset.range_zero, bigSep_empty]; rfl
theorem creds_succ (c : Dev nD) (k n : ℕ) (h : k ≤ n) : (creds c k (n + 1) : sProp 𝕄) = iprop(cred (tallyAt (cell c (34 + n)) () N) ∗ creds c k n) := by
  unfold creds; rw [bigSep_Ico_succ_top h]
theorem creds_peel (c : Dev nD) (k n : ℕ) (h : k < n) : (creds c k n : sProp 𝕄) = iprop(cred (tallyAt (cell c (34 + k)) () N) ∗ creds c (k + 1) n) := by
  unfold creds; rw [bigSep_Ico_succ_bot h]
theorem creds_self (c : Dev nD) (k : ℕ) : (creds c k k : sProp 𝕄) = iprop(emp) := by
  unfold creds; rw [Finset.Ico_self, bigSep_empty]; rfl
theorem sends_end (c : Dev nD) (b b' : ℕ) (M : BufM) (jd : ℕ → Fin 16) : (sends c b b' M jd 15 : sProp 𝕄) = iprop(emp) := by
  unfold sends; rw [Finset.Ico_self, bigSep_empty]; rfl
theorem waits_end (c : Dev nD) (b : ℕ) : (waits c b 15 : sProp 𝕄) = iprop(emp) := by
  unfold waits; rw [Finset.Ico_self, bigSep_empty]; rfl
theorem poss_end (c : Dev nD) (b : ℕ) : (poss c b 15 : sProp 𝕄) = iprop(emp) := by
  unfold poss; rw [Finset.Ico_self, bigSep_empty]; rfl

/-- The first buffer's sends. -/
abbrev agSends (c : Dev nD) (n : ℕ) : sProp 𝕄 := sends c 4 19 xM (back c) n
/-- The second buffer's sends. -/
abbrev rsSends (c : Dev nD) (n : ℕ) : sProp 𝕄 := sends c 34 49 rM (fun s => slot (s + 1)) n

section Steps

variable (xv : Dev nD → Blk F) (sv : Dev nD → ℕ → Blk F) (K : Dev nD × Fin 61 → ℕ)

/-- Hop `n` of the first buffer: device `c` sends block `back c n` on. -/
theorem send_ag (c : Dev nD) {α : Type} {Q : α → sProp 𝕄} (n k' : ℕ) (hn : n < 15) (v : Blk F) (hv : v = xv (back c n))
    (dev : Dev nD) (hdev : dev = nxt c) (q₁ q₂ : DmaSem sig) (hq₁ : q₁ = dsem (4 + n)) (hq₂ : q₂ = dsem (19 + n))
    (offs offd : Fin 2 → ℕ) (inbs : ∀ a, offs a + S256x1024.size a ≤ S4096x1024.size a) (inbd : ∀ a, offd a + S256x1024.size a ≤ S4096x1024.size a)
    (hoffs : offs = ![256 * (back c n).val, 0]) (hoffd : offd = ![256 * (back c n).val, 0])
    {hsc : (xM.slice (Rect.unit (s := S4096x1024) offd S256x1024.size inbd) (fun _ => rfl) : Memref sig (Dev.tc dev : Thread nD τ).2.kind .vmem S256x1024 .bf16).view.ref.isScScratch = false}
    {hsrc : (xM.slice (Rect.unit (s := S4096x1024) offs S256x1024.size inbs) (fun _ => rfl) : Memref sig .tc .vmem S256x1024 .bf16).view.WordExact}
    {hdst : (xM.slice (Rect.unit (s := S4096x1024) offd S256x1024.size inbd) (fun _ => rfl) : Memref sig .tc .vmem S256x1024 .bf16).view.WordExact}
    {hsem : DmaTarget.Typed .vmem (.dma q₂) (.remote (Dev.tc dev : Thread nD τ) (xM.slice (Rect.unit (s := S4096x1024) offd S256x1024.size inbd) (fun _ => rfl) : Memref sig .tc .vmem S256x1024 .bf16) (.dma q₁) hsc)}
    {k : PUnit → Prog (TpuEff nD τ sig (Elt F) Λ₀ .tc) α} :
    iprop(records xv sv K ∗ agSends c n ∗ chunk xM c (back c n) v ∗ owe c (owed c n k'))
      ⊢ iprop(((agSends c (n + 1) ∗ cred (tallyAt (cell c (4 + n)) () N) ∗ owe c (owed c (n + 1) k')) -∗ wpc c (k ⟨⟩) Q)
        -∗ wpc c (.op (.enqueueDma (xM.slice (Rect.unit (s := S4096x1024) offs S256x1024.size inbs) (fun _ => rfl))
            (.remote (Dev.tc dev : Thread nD τ) (xM.slice (Rect.unit (s := S4096x1024) offd S256x1024.size inbd) (fun _ => rfl)) (.dma q₁) hsc) (.dma q₂) hsrc hdst hsem) k) Q) := by
  subst hv
  rw [show (agSends c n : sProp 𝕄) = _ from sends_peel c 4 19 xM (back c) n hn]
  iintro ⟨#HK, ⟨⟨Ht₁, Ht₂, Hd⟩, Hrest⟩, Hs, Ho⟩ Hk
  iapply (send_step xv sv K c xM (back c n) (back c n) (xv (back c n)) (4 + n) (19 + n) (by omega) (by omega)
    (pay_agS xv sv c n hn) (by rw [pay_agR xv sv (nxt c) n hn, back_nxt]) N_x dev hdev q₁ q₂ hq₁ hq₂ offs offd inbs inbd hoffs hoffd
    (owed c (n + 1) k') (owed c n k') (owed_ag c n k' hn)) $$ [Hs Hd Ho Ht₁ Ht₂]
  · isplitr; · iexact HK
    isplitl [Hs]; · iexact Hs
    isplitl [Hd]; · iexact Hd
    isplitl [Ho]; · iexact Ho
    isplitl [Ht₁]; · iexact Ht₁
    iexact Ht₂
  iintro ⟨Hc, Ho⟩
  iapply Hk
  isplitl [Hrest]; · iexact Hrest
  isplitl [Hc]; · iexact Hc
  iexact Ho

/-- Hop `s` of the second buffer: device `c` sends block `s` to the next device's block `s + 1`. -/
theorem send_rs (c : Dev nD) {α : Type} {Q : α → sProp 𝕄} (s n' : ℕ) (hs : s < 15) (v : Blk F) (hv : v = sv c s)
    (dev : Dev nD) (hdev : dev = nxt c) (q₁ q₂ : DmaSem sig) (hq₁ : q₁ = dsem (34 + s)) (hq₂ : q₂ = dsem (49 + s))
    (offs offd : Fin 2 → ℕ) (inbs : ∀ a, offs a + S256x1024.size a ≤ S4096x1024.size a) (inbd : ∀ a, offd a + S256x1024.size a ≤ S4096x1024.size a)
    (hoffs : offs = ![256 * s, 0]) (hoffd : offd = ![256 * (s + 1), 0])
    {hsc : (rM.slice (Rect.unit (s := S4096x1024) offd S256x1024.size inbd) (fun _ => rfl) : Memref sig (Dev.tc dev : Thread nD τ).2.kind .vmem S256x1024 .bf16).view.ref.isScScratch = false}
    {hsrc : (rM.slice (Rect.unit (s := S4096x1024) offs S256x1024.size inbs) (fun _ => rfl) : Memref sig .tc .vmem S256x1024 .bf16).view.WordExact}
    {hdst : (rM.slice (Rect.unit (s := S4096x1024) offd S256x1024.size inbd) (fun _ => rfl) : Memref sig .tc .vmem S256x1024 .bf16).view.WordExact}
    {hsem : DmaTarget.Typed .vmem (.dma q₂) (.remote (Dev.tc dev : Thread nD τ) (rM.slice (Rect.unit (s := S4096x1024) offd S256x1024.size inbd) (fun _ => rfl) : Memref sig .tc .vmem S256x1024 .bf16) (.dma q₁) hsc)}
    {k : PUnit → Prog (TpuEff nD τ sig (Elt F) Λ₀ .tc) α} :
    iprop(records xv sv K ∗ rsSends c s ∗ chunk rM c (slot s) v ∗ owe c (owed c n' s) ∗ creds c 0 s)
      ⊢ iprop(((rsSends c (s + 1) ∗ owe c (owed c n' (s + 1)) ∗ creds c 0 (s + 1)) -∗ wpc c (k ⟨⟩) Q)
        -∗ wpc c (.op (.enqueueDma (rM.slice (Rect.unit (s := S4096x1024) offs S256x1024.size inbs) (fun _ => rfl))
            (.remote (Dev.tc dev : Thread nD τ) (rM.slice (Rect.unit (s := S4096x1024) offd S256x1024.size inbd) (fun _ => rfl)) (.dma q₁) hsc) (.dma q₂) hsrc hdst hsem) k) Q) := by
  subst hv
  have e0 : (slot s).val = s := Nat.mod_eq_of_lt (by omega)
  have e1 : (slot (s + 1)).val = s + 1 := Nat.mod_eq_of_lt (by omega)
  rw [show (rsSends c s : sProp 𝕄) = _ from sends_peel c 34 49 rM (fun s => slot (s + 1)) s hs, creds_succ c 0 s (Nat.zero_le _)]
  iintro ⟨#HK, ⟨⟨Ht₁, Ht₂, Hd⟩, Hrest⟩, Hs, Ho, Hcs⟩ Hk
  iapply (send_step xv sv K c rM (slot s) (slot (s + 1)) (sv c s) (34 + s) (49 + s) (by omega) (by omega)
    (pay_rsS xv sv c s hs) (by rw [pay_rsR xv sv (nxt c) s hs, prv_nxt]) N_r dev hdev q₁ q₂ hq₁ hq₂ offs offd inbs inbd
    (by rw [e0]; exact hoffs) (by rw [e1]; exact hoffd)
    (owed c n' (s + 1)) (owed c n' s) (owed_rs c n' s hs)) $$ [Hs Hd Ho Ht₁ Ht₂]
  · isplitr; · iexact HK
    isplitl [Hs]; · iexact Hs
    isplitl [Hd]; · iexact Hd
    isplitl [Ho]; · iexact Ho
    isplitl [Ht₁]; · iexact Ht₁
    iexact Ht₂
  iintro ⟨Hc, Ho⟩
  iapply Hk
  isplitl [Hrest]; · iexact Hrest
  isplitl [Ho]; · iexact Ho
  isplitl [Hc]; · iexact Hc
  iexact Hcs

/-- The wait for the arrival of hop `h` on semaphore `b + h`. -/
theorem wait_recv (c : Dev nD) {α : Type} {Q : α → sProp 𝕄} (b h : ℕ) (hh : h < 15) (hb : 4 ≤ b ∧ b + h < 64) (P : sProp 𝕄) (hP : dmaPay xv sv c (b + h) = P)
    (q : DmaSem sig) (hq : q = dsem (b + h)) (src dst : Memref sig .tc .vmem S256x1024 .bf16) (hd : dst.view.dmaCredit = N)
    (n k' : ℕ) (hn : n < 15 → lvS (.dma (dsem (b + h))) < 2 * n + 2) (hk : k' < 15 → lvS (.dma (dsem (b + h))) < 2 * k' + 5)
    {hsrc : src.view.WordExact} {hdst : dst.view.WordExact}
    {k : PUnit → Prog (TpuEff nD τ sig (Elt F) Λ₀ .tc) α} :
    iprop(records xv sv K ∗ levAts L lv ∗ waits c b h ∗ zeros c b h ∗ owe c (owed c n k'))
      ⊢ iprop(((P ∗ waits c b (h + 1) ∗ zeros c b (h + 1) ∗ owe c (owed c n k')) -∗ wpc c (k ⟨⟩) Q)
        -∗ wpc c (.op (.waitDma2 q src dst hsrc hdst) k) Q) := by
  rw [waits_peel c b h hh, zeros_succ]
  iintro ⟨#HK, #Hlev, ⟨⟨Hat, Hc⟩, Hw⟩, Hz, Ho⟩ Hk
  iapply (wait_step xv sv K c (b + h) ⟨by omega, hb.2⟩ P hP q hq src dst hd (owed c n k') (mayWait_owed c _ n k' hn hk)) $$ [Hat Hc Ho]
  · isplitr; · iexact HK
    isplitr; · iexact Hlev
    isplitl [Hc]; · iexact Hc
    isplitl [Ho]; · iexact Ho
    iexact Hat
  iintro ⟨HP, Ho, Hz'⟩
  iapply Hk
  isplitl [HP]; · iexact HP
  isplitl [Hw]; · iexact Hw
  isplitl [Hz Hz']
  · isplitl [Hz']; · iexact Hz'
    iexact Hz
  iexact Ho

/-- The wait for the departure of hop `h`'s block on semaphore `b + h`. -/
theorem wait_sent (c : Dev nD) {α : Type} {Q : α → sProp 𝕄} (b h : ℕ) (hh : h < 15) (hb : b = 4 ∨ b = 34) (P : sProp 𝕄) (hP : dmaPay xv sv c (b + h) = P)
    (q : DmaSem sig) (hq : q = dsem (b + h)) (src dst : Memref sig .tc .vmem S256x1024 .bf16) (hd : dst.view.dmaCredit = N)
    (n k' : ℕ)
    {hsrc : src.view.WordExact} {hdst : dst.view.WordExact}
    {k : PUnit → Prog (TpuEff nD τ sig (Elt F) Λ₀ .tc) α} :
    iprop(records xv sv K ∗ levAts L lv ∗ poss c b h ∗ cred (tallyAt (cell c (b + h)) () N) ∗ zeros c b h ∗ owe c (owed c n k'))
      ⊢ iprop(((P ∗ poss c b (h + 1) ∗ zeros c b (h + 1) ∗ owe c (owed c n k')) -∗ wpc c (k ⟨⟩) Q)
        -∗ wpc c (.op (.waitDma2 q src dst hsrc hdst) k) Q) := by
  have hl : lvS (.dma (dsem (b + h))) = 0 := lv_low _ (by omega)
  rw [poss_peel c b h hh, zeros_succ]
  iintro ⟨#HK, #Hlev, ⟨Hat, Hw⟩, Hc, Hz, Ho⟩ Hk
  iapply (wait_step xv sv K c (b + h) ⟨by omega, by omega⟩ P hP q hq src dst hd (owed c n k') (mayWait_owed c _ n k' (fun _ => by rw [hl]; omega) (fun _ => by rw [hl]; omega))) $$ [Hat Hc Ho]
  · isplitr; · iexact HK
    isplitr; · iexact Hlev
    isplitl [Hc]; · iexact Hc
    isplitl [Ho]; · iexact Ho
    iexact Hat
  iintro ⟨HP, Ho, Hz'⟩
  iapply Hk
  isplitl [HP]; · iexact HP
  isplitl [Hw]; · iexact Hw
  isplitl [Hz Hz']
  · isplitl [Hz']; · iexact Hz'
    iexact Hz
  iexact Ho

end Steps

end Cert.KernelIdeal.Ring

end
-- ==== Proof.KernelIdeal.Values.lean ====
/-
# 01_k — `Values`: what the buffers hold

Device `c`'s blocks of the operands, and from them what each block of the two exchanged buffers holds: the rows in sixteen
bits, the queries, the attention of the eight heads, and the sums that travel around the ring.
-/
module

public import proofs.«01_k».proof.Proof.KernelIdeal.Kit

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The devices' operands, as the kernel's windows and arrays hold them. -/
structure Ins (F : FTy → Type) where
  x : Dev nD → Vec F S1x256x1024 .f32
  wq : Dev nD → Vec F S1024x1024 .f32
  wo : Dev nD → Vec F S1024x1024 .f32
  k : Dev nD → Vec F S1x4096x128x128 .f32
  v : Dev nD → Vec F S1x4096x128x128 .f32

variable (I : Ins F)

/-- Device `j`'s rows in sixteen bits. -/
def x16 (j : Dev nD) : Blk F := k0_pay5 (I.x j)
/-- Device `c`'s scaled query weights in sixteen bits. -/
def wq16 (c : Dev nD) : Vec F S1024x1024 .bf16 := k0_pay6 (I.wq c)
/-- Device `c`'s output weights in sixteen bits. -/
def wo16 (c : Dev nD) : Vec F S1024x1024 .bf16 := k0_pay7 (I.wo c)
/-- The keys of device `c`'s head `h`. -/
def kh (c : Dev nD) : Heads F := fun h => k0_pay8 (headOf (I.k c) (8 * c.val + h))
/-- The values of device `c`'s head `h`. -/
def vh (c : Dev nD) : Heads F := fun h => k0_pay8 (headOf (I.v c) (8 * c.val + h))
/-- The queries of device `j`'s rows in device `c`'s heads. -/
def qry (c : Dev nD) (j : Dev nD) : Blk F := k0_pay25 (x16 I j) (wq16 I c)

/-- A block of queries with those of the first `t` heads replaced by their attention. -/
def attUpTo (q : Blk F) (kh vh : Heads F) (t : ℕ) : Blk F := fun x =>
  if (x 1).val / 128 < t then
    k0_pay26 (colOf q ((x 1).val / 128)) (kh ((x 1).val / 128)) (vh ((x 1).val / 128)) (Shape.pair (d := S256x128.size) (x 0) ⟨(x 1).val % 128, Nat.mod_lt _ (by decide)⟩)
  else q x

theorem attUpTo_zero (q : Blk F) (kh vh : Heads F) : attUpTo q kh vh 0 = q := by
  funext x; unfold attUpTo; rw [if_neg (Nat.not_lt_zero _)]

theorem colOf_attUpTo (q : Blk F) (kh vh : Heads F) (t : ℕ) (ht : t < 8) : colOf (attUpTo q kh vh t) t = colOf q t := by
  funext y
  unfold colOf attUpTo
  have h1 : (y 1).val < 128 := (y 1).isLt
  rw [if_neg]
  show ¬ ((128 * t + (y 1).val) % 1024 / 128 < t)
  omega

theorem attUpTo_succ (q : Blk F) (kh vh : Heads F) (t : ℕ) (ht : t < 8) :
    setCol (attUpTo q kh vh t) t (k0_pay26 (colOf (attUpTo q kh vh t) t) (kh t) (vh t)) = attUpTo q kh vh (t + 1) := by
  rw [colOf_attUpTo q kh vh t ht]
  funext x
  unfold setCol attUpTo
  by_cases h : (x 1).val / 128 = t
  · rw [if_pos h, if_pos (by omega), h]
  · rw [if_neg h]
    by_cases h' : (x 1).val / 128 < t
    · rw [if_pos h', if_pos (by omega)]
    · rw [if_neg h', if_neg (by omega)]

/-- The attention of device `j`'s rows in device `c`'s heads. -/
def att (c : Dev nD) (j : Dev nD) : Blk F := attUpTo (qry I c j) (kh I c) (vh I c) 8

/-- What device `c` holds in block `s` of the sums' buffer when it sends it: the sum over the devices it has travelled through. -/
def sumv : Dev nD → ℕ → Blk F
  | c, 0 => k0_pay29 (att I c (back c 1)) (wo16 I c)
  | c, s + 1 => k0_pay30 (k0_pay4 (sumv (prv c) s) (att I c (back c (s + 2))) (wo16 I c))

theorem sumv_zero (c : Dev nD) : sumv I c 0 = k0_pay29 (att I c (back c 1)) (wo16 I c) := by unfold sumv; rfl
theorem sumv_succ (c : Dev nD) (s : ℕ) : sumv I c (s + 1) = k0_pay30 (k0_pay4 (sumv I (prv c) s) (att I c (back c (s + 2))) (wo16 I c)) := by
  rw [sumv]

/-- Device `c`'s block of the result. -/
def out (c : Dev nD) : Vec F S1x256x1024 .f32 := k0_pay1 (sumv I (prv c) 14) (att I c c) (wo16 I c)

/-! ## One head's trip of the attention loop -/

theorem att_trip {α : Type} {Q : α → sProp 𝕄} (c : Dev nD) (j : Fin 16) (q : Blk F) (kh vh : Heads F) (h : ℕ) (hh : h < 8)
    (off off' : Fin 2 → ℕ) (inb : ∀ a, off a + S256x128.size a ≤ S4096x1024.size a) (inb' : ∀ a, off' a + S256x128.size a ≤ S4096x1024.size a)
    (hoff : off = ![256 * j.val, 128 * h]) (hoff' : off' = ![256 * j.val, 128 * h])
    (offh : Fin 3 → ℕ) (inbh : ∀ a, offh a + S1x4096x128.size a ≤ S8x4096x128.size a) (hoffh : offh = ![h, 0, 0])
    (pay : Vec F S256x128 .bf16 → Vec F S1x4096x128 .bf16 → Vec F S1x4096x128 .bf16 → Vec F S256x128 .bf16) (hpay : pay = k0_pay26)
    {hl₁ : (xM : BufM).view.LoadsAt (Rect.unit (s := S4096x1024) off S256x128.size inb).toLoadRect}
    {hl₂ : kM.view.LoadsAt (Rect.unit (s := S8x4096x128) offh S1x4096x128.size inbh).toLoadRect}
    {hl₃ : vM.view.LoadsAt (Rect.unit (s := S8x4096x128) offh S1x4096x128.size inbh).toLoadRect}
    {hl₄ : (xM : BufM).view.LoadsAt (Rect.unit (s := S4096x1024) off S256x128.size inb).toLoadRect}
    {hx : (xM.access (Rect.unit (s := S4096x1024) off' S256x128.size inb')).Stores Finset.univ}
    {hm : (Finset.univ : Finset (Rect.unit (s := S4096x1024) off' S256x128.size inb').shape.Idx) = Finset.univ ∨ ∀ a, (Rect.unit (s := S4096x1024) off' S256x128.size inb').stride a = 1}
    {k : PUnit → Prog (TpuEff nD τ sig (Elt F) Λ₀ .tc) α} :
    iprop(chunk xM c j (attUpTo q kh vh h) ∗ heads kM c kh 8 ∗ heads vM c vh 8)
      ⊢ iprop(((chunk xM c j (attUpTo q kh vh (h + 1)) ∗ heads kM c kh 8 ∗ heads vM c vh 8) -∗ wpc c (k ⟨⟩) Q)
        -∗ wpc c (.op (.load xM (Rect.unit (s := S4096x1024) off S256x128.size inb).toLoadRect hl₁) fun v₁ =>
            .op (.load kM (Rect.unit (s := S8x4096x128) offh S1x4096x128.size inbh).toLoadRect hl₂) fun v₂ =>
            .op (.load vM (Rect.unit (s := S8x4096x128) offh S1x4096x128.size inbh).toLoadRect hl₃) fun v₃ =>
            .op (.load xM (Rect.unit (s := S4096x1024) off S256x128.size inb).toLoadRect hl₄) fun _ =>
            .op (.store xM (Rect.unit (s := S4096x1024) off' S256x128.size inb') (pay v₁ v₂ v₃) Finset.univ hx hm) k) Q) := by
  subst hpay
  iintro ⟨Hx, Hk, Hv⟩ HQ
  iapply (ld_col xM c j h hh _ off inb hoff) $$ Hx
  iintro Hx
  iapply (ld_head kM c kh 8 h hh hh offh inbh hoffh) $$ Hk
  iintro Hk
  iapply (ld_head vM c vh 8 h hh hh offh inbh hoffh) $$ Hv
  iintro Hv
  iapply (ld_col xM c j h hh _ off inb hoff) $$ Hx
  iintro Hx
  iapply (st_col xM c j h hh _ _ off' inb' hoff') $$ Hx
  rw [attUpTo_succ q kh vh h hh]
  iintro Hx
  iapply HQ
  isplitl [Hx]; · iexact Hx
  isplitl [Hk]; · iexact Hk
  iexact Hv

end Cert.KernelIdeal.Ring

end
-- ==== Proof.KernelIdeal.Parts1.lean ====
/-
# 01_k — `Parts1`: what the parts of the body share

Names for the kernel's arguments as one of the body's parts takes them, where a block starts, the loop over the eight heads
of a block's attention, and the attention of the device's own block.
-/
module

public import proofs.«01_k».proof.Proof.KernelIdeal.Values

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- The kernel's memories and semaphores, handed to one of its parts. -/
abbrev atArgs {β : Type 1} (P : (arg0 : Memref sig .tc .vmem S1x256x1024 .f32) → arg0.IsWhole → (arg1 : Memref sig .tc .vmem S1024x1024 .f32) → arg1.IsWhole
    → (arg2 : Memref sig .tc .vmem S1024x1024 .f32) → arg2.IsWhole → (arg3 : Memref sig .tc .hbm S1x4096x128x128 .f32) → arg3.IsWhole
    → (arg4 : Memref sig .tc .hbm S1x4096x128x128 .f32) → arg4.IsWhole → (arg5 : Memref sig .tc .vmem S1x256x1024 .f32) → arg5.IsWhole
    → (arg6 : Memref sig .tc .vmem S4096x1024 .bf16) → arg6.IsWhole → (arg7 : Memref sig .tc .vmem S4096x1024 .bf16) → arg7.IsWhole
    → (arg8 : Memref sig .tc .vmem S4096x128 .f32) → arg8.IsWhole → (arg9 : Memref sig .tc .vmem S8x4096x128 .bf16) → arg9.IsWhole
    → (arg10 : Memref sig .tc .vmem S8x4096x128 .bf16) → arg10.IsWhole → (arg11 : Memref sig .tc .vmem S1024x1024 .bf16) → arg11.IsWhole
    → (arg12 : Memref sig .tc .vmem S1024x1024 .bf16) → arg12.IsWhole → DmaSems sig S15 → DmaSems sig S15 → DmaSems sig S15 → DmaSems sig S15 → DmaSems sig S_ → β) : β :=
  P (Memref.whole cc0_stg0_0) (Memref.isWhole_whole _) (Memref.whole cc0_stg1_0) (Memref.isWhole_whole _) (Memref.whole cc0_stg2_0) (Memref.isWhole_whole _)
    (Memref.whole main_arg2) (Memref.isWhole_whole _) (Memref.whole main_arg3) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 cc0_scratch10 cc0_scratch11

/-! ## Where the exchange's blocks lie -/

theorem off2 (c : Dev nD) (r : Fin 15) : k0_off2 c (BitVec.ofNat 32 r.val) = ![256 * (back c r.val).val, 0] := by
  revert c r; decide +kernel
theorem off1 (c : Dev nD) : k0_off1 c = ![256 * c.val, 0] := k0_off1_eq c

/-- The keys' array. -/
abbrev KA : SrcM := Memref.whole main_arg2
/-- The values' array. -/
abbrev VA : SrcM := Memref.whole main_arg3

/-! ## The attention loop -/

/-- A loop whose trip `t` does head `t`'s attention on block `j` does the attention of all eight. -/
theorem att_loop {α : Type} {Q : α → sProp 𝕄} (c : Dev nD) (j : Fin 16) (q : Blk F) (kh vh : Heads F) (l : Scf.Loop 32) (hok : l.OK) (hl : l.trips = 8)
    (body : Fin l.trips → Unit → Prog (TpuEff nD τ sig (Elt F) Λ₀ .tc) Unit)
    (hbody : ∀ (t : Fin l.trips) (acc : Unit), iprop(chunk xM c j (attUpTo q kh vh t.val) ∗ heads kM c kh 8 ∗ heads vM c vh 8)
      ⊢ wpc c (body t acc) (fun _ => iprop(chunk xM c j (attUpTo q kh vh (t.val + 1)) ∗ heads kM c kh 8 ∗ heads vM c vh 8)))
    (k : Unit → Prog (TpuEff nD τ sig (Elt F) Λ₀ .tc) α) :
    iprop(chunk xM c j q ∗ heads kM c kh 8 ∗ heads vM c vh 8)
      ⊢ iprop(((chunk xM c j (attUpTo q kh vh 8) ∗ heads kM c kh 8 ∗ heads vM c vh 8) -∗ wpc c (k ⟨⟩) Q)
        -∗ wpc c (Scf.Loop.for l hok ⟨⟩ body >>= k) Q) := by
  iintro H Hk
  iapply (Scf.wp_for_bind frame (wpE (defs₀ (F := F)) 𝒱₀ (c : Thread nD τ) none) Set.univ l.lb l.ub l.st hok () body
    (fun t _ => iprop(chunk xM c j (attUpTo q kh vh t) ∗ heads kM c kh 8 ∗ heads vM c vh 8)) hbody) $$ [H]
  · rw [attUpTo_zero]; iexact H
  iintro %acc H
  iapply Hk
  rw [show Scf.trips l.lb l.ub l.st = 8 from hl]
  iexact H

/-- A program that has returned. -/
theorem ret_wpc {α : Type} {Q : α → sProp 𝕄} (c : Dev nD) (a : α) : Q a ⊢ wpc c (.ret a) Q := by
  unfold wpc
  rw [wp_ret]
  iintro H
  imodintro
  iexact H

section Parts

variable (I : Ins F) (K : Dev nD × Fin 61 → ℕ)

theorem loop1 (c : Dev nD) (v2 v7 : BitVec 32) (q : Blk F) (kh vh : Heads F) (t : Fin k0_t1_loop.trips) (acc : Unit) :
    iprop(chunk xM c c (attUpTo q kh vh t.val) ∗ heads kM c kh 8 ∗ heads vM c vh 8)
      ⊢ wpc c (atArgs (k0_t1_body (F := F)) c v2 v7 t acc) (fun _ => iprop(chunk xM c c (attUpTo q kh vh (t.val + 1)) ∗ heads kM c kh 8 ∗ heads vM c vh 8)) := by
  have ht : t.val < 8 := t.isLt
  unfold k0_t1_body
  simp only [Prog.lift, Prog.bind_op, Prog.bind_ret, Prog.pure_eq_ret, Prog.bind_assoc]
  iintro H
  iapply (att_trip c c q kh vh t.val ht _ _ _ _ (k0_off4_eq c t) (k0_off4_eq c t) _ _ (k0_off5_eq t) k0_pay26 rfl) $$ H
  iintro H
  iapply (ret_wpc c _)
  iexact H

theorem part12 (c : Dev nD) {α : Type} {Q : α → sProp 𝕄} (v2 v7 : BitVec 32) (k : PUnit → Prog (TpuEff nD τ sig (Elt F) Λ₀ .tc) α) :
    iprop(records (x16 I) (sumv I) K ∗ levAts L lv ∗ owe c (owed c 1 0) ∗ agSends c 1 ∗ poss c 4 1 ∗ zeros c 4 1
        ∗ chunk xM c (back c 1) (x16 I (back c 1)) ∗ chunk xM c c (x16 I c) ∗ heads kM c (kh I c) 8 ∗ heads vM c (vh I c) 8 ∗ buf c cc0_scratch5 (wq16 I c))
      ⊢ iprop(((owe c (owed c 2 0) ∗ agSends c 2 ∗ poss c 4 2 ∗ zeros c 4 2
        ∗ chunk xM c (back c 1) (x16 I (back c 1)) ∗ chunk xM c c (att I c c) ∗ heads kM c (kh I c) 8 ∗ heads vM c (vh I c) 8 ∗ buf c cc0_scratch5 (wq16 I c)) -∗ wpc c (k ⟨⟩) Q)
        -∗ wpc c (atArgs (k0_part12 (F := F)) c v2 v7 >>= k) Q) := by
  simp only [k0_part12_eq_skeleton]
  unfold k0_part12_skel
  simp only [Prog.lift, Prog.bind_op, Prog.bind_ret, Prog.pure_eq_ret, Prog.bind_assoc]
  iintro ⟨#HK, #Hlev, Ho, Hs, Hp, Hz, Hc1, Hc, Hkh, Hvh, Hw⟩ Hk
  iapply (send_ag (x16 I) (sumv I) K c 1 0 (by decide) _ rfl _ (Fin.ext (k0_dev4_eq c)) _ _ (ssem 4 _ _ _ 1 (by decide) rfl) (ssem 19 _ _ _ 1 (by decide) rfl)
    _ _ _ _ (off2 c 1) (off2 c 1)) $$ [Hs Hc1 Ho]
  · isplitr; · iexact HK
    isplitl [Hs]; · iexact Hs
    isplitl [Hc1]; · iexact Hc1
    iexact Ho
  iintro ⟨Hs, Hcr, Ho⟩
  iapply (ld_chunk xM c c _ _ _ (off1 c)) $$ Hc
  iintro Hc
  iapply (ld_at c (Memref.whole cc0_scratch5) _ _ (wq16 I c) (Memref.readAt_unit_zero (Elt F) cc0_scratch5 hz2 _ _)) $$ Hw
  iintro Hw
  iapply (ld_chunk xM c c _ _ _ (off1 c)) $$ Hc
  iintro Hc
  iapply (st_chunk xM c c _ _ _ _ (off1 c)) $$ Hc
  iintro Hc
  iapply (att_loop c c _ (kh I c) (vh I c) k0_t1_loop k0_t1_ok (by decide) _ (loop1 c v2 v7 _ (kh I c) (vh I c)) _) $$ [Hc Hkh Hvh]
  · isplitl [Hc]; · iexact Hc
    isplitl [Hkh]; · iexact Hkh
    iexact Hvh
  iintro ⟨Hc, Hkh, Hvh⟩
  iapply (wait_sent (x16 I) (sumv I) K c 4 1 (by decide) (Or.inl rfl) _ (pay_agS (x16 I) (sumv I) c 1 (by decide)) _ (ssem 4 _ _ _ 1 (by decide) rfl)
    _ _ rfl 2 0) $$ [Hp Hcr Hz Ho]
  · isplitr; · iexact HK
    isplitr; · iexact Hlev
    isplitl [Hp]; · iexact Hp
    isplitl [Hcr]; · iexact Hcr
    isplitl [Hz]; · iexact Hz
    iexact Ho
  iintro ⟨Hc1, Hp, Hz, Ho⟩
  iapply Hk
  isplitl [Ho]; · iexact Ho
  isplitl [Hs]; · iexact Hs
  isplitl [Hp]; · iexact Hp
  isplitl [Hz]; · iexact Hz
  isplitl [Hc1]; · iexact Hc1
  isplitl [Hc]; · iexact Hc
  isplitl [Hkh]; · iexact Hkh
  isplitl [Hvh]; · iexact Hvh
  iexact Hw

end Parts

end Cert.KernelIdeal.Ring

end
-- ==== Proof.KernelIdeal.Copies.lean ====
/-
# 01_k — `Copies`: the keys and the values

The sixteen local copies that bring eight heads of keys and eight of values in, one after another through the staging buffer,
while the first transfer of rows is under way.
-/
module

public import proofs.«01_k».proof.Proof.KernelIdeal.Parts1
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
section Copies

variable (I : Ins F)

/-- Device `c` has `a` heads of keys and `b` heads of values in place, and still owes all but the first transfer of rows. -/
def placed (c : Dev nD) (a b : ℕ) : sProp 𝕄 := iprop(owe c (owed c 1 0) ∗ heads kM c (kh I c) a ∗ heads vM c (vh I c) b)

/-- No copy is under way, and the staging buffer holds `w`. -/
def landed (c : Dev nD) (w : Vec F S4096x128 .f32) (a b : ℕ) : sProp 𝕄 :=
  iprop(placed I c a b ∗ kvIn KA c (I.k c) ∗ kvIn VA c (I.v c) ∗ staged c w ∗ semVal ((c : Thread nD τ), SemLoc.dma (dsem 64)) 0)

theorem head_lt (c : Dev nD) (r : ℕ) (hr : r < 8) : 8 * c.val + r < 128 := by have := dev_lt c; omega

/-- The copy of head `r` of the keys is under way. -/
def flyK (c : Dev nD) (r : ℕ) (hr : r < 8) (a b : ℕ) : sProp 𝕄 :=
  iprop(placed I c a b ∗ copying KA c (I.k c) (8 * c.val + r) (head_lt c r hr) ∗ kvIn VA c (I.v c))

/-- The copy of head `r` of the values is under way. -/
def flyV (c : Dev nD) (r : ℕ) (hr : r < 8) (a b : ℕ) : sProp 𝕄 :=
  iprop(placed I c a b ∗ kvIn KA c (I.k c) ∗ copying VA c (I.v c) (8 * c.val + r) (head_lt c r hr))

/-- The staging buffer's contents after head `r` of the keys has arrived. -/
abbrev keyAt (c : Dev nD) (r : ℕ) : Vec F S4096x128 .f32 := headOf (I.k c) (8 * c.val + r)
/-- The staging buffer's contents after head `r` of the values has arrived. -/
abbrev valAt (c : Dev nD) (r : ℕ) : Vec F S4096x128 .f32 := headOf (I.v c) (8 * c.val + r)

theorem mayWait_kv (c : Dev nD) : (levAts L lv : sProp 𝕄) ⊢ MayWait (c : Thread nD τ) (.dma (dsem 64)) () (owed c 1 0) :=
  mayWait_owed c _ 1 0 (fun _ => by decide) (fun _ => by decide)

theorem startK (c : Dev nD) {α : Type} {Q : α → sProp 𝕄} (w : Vec F S4096x128 .f32) (r : ℕ) (hr : r < 8) (a b : ℕ)
    (off : Fin 4 → ℕ) (inb : ∀ a, off a + S1x4096x1x128.size a ≤ S1x4096x128x128.size a) (hoff : off = ![0, 0, 8 * c.val + r, 0])
    {hsrc : (headSrc KA off inb).view.WordExact} {hdst : gM.view.WordExact} {hsem : DmaTarget.Typed (nD := nD) (τ := τ) .hbm (.dma cc0_scratch11.sem) (.here (p := (.tc : Proc τ)) gM)}
    {k : PUnit → Prog (TpuEff nD τ sig (Elt F) Λ₀ .tc) α} :
    (landed I c w a b : sProp 𝕄) ⊢ iprop((flyK I c r hr a b -∗ wpc c (k ⟨⟩) Q)
      -∗ wpc c (.op (.enqueueDma (headSrc KA off inb) (.here gM) (.dma cc0_scratch11.sem) hsrc hdst hsem) k) Q) := by
  unfold landed flyK
  iintro ⟨Hp, Hka, Hva, Hg, Hz⟩ Hk
  iapply (copy_start KA c (I.k c) w _ (head_lt c r hr) off inb hoff _ rfl) $$ [Hka Hg Hz]
  · isplitl [Hka]; · iexact Hka
    isplitl [Hg]; · iexact Hg
    iexact Hz
  iintro Hf
  iapply Hk
  isplitl [Hp]; · iexact Hp
  isplitl [Hf]; · iexact Hf
  iexact Hva

theorem startV (c : Dev nD) {α : Type} {Q : α → sProp 𝕄} (w : Vec F S4096x128 .f32) (r : ℕ) (hr : r < 8) (a b : ℕ)
    (off : Fin 4 → ℕ) (inb : ∀ a, off a + S1x4096x1x128.size a ≤ S1x4096x128x128.size a) (hoff : off = ![0, 0, 8 * c.val + r, 0])
    {hsrc : (headSrc VA off inb).view.WordExact} {hdst : gM.view.WordExact} {hsem : DmaTarget.Typed (nD := nD) (τ := τ) .hbm (.dma cc0_scratch11.sem) (.here (p := (.tc : Proc τ)) gM)}
    {k : PUnit → Prog (TpuEff nD τ sig (Elt F) Λ₀ .tc) α} :
    (landed I c w a b : sProp 𝕄) ⊢ iprop((flyV I c r hr a b -∗ wpc c (k ⟨⟩) Q)
      -∗ wpc c (.op (.enqueueDma (headSrc VA off inb) (.here gM) (.dma cc0_scratch11.sem) hsrc hdst hsem) k) Q) := by
  unfold landed flyV
  iintro ⟨Hp, Hka, Hva, Hg, Hz⟩ Hk
  iapply (copy_start VA c (I.v c) w _ (head_lt c r hr) off inb hoff _ rfl) $$ [Hva Hg Hz]
  · isplitl [Hva]; · iexact Hva
    isplitl [Hg]; · iexact Hg
    iexact Hz
  iintro Hf
  iapply Hk
  isplitl [Hp]; · iexact Hp
  isplitl [Hka]; · iexact Hka
  iexact Hf

theorem waitK (c : Dev nD) {α : Type} {Q : α → sProp 𝕄} (r : ℕ) (hr : r < 8) (a b : ℕ) (src : Memref sig .tc .hbm S4096x128 .f32)
    {hsrc : src.view.WordExact} {hdst : gM.view.WordExact} {k : PUnit → Prog (TpuEff nD τ sig (Elt F) Λ₀ .tc) α} :
    iprop(levAts L lv ∗ flyK I c r hr a b) ⊢ iprop((landed I c (keyAt I c r) a b -∗ wpc c (k ⟨⟩) Q)
      -∗ wpc c (.op (.waitDma2 cc0_scratch11.sem src gM hsrc hdst) k) Q) := by
  unfold landed flyK placed
  iintro ⟨#Hlev, ⟨Ho, Hhk, Hhv⟩, Hf, Hva⟩ Hk
  iapply (copy_wait KA c (I.k c) _ (head_lt c r hr) _ rfl src _ (mayWait_kv c)) $$ [Hf Ho]
  · isplitr; · iexact Hlev
    isplitl [Hf]; · iexact Hf
    iexact Ho
  iintro ⟨Hka, Hg, Hz, Ho⟩
  iapply Hk
  isplitl [Ho Hhk Hhv]
  · isplitl [Ho]; · iexact Ho
    isplitl [Hhk]; · iexact Hhk
    iexact Hhv
  isplitl [Hka]; · iexact Hka
  isplitl [Hva]; · iexact Hva
  isplitl [Hg]; · iexact Hg
  iexact Hz

theorem waitV (c : Dev nD) {α : Type} {Q : α → sProp 𝕄} (r : ℕ) (hr : r < 8) (a b : ℕ) (src : Memref sig .tc .hbm S4096x128 .f32)
    {hsrc : src.view.WordExact} {hdst : gM.view.WordExact} {k : PUnit → Prog (TpuEff nD τ sig (Elt F) Λ₀ .tc) α} :
    iprop(levAts L lv ∗ flyV I c r hr a b) ⊢ iprop((landed I c (valAt I c r) a b -∗ wpc c (k ⟨⟩) Q)
      -∗ wpc c (.op (.waitDma2 cc0_scratch11.sem src gM hsrc hdst) k) Q) := by
  unfold landed flyV placed
  iintro ⟨#Hlev, ⟨Ho, Hhk, Hhv⟩, Hka, Hf⟩ Hk
  iapply (copy_wait VA c (I.v c) _ (head_lt c r hr) _ rfl src _ (mayWait_kv c)) $$ [Hf Ho]
  · isplitr; · iexact Hlev
    isplitl [Hf]; · iexact Hf
    iexact Ho
  iintro ⟨Hva, Hg, Hz, Ho⟩
  iapply Hk
  isplitl [Ho Hhk Hhv]
  · isplitl [Ho]; · iexact Ho
    isplitl [Hhk]; · iexact Hhk
    iexact Hhv
  isplitl [Hka]; · iexact Hka
  isplitl [Hva]; · iexact Hva
  isplitl [Hg]; · iexact Hg
  iexact Hz

theorem ldStage (c : Dev nD) {α : Type} {Q : α → sProp 𝕄} (w : Vec F S4096x128 .f32) (a b : ℕ)
    (inb : ∀ a, (![0, 0] : Fin 2 → ℕ) a + S4096x128.size a ≤ S4096x128.size a)
    {hl : gM.view.LoadsAt (Rect.unit (s := S4096x128) ![0, 0] S4096x128.size inb).toLoadRect} {k : Vec F S4096x128 .f32 → Prog (TpuEff nD τ sig (Elt F) Λ₀ .tc) α} :
    (landed I c w a b : sProp 𝕄) ⊢ iprop((landed I c w a b -∗ wpc c (k w) Q)
      -∗ wpc c (.op (.load gM (Rect.unit (s := S4096x128) ![0, 0] S4096x128.size inb).toLoadRect hl) k) Q) := by
  unfold landed staged
  iintro ⟨Hp, Hka, Hva, Hg, Hz⟩ Hk
  iapply (ld_at c gM _ _ w (Memref.readAt_unit_zero (Elt F) cc0_scratch2 hz2 _ _)) $$ Hg
  iintro Hg
  iapply Hk
  isplitl [Hp]; · iexact Hp
  isplitl [Hka]; · iexact Hka
  isplitl [Hva]; · iexact Hva
  isplitl [Hg]; · iexact Hg
  iexact Hz

theorem ldK (c : Dev nD) {α : Type} {Q : α → sProp 𝕄} (w : Vec F S4096x128 .f32) (a b : ℕ)
    (r : Rect S8x4096x128) {hl : kM.view.LoadsAt r.toLoadRect} {k : (r.shape.Idx → Elt F .bf16) → Prog (TpuEff nD τ sig (Elt F) Λ₀ .tc) α} :
    (landed I c w a b : sProp 𝕄) ⊢ iprop((∀ v, landed I c w a b -∗ wpc c (k v) Q) -∗ wpc c (.op (.load kM r.toLoadRect hl) k) Q) := by
  unfold landed placed
  iintro ⟨⟨Ho, Hhk, Hhv⟩, Hr⟩ Hk
  iapply (ld_head_any kM c (kh I c) a r) $$ Hhk
  iintro %v Hhk
  iapply Hk
  isplitr [Hr]
  · isplitl [Ho]; · iexact Ho
    isplitl [Hhk]; · iexact Hhk
    iexact Hhv
  iexact Hr

theorem ldV (c : Dev nD) {α : Type} {Q : α → sProp 𝕄} (w : Vec F S4096x128 .f32) (a b : ℕ)
    (r : Rect S8x4096x128) {hl : vM.view.LoadsAt r.toLoadRect} {k : (r.shape.Idx → Elt F .bf16) → Prog (TpuEff nD τ sig (Elt F) Λ₀ .tc) α} :
    (landed I c w a b : sProp 𝕄) ⊢ iprop((∀ v, landed I c w a b -∗ wpc c (k v) Q) -∗ wpc c (.op (.load vM r.toLoadRect hl) k) Q) := by
  unfold landed placed
  iintro ⟨⟨Ho, Hhk, Hhv⟩, Hr⟩ Hk
  iapply (ld_head_any vM c (vh I c) b r) $$ Hhv
  iintro %v Hhv
  iapply Hk
  isplitr [Hr]
  · isplitl [Ho]; · iexact Ho
    isplitl [Hhk]; · iexact Hhk
    iexact Hhv
  iexact Hr

theorem stK (c : Dev nD) {α : Type} {Q : α → sProp 𝕄} (w : Vec F S4096x128 .f32) (a b : ℕ) (ha : a < 8)
    (p : Vec F S1x4096x128 .bf16) (hp : p = kh I c a) (off : Fin 3 → ℕ) (inb : ∀ a, off a + S1x4096x128.size a ≤ S8x4096x128.size a) (hoff : off = ![a, 0, 0])
    {hx : (kM.access (Rect.unit (s := S8x4096x128) off S1x4096x128.size inb)).Stores Finset.univ}
    {hm : (Finset.univ : Finset (Rect.unit (s := S8x4096x128) off S1x4096x128.size inb).shape.Idx) = Finset.univ ∨ ∀ a, (Rect.unit (s := S8x4096x128) off S1x4096x128.size inb).stride a = 1}
    {k : PUnit → Prog (TpuEff nD τ sig (Elt F) Λ₀ .tc) α} :
    (landed I c w a b : sProp 𝕄) ⊢ iprop((landed I c w (a + 1) b -∗ wpc c (k ⟨⟩) Q)
      -∗ wpc c (.op (.store kM (Rect.unit (s := S8x4096x128) off S1x4096x128.size inb) p Finset.univ hx hm) k) Q) := by
  unfold landed placed
  iintro ⟨⟨Ho, Hhk, Hhv⟩, Hr⟩ Hk
  iapply (st_head kM c (kh I c) a ha p hp off inb hoff) $$ Hhk
  iintro Hhk
  iapply Hk
  isplitr [Hr]
  · isplitl [Ho]; · iexact Ho
    isplitl [Hhk]; · iexact Hhk
    iexact Hhv
  iexact Hr

theorem stV (c : Dev nD) {α : Type} {Q : α → sProp 𝕄} (w : Vec F S4096x128 .f32) (a b : ℕ) (hb : b < 8)
    (p : Vec F S1x4096x128 .bf16) (hp : p = vh I c b) (off : Fin 3 → ℕ) (inb : ∀ a, off a + S1x4096x128.size a ≤ S8x4096x128.size a) (hoff : off = ![b, 0, 0])
    {hx : (vM.access (Rect.unit (s := S8x4096x128) off S1x4096x128.size inb)).Stores Finset.univ}
    {hm : (Finset.univ : Finset (Rect.unit (s := S8x4096x128) off S1x4096x128.size inb).shape.Idx) = Finset.univ ∨ ∀ a, (Rect.unit (s := S8x4096x128) off S1x4096x128.size inb).stride a = 1}
    {k : PUnit → Prog (TpuEff nD τ sig (Elt F) Λ₀ .tc) α} :
    (landed I c w a b : sProp 𝕄) ⊢ iprop((landed I c w a (b + 1) -∗ wpc c (k ⟨⟩) Q)
      -∗ wpc c (.op (.store vM (Rect.unit (s := S8x4096x128) off S1x4096x128.size inb) p Finset.univ hx hm) k) Q) := by
  unfold landed placed
  iintro ⟨⟨Ho, Hhk, Hhv⟩, Hr⟩ Hk
  iapply (st_head vM c (vh I c) b hb p hp off inb hoff) $$ Hhv
  iintro Hhv
  iapply Hk
  isplitr [Hr]
  · isplitl [Ho]; · iexact Ho
    isplitl [Hhk]; · iexact Hhk
    iexact Hhv
  iexact Hr

/-- Head `r` of the keys after its arrival: loaded, rounded and stored. -/
theorem putK (c : Dev nD) {α : Type} {Q : α → sProp 𝕄} (a b : ℕ) (ha : a < 8)
    (inb : ∀ a, (![0, 0] : Fin 2 → ℕ) a + S4096x128.size a ≤ S4096x128.size a)
    (pay : Vec F S4096x128 .f32 → Vec F S1x4096x128 .bf16) (hpay : pay = k0_pay8)
    (off : Fin 3 → ℕ) (inb' : ∀ a, off a + S1x4096x128.size a ≤ S8x4096x128.size a) (hoff : off = ![a, 0, 0])
    {hl : gM.view.LoadsAt (Rect.unit (s := S4096x128) ![0, 0] S4096x128.size inb).toLoadRect}
    {hl' : kM.view.LoadsAt (Rect.unit (s := S8x4096x128) off S1x4096x128.size inb').toLoadRect}
    {hx : (kM.access (Rect.unit (s := S8x4096x128) off S1x4096x128.size inb')).Stores Finset.univ}
    {hm : (Finset.univ : Finset (Rect.unit (s := S8x4096x128) off S1x4096x128.size inb').shape.Idx) = Finset.univ ∨ ∀ a, (Rect.unit (s := S8x4096x128) off S1x4096x128.size inb').stride a = 1}
    {k : PUnit → Prog (TpuEff nD τ sig (Elt F) Λ₀ .tc) α} :
    (landed I c (keyAt I c a) a b : sProp 𝕄) ⊢ iprop((landed I c (keyAt I c a) (a + 1) b -∗ wpc c (k ⟨⟩) Q)
      -∗ wpc c (.op (.load gM (Rect.unit (s := S4096x128) ![0, 0] S4096x128.size inb).toLoadRect hl) fun v =>
          .op (.load kM (Rect.unit (s := S8x4096x128) off S1x4096x128.size inb').toLoadRect hl') fun _ =>
          .op (.store kM (Rect.unit (s := S8x4096x128) off S1x4096x128.size inb') (pay v) Finset.univ hx hm) k) Q) := by
  iintro H Hk
  iapply (ldStage I c _ _ _ inb) $$ H
  iintro H
  iapply (ldK I c _ _ _ _) $$ H
  iintro %v H
  iapply (stK I c _ a b ha _ (by rw [hpay]; rfl) off inb' hoff) $$ H
  iexact Hk

/-- Head `r` of the values after its arrival: loaded, rounded and stored. -/
theorem putV (c : Dev nD) {α : Type} {Q : α → sProp 𝕄} (a b : ℕ) (hb : b < 8)
    (inb : ∀ a, (![0, 0] : Fin 2 → ℕ) a + S4096x128.size a ≤ S4096x128.size a)
    (pay : Vec F S4096x128 .f32 → Vec F S1x4096x128 .bf16) (hpay : pay = k0_pay8)
    (off : Fin 3 → ℕ) (inb' : ∀ a, off a + S1x4096x128.size a ≤ S8x4096x128.size a) (hoff : off = ![b, 0, 0])
    {hl : gM.view.LoadsAt (Rect.unit (s := S4096x128) ![0, 0] S4096x128.size inb).toLoadRect}
    {hl' : vM.view.LoadsAt (Rect.unit (s := S8x4096x128) off S1x4096x128.size inb').toLoadRect}
    {hx : (vM.access (Rect.unit (s := S8x4096x128) off S1x4096x128.size inb')).Stores Finset.univ}
    {hm : (Finset.univ : Finset (Rect.unit (s := S8x4096x128) off S1x4096x128.size inb').shape.Idx) = Finset.univ ∨ ∀ a, (Rect.unit (s := S8x4096x128) off S1x4096x128.size inb').stride a = 1}
    {k : PUnit → Prog (TpuEff nD τ sig (Elt F) Λ₀ .tc) α} :
    (landed I c (valAt I c b) a b : sProp 𝕄) ⊢ iprop((landed I c (valAt I c b) a (b + 1) -∗ wpc c (k ⟨⟩) Q)
      -∗ wpc c (.op (.load gM (Rect.unit (s := S4096x128) ![0, 0] S4096x128.size inb).toLoadRect hl) fun v =>
          .op (.load vM (Rect.unit (s := S8x4096x128) off S1x4096x128.size inb').toLoadRect hl') fun _ =>
          .op (.store vM (Rect.unit (s := S8x4096x128) off S1x4096x128.size inb') (pay v) Finset.univ hx hm) k) Q) := by
  iintro H Hk
  iapply (ldStage I c _ _ _ inb) $$ H
  iintro H
  iapply (ldV I c _ _ _ _) $$ H
  iintro %v H
  iapply (stV I c _ a b hb _ (by rw [hpay]; rfl) off inb' hoff) $$ H
  iexact Hk

/-- The offset of head `r`'s slice. -/
theorem off3 (c : Dev nD) (r : Fin 8) : k0_off3 c (BitVec.ofNat 32 r.val) = ![0, 0, 8 * c.val + r.val, 0] := k0_off3_eq c r

theorem part5 (c : Dev nD) {α : Type} {Q : α → sProp 𝕄} (v2 : BitVec 32) (k : PUnit → Prog (TpuEff nD τ sig (Elt F) Λ₀ .tc) α) :
    iprop(levAts L lv ∗ landed I c (keyAt I c 0) 0 0)
      ⊢ iprop((flyV I c 1 (by decide) 2 1 -∗ wpc c (k ⟨⟩) Q) -∗ wpc c (atArgs (k0_part5 (F := F)) c v2 (k0_pay8 (keyAt I c 0)) >>= k) Q) := by
  simp only [k0_part5_eq_skeleton]
  unfold k0_part5_skel
  simp only [Prog.lift, Prog.bind_op, Prog.bind_ret, Prog.pure_eq_ret, Prog.bind_assoc]
  iintro ⟨#Hlev, H⟩ Hk
  iapply (stK I c _ 0 0 (by omega) _ rfl _ _ rfl) $$ H
  iintro H
  iapply (startV I c _ 0 (by omega) _ _ _ _ (off3 c 0)) $$ H
  iintro H
  iapply (waitV I c 0 (by omega) _ _ _) $$ [H]
  · isplitr; · iexact Hlev
    iexact H
  iintro H
  iapply (putV I c _ 0 (by omega) _ k0_pay9 rfl _ _ rfl) $$ H
  iintro H
  iapply (startK I c _ 1 (by omega) _ _ _ _ (off3 c 1)) $$ H
  iintro H
  iapply (waitK I c 1 (by omega) _ _ _) $$ [H]
  · isplitr; · iexact Hlev
    iexact H
  iintro H
  iapply (putK I c 1 _ (by omega) _ k0_pay10 rfl _ _ rfl) $$ H
  iintro H
  iapply (startV I c _ 1 (by omega) _ _ _ _ (off3 c 1)) $$ H
  iintro H
  iapply Hk
  iexact H

theorem part6 (c : Dev nD) {α : Type} {Q : α → sProp 𝕄} (v2 : BitVec 32) (k : FVec F S4096x128 .bf16 → Prog (TpuEff nD τ sig (Elt F) Λ₀ .tc) α) :
    iprop(levAts L lv ∗ flyV I c 1 (by decide) 2 1)
      ⊢ iprop((landed I c (valAt I c 2) 3 2 -∗ wpc c (k (k0_pay13 (valAt I c 2))) Q) -∗ wpc c (atArgs (k0_part6 (F := F)) c v2 >>= k) Q) := by
  simp only [k0_part6_eq_skeleton]
  unfold k0_part6_skel
  simp only [Prog.lift, Prog.bind_op, Prog.bind_ret, Prog.pure_eq_ret, Prog.bind_assoc]
  iintro ⟨#Hlev, H⟩ Hk
  iapply (waitV I c 1 (by omega) _ _ _) $$ [H]
  · isplitr; · iexact Hlev
    iexact H
  iintro H
  iapply (putV I c _ 1 (by omega) _ k0_pay11 rfl _ _ rfl) $$ H
  iintro H
  iapply (startK I c _ 2 (by omega) _ _ _ _ (off3 c 2)) $$ H
  iintro H
  iapply (waitK I c 2 (by omega) _ _ _) $$ [H]
  · isplitr; · iexact Hlev
    iexact H
  iintro H
  iapply (putK I c 2 _ (by omega) _ k0_pay12 rfl _ _ rfl) $$ H
  iintro H
  iapply (startV I c _ 2 (by omega) _ _ _ _ (off3 c 2)) $$ H
  iintro H
  iapply (waitV I c 2 (by omega) _ _ _) $$ [H]
  · isplitr; · iexact Hlev
    iexact H
  iintro H
  iapply (ldStage I c _ _ _ _) $$ H
  iintro H
  iapply Hk
  iexact H

theorem part7 (c : Dev nD) {α : Type} {Q : α → sProp 𝕄} (v2 : BitVec 32) (k : PUnit → Prog (TpuEff nD τ sig (Elt F) Λ₀ .tc) α) :
    iprop(levAts L lv ∗ landed I c (valAt I c 2) 3 2)
      ⊢ iprop((landed I c (valAt I c 3) 4 4 -∗ wpc c (k ⟨⟩) Q) -∗ wpc c (atArgs (k0_part7 (F := F)) c v2 (k0_pay13 (valAt I c 2)) >>= k) Q) := by
  simp only [k0_part7_eq_skeleton]
  unfold k0_part7_skel
  simp only [Prog.lift, Prog.bind_op, Prog.bind_ret, Prog.pure_eq_ret, Prog.bind_assoc]
  iintro ⟨#Hlev, H⟩ Hk
  iapply (ldV I c _ _ _ _) $$ H
  iintro %v H
  iapply (stV I c _ _ 2 (by omega) _ rfl _ _ rfl) $$ H
  iintro H
  iapply (startK I c _ 3 (by omega) _ _ _ _ (off3 c 3)) $$ H
  iintro H
  iapply (waitK I c 3 (by omega) _ _ _) $$ [H]
  · isplitr; · iexact Hlev
    iexact H
  iintro H
  iapply (putK I c 3 _ (by omega) _ k0_pay15 rfl _ _ rfl) $$ H
  iintro H
  iapply (startV I c _ 3 (by omega) _ _ _ _ (off3 c 3)) $$ H
  iintro H
  iapply (waitV I c 3 (by omega) _ _ _) $$ [H]
  · isplitr; · iexact Hlev
    iexact H
  iintro H
  iapply (putV I c _ 3 (by omega) _ k0_pay16 rfl _ _ rfl) $$ H
  iintro H
  iapply Hk
  iexact H

theorem part8 (c : Dev nD) {α : Type} {Q : α → sProp 𝕄} (v2 : BitVec 32) (k : PUnit → Prog (TpuEff nD τ sig (Elt F) Λ₀ .tc) α) :
    iprop(levAts L lv ∗ landed I c (valAt I c 3) 4 4)
      ⊢ iprop((landed I c (keyAt I c 5) 5 5 -∗ wpc c (k ⟨⟩) Q) -∗ wpc c (atArgs (k0_part8 (F := F)) c v2 >>= k) Q) := by
  simp only [k0_part8_eq_skeleton]
  unfold k0_part8_skel
  simp only [Prog.lift, Prog.bind_op, Prog.bind_ret, Prog.pure_eq_ret, Prog.bind_assoc]
  iintro ⟨#Hlev, H⟩ Hk
  iapply (startK I c _ 4 (by omega) _ _ _ _ (off3 c 4)) $$ H
  iintro H
  iapply (waitK I c 4 (by omega) _ _ _) $$ [H]
  · isplitr; · iexact Hlev
    iexact H
  iintro H
  iapply (putK I c 4 _ (by omega) _ k0_pay17 rfl _ _ rfl) $$ H
  iintro H
  iapply (startV I c _ 4 (by omega) _ _ _ _ (off3 c 4)) $$ H
  iintro H
  iapply (waitV I c 4 (by omega) _ _ _) $$ [H]
  · isplitr; · iexact Hlev
    iexact H
  iintro H
  iapply (putV I c _ 4 (by omega) _ k0_pay18 rfl _ _ rfl) $$ H
  iintro H
  iapply (startK I c _ 5 (by omega) _ _ _ _ (off3 c 5)) $$ H
  iintro H
  iapply (waitK I c 5 (by omega) _ _ _) $$ [H]
  · isplitr; · iexact Hlev
    iexact H
  iintro H
  iapply Hk
  iexact H

theorem part9 (c : Dev nD) {α : Type} {Q : α → sProp 𝕄} (v2 : BitVec 32) (k : FVec F S1x4096x128 .bf16 → Prog (TpuEff nD τ sig (Elt F) Λ₀ .tc) α) :
    iprop(levAts L lv ∗ landed I c (keyAt I c 5) 5 5)
      ⊢ iprop((landed I c (keyAt I c 6) 6 6 -∗ wpc c (k (k0_pay21 (keyAt I c 6))) Q) -∗ wpc c (atArgs (k0_part9 (F := F)) c v2 >>= k) Q) := by
  simp only [k0_part9_eq_skeleton]
  unfold k0_part9_skel
  simp only [Prog.lift, Prog.bind_op, Prog.bind_ret, Prog.pure_eq_ret, Prog.bind_assoc]
  iintro ⟨#Hlev, H⟩ Hk
  iapply (putK I c 5 _ (by omega) _ k0_pay19 rfl _ _ rfl) $$ H
  iintro H
  iapply (startV I c _ 5 (by omega) _ _ _ _ (off3 c 5)) $$ H
  iintro H
  iapply (waitV I c 5 (by omega) _ _ _) $$ [H]
  · isplitr; · iexact Hlev
    iexact H
  iintro H
  iapply (putV I c _ 5 (by omega) _ k0_pay20 rfl _ _ rfl) $$ H
  iintro H
  iapply (startK I c _ 6 (by omega) _ _ _ _ (off3 c 6)) $$ H
  iintro H
  iapply (waitK I c 6 (by omega) _ _ _) $$ [H]
  · isplitr; · iexact Hlev
    iexact H
  iintro H
  iapply (ldStage I c _ _ _ _) $$ H
  iintro H
  iapply (ldK I c _ _ _ _) $$ H
  iintro %v H
  iapply Hk
  iexact H

theorem part10 (c : Dev nD) {α : Type} {Q : α → sProp 𝕄} (v2 : BitVec 32) (k : PUnit → Prog (TpuEff nD τ sig (Elt F) Λ₀ .tc) α) :
    iprop(levAts L lv ∗ landed I c (keyAt I c 6) 6 6)
      ⊢ iprop((flyV I c 7 (by decide) 8 7 -∗ wpc c (k ⟨⟩) Q) -∗ wpc c (atArgs (k0_part10 (F := F)) c v2 (k0_pay21 (keyAt I c 6)) >>= k) Q) := by
  simp only [k0_part10_eq_skeleton]
  unfold k0_part10_skel
  simp only [Prog.lift, Prog.bind_op, Prog.bind_ret, Prog.pure_eq_ret, Prog.bind_assoc]
  iintro ⟨#Hlev, H⟩ Hk
  iapply (stK I c _ 6 _ (by omega) _ rfl _ _ rfl) $$ H
  iintro H
  iapply (startV I c _ 6 (by omega) _ _ _ _ (off3 c 6)) $$ H
  iintro H
  iapply (waitV I c 6 (by omega) _ _ _) $$ [H]
  · isplitr; · iexact Hlev
    iexact H
  iintro H
  iapply (putV I c _ 6 (by omega) _ k0_pay22 rfl _ _ rfl) $$ H
  iintro H
  iapply (startK I c _ 7 (by omega) _ _ _ _ (off3 c 7)) $$ H
  iintro H
  iapply (waitK I c 7 (by omega) _ _ _) $$ [H]
  · isplitr; · iexact Hlev
    iexact H
  iintro H
  iapply (putK I c 7 _ (by omega) _ k0_pay23 rfl _ _ rfl) $$ H
  iintro H
  iapply (startV I c _ 7 (by omega) _ _ _ _ (off3 c 7)) $$ H
  iintro H
  iapply Hk
  iexact H

end Copies

end Cert.KernelIdeal.Ring

end
-- ==== Proof.KernelIdeal.Early.lean ====
/-
# 01_k — `Early`: the beginning of the body

The device's own rows are put in place, the neighbours meet at the barrier, the first transfer of rows starts, and the weights
are put in place.
-/
module

public import proofs.«01_k».proof.Proof.KernelIdeal.Copies
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
section Early

variable (I : Ins F) (K : Dev nD × Fin 61 → ℕ)

/-- The duties of the fifteen transfers of rows, and of the fifteen of sums. -/
def agToks (c : Dev nD) : sProp 𝕄 :=
  bigSep (Finset.Ico 0 15) fun h => iprop(dutyTok ER (cell c (4 + h)) 0 false ∗ dutyTok ER (cell (nxt c) (19 + h)) 0 false)
/-- The duties of the fifteen transfers of sums. -/
def rsToks (c : Dev nD) : sProp 𝕄 :=
  bigSep (Finset.Ico 0 15) fun h => iprop(dutyTok ER (cell c (34 + h)) 0 false ∗ dutyTok ER (cell (nxt c) (49 + h)) 0 false)

theorem sends_all (c : Dev nD) (b b' : ℕ) (M : BufM) (jd jd' : ℕ → Fin 16) (hjd : ∀ h, jd' h = jd h) :
    iprop((bigSep (Finset.Ico 0 15) fun h => iprop(dutyTok ER (cell c (b + h)) 0 false ∗ dutyTok ER (cell (nxt c) (b' + h)) 0 false))
        ∗ bigSep (Finset.Ico 0 15) fun h => anyChunk M (nxt c) (jd' h))
      ⊢ (sends c b b' M jd 0 : sProp 𝕄) := by
  unfold sends
  rw [show jd' = jd from funext hjd, ← bigSep_sep']
  exact bigSep_mono fun h _ => Idealize.SL.BI.sep_assoc

/-- The duties with the blocks they fill are the sends. -/
theorem sends_ready (c : Dev nD) : iprop(agToks c ∗ rsToks c ∗ landing (nxt c)) ⊢ (iprop(agSends c 0 ∗ rsSends c 0) : sProp 𝕄) := by
  unfold agToks rsToks landing
  iintro ⟨Ha, Hr, Hx, Hs⟩
  isplitl [Ha Hx]
  · iapply (sends_all c 4 19 xM (back c) (fun h => back (nxt c) (h + 1)) (back_nxt c))
    isplitl [Ha]; · iexact Ha
    iexact Hx
  · iapply (sends_all c 34 49 rM (fun s => slot (s + 1)) (fun s => slot (s + 1)) (fun _ => rfl))
    isplitl [Hr]; · iexact Hr
    iexact Hs

/-- The device's own rows are put in place, and the neighbours have met. -/
theorem part3 (c : Dev nD) {α : Type} {Q : α → sProp 𝕄} (v : Blk F) (k : (Σ' (d0 : Dev nD) (v2 : BitVec 32), BitVec 32) → Prog (TpuEff nD τ sig (Elt F) Λ₀ .tc) α) :
    iprop(records (x16 I) (sumv I) K ∗ levAts L lv ∗ owe c (O₀ c) ∗ dutyTok ER (barCell (prv c)) 0 true ∗ dutyTok ER (barCell (nxt c)) 0 false
        ∗ landing c ∗ cred (tallyAt (barCell c) () 2) ∗ atPos ER (barCell c) 0 ∅ 0
        ∗ buf c cc0_stg0_0 (I.x c) ∗ chunk xM c c v)
      ⊢ iprop((∀ x y, (owe c (owed c 0 0) ∗ landing (nxt c) ∗ semVal (barCell c) 0 ∗ buf c cc0_stg0_0 (I.x c) ∗ chunk xM c c (x16 I c)) -∗ wpc c (k ⟨c, x, y⟩) Q)
        -∗ wpc c (atArgs (k0_part3 (F := F)) >>= k) Q) := by
  simp only [k0_part3_eq_skeleton]
  unfold k0_part3_skel
  simp only [Prog.lift, Prog.bind_op, Prog.bind_ret, Prog.pure_eq_ret, Prog.bind_assoc, semSignalWord, semWaitWord, wp_deviceId]
  iintro ⟨#HK, #Hlev, Ho, Ht, Ht', Hl, Hc, Hat, Hx, Hch⟩ Hk
  iapply (ld_at c (Memref.whole cc0_stg0_0) _ _ (I.x c) (Memref.readAt_unit_zero (Elt F) cc0_stg0_0 hz3 _ _)) $$ Hx
  iintro Hx
  iapply (ld_chunk xM c c _ _ _ (off1 c)) $$ Hch
  iintro Hch
  iapply (st_chunk xM c c _ _ _ _ (off1 c)) $$ Hch
  iintro Hch
  iapply (signal_prv (x16 I) (sumv I) K c _ (Fin.ext (k0_dev1_eq c)) _ rfl _ (by decide)) $$ [Ho Ht Hl]
  · isplitr; · iexact HK
    isplitl [Ho]; · iexact Ho
    isplitl [Ht]; · iexact Ht
    iexact Hl
  iintro Ho
  iapply (signal_nxt (x16 I) (sumv I) K c _ (Fin.ext (k0_dev2_eq c)) _ rfl _ (by decide)) $$ [Ho Ht']
  · isplitr; · iexact HK
    isplitl [Ho]; · iexact Ho
    iexact Ht'
  iintro Ho
  iapply (wait_bar (x16 I) (sumv I) K c _ rfl _ (by decide)) $$ [Hc Ho Hat]
  · isplitr; · iexact HK
    isplitr; · iexact Hlev
    isplitl [Hc]; · iexact Hc
    isplitl [Ho]; · iexact Ho
    iexact Hat
  iintro ⟨Hl, Ho, Hz⟩
  iapply Hk
  isplitl [Ho]; · iexact Ho
  isplitl [Hl]; · iexact Hl
  isplitl [Hz]; · iexact Hz
  isplitl [Hx]; · iexact Hx
  iexact Hch

/-- The first rows are sent, the weights are put in place, and the first head of the keys arrives. -/
theorem part4 (c : Dev nD) {α : Type} {Q : α → sProp 𝕄} (v2 : BitVec 32) (f5 f6 : Vec F S1024x1024 .bf16) (w : Vec F S4096x128 .f32)
    (k : FVec F S1x4096x128 .bf16 → Prog (TpuEff nD τ sig (Elt F) Λ₀ .tc) α) :
    iprop(records (x16 I) (sumv I) K ∗ levAts L lv ∗ owe c (owed c 0 0) ∗ agSends c 0 ∗ chunk xM c c (x16 I c)
        ∗ buf c cc0_stg1_0 (I.wq c) ∗ buf c cc0_scratch5 f5 ∗ buf c cc0_stg2_0 (I.wo c) ∗ buf c cc0_scratch6 f6
        ∗ heads kM c (kh I c) 0 ∗ heads vM c (vh I c) 0 ∗ kvIn KA c (I.k c) ∗ kvIn VA c (I.v c) ∗ staged c w ∗ semVal ((c : Thread nD τ), SemLoc.dma (dsem 64)) 0)
      ⊢ iprop(((agSends c 1 ∗ cred (tallyAt (cell c 4) () N)
        ∗ buf c cc0_stg1_0 (I.wq c) ∗ buf c cc0_scratch5 (wq16 I c) ∗ buf c cc0_stg2_0 (I.wo c) ∗ buf c cc0_scratch6 (wo16 I c)
        ∗ landed I c (keyAt I c 0) 0 0) -∗ wpc c (k (k0_pay8 (keyAt I c 0))) Q)
        -∗ wpc c (atArgs (k0_part4 (F := F)) c v2 >>= k) Q) := by
  simp only [k0_part4_eq_skeleton]
  unfold k0_part4_skel
  simp only [Prog.lift, Prog.bind_op, Prog.bind_ret, Prog.pure_eq_ret, Prog.bind_assoc]
  iintro ⟨#HK, #Hlev, Ho, Hs, Hch, Hq, H5, Hw, H6, Hhk, Hhv, Hka, Hva, Hg, Hz⟩ Hk
  iapply (send_ag (x16 I) (sumv I) K c 0 0 (by omega) (x16 I (back c 0)) rfl _ (Fin.ext (k0_dev3_eq c)) _ _
    (ssem 4 _ _ _ 0 (by omega) rfl) (ssem 19 _ _ _ 0 (by omega) rfl) _ _ _ _ (off2 c 0) (off2 c 0)) $$ [Hs Hch Ho]
  · isplitr; · iexact HK
    isplitl [Hs]; · iexact Hs
    isplitl [Hch]; · rw [back_zero]; iexact Hch
    iexact Ho
  iintro ⟨Hs, Hcr, Ho⟩
  iapply (ld_at c (Memref.whole cc0_stg1_0) _ _ (I.wq c) (Memref.readAt_unit_zero (Elt F) cc0_stg1_0 hz2 _ _)) $$ Hq
  iintro Hq
  iapply (ld_at c (Memref.whole cc0_scratch5) _ _ f5 (Memref.readAt_unit_zero (Elt F) cc0_scratch5 hz2 _ _)) $$ H5
  iintro H5
  iapply (st_at c (Memref.whole cc0_scratch5) _ _ (wq16 I c) _ (Memref.write_access_unit_zero_univ (Elt F) cc0_scratch5 hz2 _ _ _)) $$ H5
  iintro H5
  iapply (ld_at c (Memref.whole cc0_stg2_0) _ _ (I.wo c) (Memref.readAt_unit_zero (Elt F) cc0_stg2_0 hz2 _ _)) $$ Hw
  iintro Hw
  iapply (ld_at c (Memref.whole cc0_scratch6) _ _ f6 (Memref.readAt_unit_zero (Elt F) cc0_scratch6 hz2 _ _)) $$ H6
  iintro H6
  iapply (st_at c (Memref.whole cc0_scratch6) _ _ (wo16 I c) _ (Memref.write_access_unit_zero_univ (Elt F) cc0_scratch6 hz2 _ _ _)) $$ H6
  iintro H6
  iapply (startK I c w 0 (by omega) 0 0 _ _ (off3 c 0)) $$ [Ho Hhk Hhv Hka Hva Hg Hz]
  · unfold landed placed
    isplitl [Ho Hhk Hhv]
    · isplitl [Ho]; · iexact Ho
      isplitl [Hhk]; · iexact Hhk
      iexact Hhv
    isplitl [Hka]; · iexact Hka
    isplitl [Hva]; · iexact Hva
    isplitl [Hg]; · iexact Hg
    iexact Hz
  iintro H
  iapply (waitK I c 0 (by omega) _ _ _) $$ [H]
  · isplitr; · iexact Hlev
    iexact H
  iintro H
  iapply (ldStage I c _ _ _ _) $$ H
  iintro H
  iapply (ldK I c _ _ _ _) $$ H
  iintro %v H
  iapply Hk
  isplitl [Hs]; · iexact Hs
  isplitl [Hcr]; · iexact Hcr
  isplitl [Hq]; · iexact Hq
  isplitl [H5]; · iexact H5
  isplitl [Hw]; · iexact Hw
  isplitl [H6]; · iexact H6
  iexact H

/-- The last head of the values is stored, and the first transfer of rows ends, here and from the device before. -/
theorem part11 (c : Dev nD) {α : Type} {Q : α → sProp 𝕄} (v2 v7 : BitVec 32) (k : PUnit → Prog (TpuEff nD τ sig (Elt F) Λ₀ .tc) α) :
    iprop(records (x16 I) (sumv I) K ∗ levAts L lv ∗ flyV I c 7 (by decide) 8 7 ∗ poss c 4 0 ∗ cred (tallyAt (cell c 4) () N) ∗ waits c 19 0)
      ⊢ iprop(((owe c (owed c 1 0) ∗ heads kM c (kh I c) 8 ∗ heads vM c (vh I c) 8 ∗ kvIn KA c (I.k c) ∗ kvIn VA c (I.v c)
          ∗ staged c (valAt I c 7) ∗ semVal ((c : Thread nD τ), SemLoc.dma (dsem 64)) 0
          ∗ poss c 4 1 ∗ zeros c 4 1 ∗ waits c 19 1 ∗ zeros c 19 1 ∗ chunk xM c c (x16 I c) ∗ chunk xM c (back c 1) (x16 I (back c 1))) -∗ wpc c (k ⟨⟩) Q)
        -∗ wpc c (atArgs (k0_part11 (F := F)) c v2 v7 >>= k) Q) := by
  simp only [k0_part11_eq_skeleton]
  unfold k0_part11_skel
  simp only [Prog.lift, Prog.bind_op, Prog.bind_ret, Prog.pure_eq_ret, Prog.bind_assoc]
  iintro ⟨#HK, #Hlev, H, Hp, Hcr, Hw⟩ Hk
  iapply (waitV I c 7 (by omega) _ _ _) $$ [H]
  · isplitr; · iexact Hlev
    iexact H
  iintro H
  iapply (putV I c _ 7 (by omega) _ k0_pay24 rfl _ _ rfl) $$ H
  unfold landed placed
  iintro ⟨⟨Ho, Hhk, Hhv⟩, Hka, Hva, Hg, Hz⟩
  iapply (wait_sent (x16 I) (sumv I) K c 4 0 (by omega) (Or.inl rfl) _ (pay_agS (x16 I) (sumv I) c 0 (by omega)) _
    (ssem 4 _ _ _ 0 (by omega) rfl) _ _ rfl 1 0) $$ [Hp Hcr Ho]
  · isplitr; · iexact HK
    isplitr; · iexact Hlev
    isplitl [Hp]; · iexact Hp
    isplitl [Hcr]; · iexact Hcr
    isplitr [Ho]; · rw [zeros_zero]; iempintro
    iexact Ho
  iintro ⟨Hc0, Hp, Hz4, Ho⟩
  iapply (wait_recv (x16 I) (sumv I) K c 19 0 (by omega) (by omega) _ (pay_agR (x16 I) (sumv I) c 0 (by omega)) _
    (ssem 19 _ _ _ 0 (by omega) rfl) _ _ rfl 1 0 (fun _ => by rw [lv_agR _ (by omega)]; omega) (fun _ => by rw [lv_agR _ (by omega)]; omega)) $$ [Hw Ho]
  · isplitr; · iexact HK
    isplitr; · iexact Hlev
    isplitl [Hw]; · iexact Hw
    isplitr [Ho]; · rw [zeros_zero]; iempintro
    iexact Ho
  iintro ⟨Hc1, Hw, Hz19, Ho⟩
  iapply Hk
  isplitl [Ho]; · iexact Ho
  isplitl [Hhk]; · iexact Hhk
  isplitl [Hhv]; · iexact Hhv
  isplitl [Hka]; · iexact Hka
  isplitl [Hva]; · iexact Hva
  isplitl [Hg]; · iexact Hg
  isplitl [Hz]; · iexact Hz
  isplitl [Hp]; · iexact Hp
  isplitl [Hz4]; · iexact Hz4
  isplitl [Hw]; · iexact Hw
  isplitl [Hz19]; · iexact Hz19
  isplitl [Hc0]; · rw [back_zero]; iexact Hc0
  iexact Hc1

end Early

end Cert.KernelIdeal.Ring

end
-- ==== Proof.KernelIdeal.Hops.lean ====
/-
# 01_k — `Hops`: the hops in the middle

From the arrival of the second block of rows to the departure of the last one sent: each hop waits for a block, sends it on,
computes its attention and adds the product with the output weights to the sum that has arrived.
-/
module

public import proofs.«01_k».proof.Proof.KernelIdeal.Parts1
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
theorem off6a (c : Dev nD) : k0_off6 c 1#32 16#32 = ![256 * (back c 1).val, 0] := by revert c; decide +kernel
theorem off6b (c : Dev nD) : k0_off6 c 14#32 32#32 = ![256 * (back c 14).val, 0] := by revert c; decide +kernel

theorem trips3 : k0_t3_loop.trips = 12 := by decide
theorem back_val2 (c : Dev nD) (t : ℕ) (ht : t < 12) : ((c.val + 30) - t) % 16 = (back c (t + 2)).val := by
  have := dev_lt c; show _ = (c.val + 15 * (t + 2)) % 16; omega
theorem back_val3 (c : Dev nD) (t : ℕ) (ht : t < 12) : ((c.val + 29) - t) % 16 = (back c (t + 3)).val := by
  have := dev_lt c; show _ = (c.val + 15 * (t + 3)) % 16; omega
theorem slot_val {n : ℕ} (h : n < 16) : (slot n).val = n := Nat.mod_eq_of_lt h

section Hops

variable (I : Ins F) (K : Dev nD × Fin 61 → ℕ)

theorem loop2 (c : Dev nD) (v2 v7 : BitVec 32) (q : Blk F) (kh vh : Heads F) (t : Fin k0_t2_loop.trips) (acc : Unit) :
    iprop(chunk xM c (back c 1) (attUpTo q kh vh t.val) ∗ heads kM c kh 8 ∗ heads vM c vh 8)
      ⊢ wpc c (atArgs (k0_t2_body (F := F)) c v2 v7 t acc) (fun _ => iprop(chunk xM c (back c 1) (attUpTo q kh vh (t.val + 1)) ∗ heads kM c kh 8 ∗ heads vM c vh 8)) := by
  have ht : t.val < 8 := t.isLt
  unfold k0_t2_body
  simp only [Prog.lift, Prog.bind_op, Prog.bind_ret, Prog.pure_eq_ret]
  iintro H
  iapply (att_trip c (back c 1) q kh vh t.val ht _ _ _ _ (k0_off7_eq c t) (k0_off7_eq c t) _ _ (k0_off8_eq t) k0_pay28 rfl) $$ H
  iintro H
  iapply (ret_wpc c _)
  iexact H

theorem loop4 (c : Dev nD) (v7 : BitVec 32) (s : Fin k0_t3_loop.trips) (a b d : BitVec 32) (e : Blk F) (q : Blk F) (kh vh : Heads F) (t : Fin k0_t4_loop.trips) (acc : Unit) :
    iprop(chunk xM c (back c (s.val + 2)) (attUpTo q kh vh t.val) ∗ heads kM c kh 8 ∗ heads vM c vh 8)
      ⊢ wpc c (atArgs (k0_t4_body (F := F)) c v7 s a b d e t acc) (fun _ => iprop(chunk xM c (back c (s.val + 2)) (attUpTo q kh vh (t.val + 1)) ∗ heads kM c kh 8 ∗ heads vM c vh 8)) := by
  have ht : t.val < 8 := t.isLt
  have hs : s.val < 12 := s.isLt
  have ho := k0_off14_eq c s t
  rw [back_val2 c s.val hs] at ho
  unfold k0_t4_body
  simp only [Prog.lift, Prog.bind_op, Prog.bind_ret, Prog.pure_eq_ret]
  iintro H
  iapply (att_trip c (back c (s.val + 2)) q kh vh t.val ht _ _ _ _ ho ho _ _ (k0_off15_eq t) k0_pay3 rfl) $$ H
  iintro H
  iapply (ret_wpc c _)
  iexact H

/-- The arrival of block `c - 2`, its sending on, and the attention of block `c - 1`. -/
theorem part13 (c : Dev nD) {α : Type} {Q : α → sProp 𝕄} (v2 v7 : BitVec 32) (k : BitVec 32 → Prog (TpuEff nD τ sig (Elt F) Λ₀ .tc) α) :
    iprop(records (x16 I) (sumv I) K ∗ levAts L lv ∗ owe c (owed c 2 0) ∗ agSends c 2 ∗ waits c 19 1 ∗ zeros c 19 1
        ∗ chunk xM c (back c 1) (x16 I (back c 1)) ∗ heads kM c (kh I c) 8 ∗ heads vM c (vh I c) 8 ∗ buf c cc0_scratch5 (wq16 I c))
      ⊢ iprop((∀ v, (owe c (owed c 3 0) ∗ agSends c 3 ∗ cred (tallyAt (cell c (4 + 2)) () N) ∗ waits c 19 2 ∗ zeros c 19 2
        ∗ chunk xM c (back c 1) (att I c (back c 1)) ∗ heads kM c (kh I c) 8 ∗ heads vM c (vh I c) 8 ∗ buf c cc0_scratch5 (wq16 I c)) -∗ wpc c (k v) Q)
        -∗ wpc c (atArgs (k0_part13 (F := F)) c v2 v7 >>= k) Q) := by
  simp only [k0_part13_eq_skeleton]
  unfold k0_part13_skel
  simp only [Prog.lift, Prog.bind_op, Prog.bind_ret, Prog.pure_eq_ret, Prog.bind_assoc]
  iintro ⟨#HK, #Hlev, Ho, Hs, Hw, Hz, Hc, Hkh, Hvh, Hq⟩ Hk
  iapply (wait_recv (x16 I) (sumv I) K c 19 1 (by decide) (by decide) _ (pay_agR (x16 I) (sumv I) c 1 (by decide)) _ (ssem 19 _ _ _ 1 (by decide) rfl)
    _ _ rfl 2 0 (fun _ => by rw [lv_agR 1 (by decide)]; decide) (fun _ => by rw [lv_agR 1 (by decide)]; decide)) $$ [Hw Hz Ho]
  · isplitr; · iexact HK
    isplitr; · iexact Hlev
    isplitl [Hw]; · iexact Hw
    isplitl [Hz]; · iexact Hz
    iexact Ho
  iintro ⟨Hn, Hw, Hz, Ho⟩
  iapply (send_ag (x16 I) (sumv I) K c 2 0 (by decide) _ rfl _ (Fin.ext (k0_dev5_eq c)) _ _ (ssem 4 _ _ _ 2 (by decide) rfl) (ssem 19 _ _ _ 2 (by decide) rfl)
    _ _ _ _ (off2 c 2) (off2 c 2)) $$ [Hs Hn Ho]
  · isplitr; · iexact HK
    isplitl [Hs]; · iexact Hs
    isplitl [Hn]; · iexact Hn
    iexact Ho
  iintro ⟨Hs, Hcr, Ho⟩
  iapply (ld_chunk xM c (back c 1) _ _ _ (off6a c)) $$ Hc
  iintro Hc
  iapply (ld_at c (Memref.whole cc0_scratch5) _ _ (wq16 I c) (Memref.readAt_unit_zero (Elt F) cc0_scratch5 hz2 _ _)) $$ Hq
  iintro Hq
  iapply (ld_chunk xM c (back c 1) _ _ _ (off6a c)) $$ Hc
  iintro Hc
  iapply (st_chunk xM c (back c 1) _ _ _ _ (off6a c)) $$ Hc
  iintro Hc
  iapply (att_loop c (back c 1) _ (kh I c) (vh I c) k0_t2_loop k0_t2_ok (by decide) _ (loop2 c v2 v7 _ (kh I c) (vh I c)) _) $$ [Hc Hkh Hvh]
  · isplitl [Hc]; · iexact Hc
    isplitl [Hkh]; · iexact Hkh
    iexact Hvh
  iintro ⟨Hc, Hkh, Hvh⟩
  iapply Hk
  isplitl [Ho]; · iexact Ho
  isplitl [Hs]; · iexact Hs
  isplitl [Hcr]; · iexact Hcr
  isplitl [Hw]; · iexact Hw
  isplitl [Hz]; · iexact Hz
  isplitl [Hc]; · iexact Hc
  isplitl [Hkh]; · iexact Hkh
  isplitl [Hvh]; · iexact Hvh
  iexact Hq

/-- Hop `t + 2`'s exchange of the first buffer. -/
theorem part1 (c : Dev nD) {α : Type} {Q : α → sProp 𝕄} (v2 v7 a b : BitVec 32) (t : Fin k0_t3_loop.trips)
    (k : (Σ' (arg18 : BitVec 32) (v446 : BitVec 32) (v447 : BitVec 32), Vec F S256x1024 .bf16) → Prog (TpuEff nD τ sig (Elt F) Λ₀ .tc) α) :
    iprop(records (x16 I) (sumv I) K ∗ levAts L lv ∗ owe c (owed c (t.val + 3) (t.val + 1)) ∗ agSends c (t.val + 3) ∗ cred (tallyAt (cell c (4 + (t.val + 2))) () N)
        ∗ poss c 4 (t.val + 2) ∗ zeros c 4 (t.val + 2) ∗ waits c 19 (t.val + 2) ∗ zeros c 19 (t.val + 2))
      ⊢ iprop((∀ x y z, (owe c (owed c (t.val + 4) (t.val + 1)) ∗ agSends c (t.val + 4) ∗ cred (tallyAt (cell c (4 + (t.val + 3))) () N)
        ∗ poss c 4 (t.val + 3) ∗ zeros c 4 (t.val + 3) ∗ waits c 19 (t.val + 3) ∗ zeros c 19 (t.val + 3) ∗ chunk xM c (back c (t.val + 2)) (x16 I (back c (t.val + 2))))
          -∗ wpc c (k ⟨x, y, z, x16 I (back c (t.val + 2))⟩) Q)
        -∗ wpc c (atArgs (k0_part1 (F := F)) c v2 v7 a b t >>= k) Q) := by
  have ht : t.val < 12 := t.isLt
  have h12 := k0_off12_eq c t
  have h13 := k0_off13_eq c t
  rw [back_val3 c t.val ht] at h12
  rw [back_val2 c t.val ht] at h13
  simp only [k0_part1_eq_skeleton]
  unfold k0_part1_skel
  simp only [Prog.lift, Prog.bind_op, Prog.bind_ret, Prog.pure_eq_ret, Prog.bind_assoc]
  iintro ⟨#HK, #Hlev, Ho, Hs, Hcr, Hp, Hz, Hw, Hzw⟩ Hk
  iapply (wait_sent (x16 I) (sumv I) K c 4 (t.val + 2) (by omega) (Or.inl rfl) _ (pay_agS (x16 I) (sumv I) c (t.val + 2) (by omega)) _
    (ssem 4 _ _ _ (t.val + 2) (by omega) (k0_off9_eq t)) _ _ rfl (t.val + 3) (t.val + 1)) $$ [Hp Hcr Hz Ho]
  · isplitr; · iexact HK
    isplitr; · iexact Hlev
    isplitl [Hp]; · iexact Hp
    isplitl [Hcr]; · iexact Hcr
    isplitl [Hz]; · iexact Hz
    iexact Ho
  iintro ⟨Hc, Hp, Hz, Ho⟩
  iapply (wait_recv (x16 I) (sumv I) K c 19 (t.val + 2) (by omega) (by omega) _ (pay_agR (x16 I) (sumv I) c (t.val + 2) (by omega)) _
    (ssem 19 _ _ _ (t.val + 2) (by omega) (k0_off9_eq t)) _ _ rfl (t.val + 3) (t.val + 1)
    (fun _ => by rw [lv_agR _ (by omega)]; omega) (fun _ => by rw [lv_agR _ (by omega)]; omega)) $$ [Hw Hzw Ho]
  · isplitr; · iexact HK
    isplitr; · iexact Hlev
    isplitl [Hw]; · iexact Hw
    isplitl [Hzw]; · iexact Hzw
    iexact Ho
  iintro ⟨Hn, Hw, Hzw, Ho⟩
  iapply (send_ag (x16 I) (sumv I) K c (t.val + 3) (t.val + 1) (by omega) _ rfl _ (Fin.ext (k0_dev7_eq c)) _ _ (ssem 4 _ _ _ (t.val + 3) (by omega) (k0_off11_eq t))
    (ssem 19 _ _ _ (t.val + 3) (by omega) (k0_off11_eq t)) _ _ _ _ h12 h12) $$ [Hs Hn Ho]
  · isplitr; · iexact HK
    isplitl [Hs]; · iexact Hs
    isplitl [Hn]; · iexact Hn
    iexact Ho
  iintro ⟨Hs, Hcr, Ho⟩
  iapply (ld_chunk xM c (back c (t.val + 2)) _ _ _ h13) $$ Hc
  iintro Hc
  iapply Hk
  isplitl [Ho]; · iexact Ho
  isplitl [Hs]; · iexact Hs
  isplitl [Hcr]; · iexact Hcr
  isplitl [Hp]; · iexact Hp
  isplitl [Hz]; · iexact Hz
  isplitl [Hw]; · iexact Hw
  isplitl [Hzw]; · iexact Hzw
  iexact Hc

/-- Hop `t + 2`'s attention, and the arrival of the sum it is added to. -/
theorem part2 (c : Dev nD) {α : Type} {Q : α → sProp 𝕄} (v7 x y z : BitVec 32) (t : Fin k0_t3_loop.trips)
    (k : (Σ' (v459 : BitVec 32), FVec F S256x1024 .bf16) → Prog (TpuEff nD τ sig (Elt F) Λ₀ .tc) α) :
    iprop(records (x16 I) (sumv I) K ∗ levAts L lv ∗ owe c (owed c (t.val + 4) (t.val + 1)) ∗ waits c 49 t.val ∗ zeros c 49 t.val
        ∗ chunk xM c (back c (t.val + 2)) (x16 I (back c (t.val + 2))) ∗ heads kM c (kh I c) 8 ∗ heads vM c (vh I c) 8 ∗ buf c cc0_scratch5 (wq16 I c) ∗ buf c cc0_scratch6 (wo16 I c))
      ⊢ iprop((∀ w, (owe c (owed c (t.val + 4) (t.val + 1)) ∗ waits c 49 (t.val + 1) ∗ zeros c 49 (t.val + 1)
        ∗ chunk xM c (back c (t.val + 2)) (att I c (back c (t.val + 2))) ∗ heads kM c (kh I c) 8 ∗ heads vM c (vh I c) 8 ∗ buf c cc0_scratch5 (wq16 I c) ∗ buf c cc0_scratch6 (wo16 I c)
        ∗ chunk rM c (slot (t.val + 1)) (sumv I (prv c) t.val))
          -∗ wpc c (k ⟨w, k0_pay4 (sumv I (prv c) t.val) (att I c (back c (t.val + 2))) (wo16 I c)⟩) Q)
        -∗ wpc c (atArgs (k0_part2 (F := F)) c v7 t x y z (x16 I (back c (t.val + 2))) >>= k) Q) := by
  have ht : t.val < 12 := t.isLt
  have h13 := k0_off13_eq c t
  rw [back_val2 c t.val ht] at h13
  have h19 : k0_off19 t = ![256 * (slot (t.val + 1)).val, 0] := by rw [slot_val (by omega)]; exact k0_off19_eq t
  simp only [k0_part2_eq_skeleton]
  unfold k0_part2_skel
  simp only [Prog.lift, Prog.bind_op, Prog.bind_ret, Prog.pure_eq_ret, Prog.bind_assoc]
  iintro ⟨#HK, #Hlev, Ho, Hw, Hz, Hc, Hkh, Hvh, Hq, Hwo⟩ Hk
  iapply (ld_at c (Memref.whole cc0_scratch5) _ _ (wq16 I c) (Memref.readAt_unit_zero (Elt F) cc0_scratch5 hz2 _ _)) $$ Hq
  iintro Hq
  iapply (ld_chunk xM c (back c (t.val + 2)) _ _ _ h13) $$ Hc
  iintro Hc
  iapply (st_chunk xM c (back c (t.val + 2)) _ _ _ _ h13) $$ Hc
  iintro Hc
  iapply (att_loop c (back c (t.val + 2)) _ (kh I c) (vh I c) k0_t4_loop k0_t4_ok (by decide) _ (loop4 c v7 t _ _ _ _ _ (kh I c) (vh I c)) _) $$ [Hc Hkh Hvh]
  · isplitl [Hc]; · iexact Hc
    isplitl [Hkh]; · iexact Hkh
    iexact Hvh
  rw [show attUpTo (k0_pay2 (x16 I (back c (t.val + 2))) (wq16 I c)) (kh I c) (vh I c) 8 = att I c (back c (t.val + 2)) from rfl]
  iintro ⟨Hc, Hkh, Hvh⟩
  iapply (wait_recv (x16 I) (sumv I) K c 49 t.val (by omega) (by omega) _ (pay_rsR (x16 I) (sumv I) c t.val (by omega)) _
    (ssem 49 _ _ _ t.val (by omega) (k0_off16_eq t)) _ _ rfl (t.val + 4) (t.val + 1)
    (fun _ => by rw [lv_rsR _ (by omega)]; omega) (fun _ => by rw [lv_rsR _ (by omega)]; omega)) $$ [Hw Hz Ho]
  · isplitr; · iexact HK
    isplitr; · iexact Hlev
    isplitl [Hw]; · iexact Hw
    isplitl [Hz]; · iexact Hz
    iexact Ho
  iintro ⟨Hr, Hw, Hz, Ho⟩
  iapply (ld_chunk rM c (slot (t.val + 1)) _ _ _ h19) $$ Hr
  iintro Hr
  iapply (ld_chunk xM c (back c (t.val + 2)) _ _ _ h13) $$ Hc
  iintro Hc
  iapply (ld_at c (Memref.whole cc0_scratch6) _ _ (wo16 I c) (Memref.readAt_unit_zero (Elt F) cc0_scratch6 hz2 _ _)) $$ Hwo
  iintro Hwo
  iapply Hk
  isplitl [Ho]; · iexact Ho
  isplitl [Hw]; · iexact Hw
  isplitl [Hz]; · iexact Hz
  isplitl [Hc]; · iexact Hc
  isplitl [Hkh]; · iexact Hkh
  isplitl [Hvh]; · iexact Hvh
  isplitl [Hq]; · iexact Hq
  isplitl [Hwo]; · iexact Hwo
  iexact Hr

/-- What hop `t + 2` finds of the protocol and of the memory. -/
def hopInv (c : Dev nD) (t : ℕ) : sProp 𝕄 :=
  iprop(owe c (owed c (t + 3) (t + 1)) ∗ agSends c (t + 3) ∗ cred (tallyAt (cell c (4 + (t + 2))) () N)
    ∗ poss c 4 (t + 2) ∗ zeros c 4 (t + 2) ∗ waits c 19 (t + 2) ∗ zeros c 19 (t + 2)
    ∗ waits c 49 t ∗ zeros c 49 t ∗ rsSends c (t + 1) ∗ creds c 0 (t + 1)
    ∗ heads kM c (kh I c) 8 ∗ heads vM c (vh I c) 8 ∗ buf c cc0_scratch5 (wq16 I c) ∗ buf c cc0_scratch6 (wo16 I c)
    ∗ bigSep (Finset.range (t + 1)) fun k => anyChunk xM c (back c (k + 1)))

theorem hop (c : Dev nD) (v2 v7 v : BitVec 32) (t : Fin k0_t3_loop.trips) (acc : Unit) :
    iprop(records (x16 I) (sumv I) K ∗ levAts L lv ∗ hopInv I c t.val)
      ⊢ wpc c (atArgs (k0_t3_body (F := F)) c v2 v7 v t acc) (fun _ => iprop(records (x16 I) (sumv I) K ∗ levAts L lv ∗ hopInv I c (t.val + 1))) := by
  have ht : t.val < 12 := t.isLt
  have h19 : k0_off19 t = ![256 * (slot (t.val + 1)).val, 0] := by rw [slot_val (by omega)]; exact k0_off19_eq t
  unfold k0_t3_body hopInv
  simp only [Prog.lift, Prog.bind_op, Prog.bind_ret, Prog.pure_eq_ret, Prog.bind_assoc]
  iintro ⟨#HK, #Hlev, Ho, Hs, Hcr, Hp, Hz, Hw, Hzw, Hw', Hz', Hs', Hcs, Hkh, Hvh, Hq, Hwo, Hdone⟩
  iapply (part1 I K c v2 v7 _ _ t _) $$ [Ho Hs Hcr Hp Hz Hw Hzw]
  · isplitr; · iexact HK
    isplitr; · iexact Hlev
    isplitl [Ho]; · iexact Ho
    isplitl [Hs]; · iexact Hs
    isplitl [Hcr]; · iexact Hcr
    isplitl [Hp]; · iexact Hp
    isplitl [Hz]; · iexact Hz
    isplitl [Hw]; · iexact Hw
    iexact Hzw
  iintro %x %y %z ⟨Ho, Hs, Hcr, Hp, Hz, Hw, Hzw, Hc⟩
  iapply (part2 I K c v7 _ _ _ t _) $$ [Ho Hw' Hz' Hc Hkh Hvh Hq Hwo]
  · isplitr; · iexact HK
    isplitr; · iexact Hlev
    isplitl [Ho]; · iexact Ho
    isplitl [Hw']; · iexact Hw'
    isplitl [Hz']; · iexact Hz'
    isplitl [Hc]; · iexact Hc
    isplitl [Hkh]; · iexact Hkh
    isplitl [Hvh]; · iexact Hvh
    isplitl [Hq]; · iexact Hq
    iexact Hwo
  iintro %w ⟨Ho, Hw', Hz', Hc, Hkh, Hvh, Hq, Hwo, Hr⟩
  iapply (ld_chunk rM c (slot (t.val + 1)) _ _ _ h19) $$ Hr
  iintro Hr
  iapply (st_chunk rM c (slot (t.val + 1)) _ _ _ _ h19) $$ Hr
  iintro Hr
  iapply (send_rs (x16 I) (sumv I) K c (t.val + 1) (t.val + 4) (by omega) _ (sumv_succ I c t.val).symm _ (Fin.ext (k0_dev8_eq c)) _ _
    (ssem 34 _ _ _ (t.val + 1) (by omega) (k0_off20_eq t)) (ssem 49 _ _ _ (t.val + 1) (by omega) (k0_off20_eq t)) _ _ _ _
    (k0_off22_eq t) (k0_off21_eq t)) $$ [Hs' Hr Ho Hcs]
  · isplitr; · iexact HK
    isplitl [Hs']; · iexact Hs'
    isplitl [Hr]; · iexact Hr
    isplitl [Ho]; · iexact Ho
    iexact Hcs
  iintro ⟨Hs', Ho, Hcs⟩
  iapply (ret_wpc c _)
  rw [bigSep_range_succ (t.val + 1)]
  isplitr; · iexact HK
  isplitr; · iexact Hlev
  isplitl [Ho]; · iexact Ho
  isplitl [Hs]; · iexact Hs
  isplitl [Hcr]; · iexact Hcr
  isplitl [Hp]; · iexact Hp
  isplitl [Hz]; · iexact Hz
  isplitl [Hw]; · iexact Hw
  isplitl [Hzw]; · iexact Hzw
  isplitl [Hw']; · iexact Hw'
  isplitl [Hz']; · iexact Hz'
  isplitl [Hs']; · iexact Hs'
  isplitl [Hcs]; · iexact Hcs
  isplitl [Hkh]; · iexact Hkh
  isplitl [Hvh]; · iexact Hvh
  isplitl [Hq]; · iexact Hq
  isplitl [Hwo]; · iexact Hwo
  isplitl [Hc]; · iapply (chunk_any xM c _ _); iexact Hc
  iexact Hdone

/-- The first sum's sending, the twelve hops in between, and the departure of the last block sent. -/
theorem part14 (c : Dev nD) {α : Type} {Q : α → sProp 𝕄} (v2 v7 v : BitVec 32) (w : Blk F) (k : BitVec 32 → Prog (TpuEff nD τ sig (Elt F) Λ₀ .tc) α) :
    iprop(records (x16 I) (sumv I) K ∗ levAts L lv ∗ owe c (owed c 3 0) ∗ agSends c 3 ∗ cred (tallyAt (cell c (4 + 2)) () N)
        ∗ poss c 4 2 ∗ zeros c 4 2 ∗ waits c 19 2 ∗ zeros c 19 2 ∗ waits c 49 0 ∗ rsSends c 0
        ∗ chunk xM c (back c 1) (att I c (back c 1)) ∗ chunk rM c (slot 0) w
        ∗ heads kM c (kh I c) 8 ∗ heads vM c (vh I c) 8 ∗ buf c cc0_scratch5 (wq16 I c) ∗ buf c cc0_scratch6 (wo16 I c))
      ⊢ iprop((∀ v, (owe c (owed c 15 13) ∗ poss c 4 15 ∗ zeros c 4 15 ∗ waits c 19 14 ∗ zeros c 19 14 ∗ waits c 49 12 ∗ zeros c 49 12 ∗ rsSends c 13 ∗ creds c 0 13
        ∗ chunk xM c (back c 14) (x16 I (back c 14))
        ∗ heads kM c (kh I c) 8 ∗ heads vM c (vh I c) 8 ∗ buf c cc0_scratch5 (wq16 I c) ∗ buf c cc0_scratch6 (wo16 I c)
        ∗ bigSep (Finset.range 13) fun k => anyChunk xM c (back c (k + 1))) -∗ wpc c (k v) Q)
        -∗ wpc c (atArgs (k0_part14 (F := F)) c v2 v7 v >>= k) Q) := by
  simp only [k0_part14_eq_skeleton]
  unfold k0_part14_skel
  simp only [Prog.lift, Prog.bind_op, Prog.bind_ret, Prog.pure_eq_ret, Prog.bind_assoc]
  iintro ⟨#HK, #Hlev, Ho, Hs, Hcr, Hp, Hz, Hw, Hzw, Hw', Hs', Hc, Hr, Hkh, Hvh, Hq, Hwo⟩ Hk
  iapply (ld_chunk xM c (back c 1) _ _ _ (off6a c)) $$ Hc
  iintro Hc
  iapply (ld_at c (Memref.whole cc0_scratch6) _ _ (wo16 I c) (Memref.readAt_unit_zero (Elt F) cc0_scratch6 hz2 _ _)) $$ Hwo
  iintro Hwo
  iapply (ld_chunk rM c (slot 0) _ _ _ rfl) $$ Hr
  iintro Hr
  iapply (st_chunk rM c (slot 0) _ _ _ _ rfl) $$ Hr
  iintro Hr
  iapply (send_rs (x16 I) (sumv I) K c 0 3 (by omega) _ (sumv_zero I c).symm _ (Fin.ext (k0_dev6_eq c)) _ _
    (ssem 34 _ _ _ 0 (by omega) rfl) (ssem 49 _ _ _ 0 (by omega) rfl) _ _ _ _ rfl rfl) $$ [Hs' Hr Ho]
  · rw [creds_self]
    isplitr; · iexact HK
    isplitl [Hs']; · iexact Hs'
    isplitl [Hr]; · iexact Hr
    isplitl [Ho]; · iexact Ho
    iempintro
  iintro ⟨Hs', Ho, Hcs⟩
  iapply (Scf.wp_for_bind frame (wpE (defs₀ (F := F)) 𝒱₀ (c : Thread nD τ) none) Set.univ k0_t3_loop.lb k0_t3_loop.ub k0_t3_loop.st k0_t3_ok () _
    (fun t _ => iprop(records (x16 I) (sumv I) K ∗ levAts L lv ∗ hopInv I c t)) (hop I K c v2 v7 v)) $$ [Ho Hs Hcr Hp Hz Hw Hzw Hw' Hs' Hcs Hc Hkh Hvh Hq Hwo]
  · isplitr; · iexact HK
    isplitr; · iexact Hlev
    unfold hopInv
    rw [zeros_zero, bigSep_range_succ 0, Finset.range_zero, bigSep_empty]
    isplitl [Ho]; · iexact Ho
    isplitl [Hs]; · iexact Hs
    isplitl [Hcr]; · iexact Hcr
    isplitl [Hp]; · iexact Hp
    isplitl [Hz]; · iexact Hz
    isplitl [Hw]; · iexact Hw
    isplitl [Hzw]; · iexact Hzw
    isplitl [Hw']; · iexact Hw'
    isplitr; · iempintro
    isplitl [Hs']; · iexact Hs'
    isplitl [Hcs]; · iexact Hcs
    isplitl [Hkh]; · iexact Hkh
    isplitl [Hvh]; · iexact Hvh
    isplitl [Hq]; · iexact Hq
    isplitl [Hwo]; · iexact Hwo
    isplitl [Hc]; · iapply (chunk_any xM c _ _); iexact Hc
    iempintro
  iintro %acc ⟨-, -, H⟩
  rw [show Scf.trips k0_t3_loop.lb k0_t3_loop.ub k0_t3_loop.st = 12 from trips3]
  unfold hopInv
  icases H with ⟨Ho, Hs, Hcr, Hp, Hz, Hw, Hzw, Hw', Hz', Hs', Hcs, Hkh, Hvh, Hq, Hwo, Hdone⟩
  iapply (wait_sent (x16 I) (sumv I) K c 4 14 (by omega) (Or.inl rfl) _ (pay_agS (x16 I) (sumv I) c 14 (by omega)) _
    (ssem 4 _ _ _ 14 (by omega) rfl) _ _ rfl 15 13) $$ [Hp Hcr Hz Ho]
  · isplitr; · iexact HK
    isplitr; · iexact Hlev
    isplitl [Hp]; · iexact Hp
    isplitl [Hcr]; · iexact Hcr
    isplitl [Hz]; · iexact Hz
    iexact Ho
  iintro ⟨Hc, Hp, Hz, Ho⟩
  rw [show (agSends c (12 + 3) : sProp 𝕄) = iprop(emp) from sends_end c 4 19 xM (back c)]
  iapply Hk
  isplitl [Ho]; · iexact Ho
  isplitl [Hp]; · iexact Hp
  isplitl [Hz]; · iexact Hz
  isplitl [Hw]; · iexact Hw
  isplitl [Hzw]; · iexact Hzw
  isplitl [Hw']; · iexact Hw'
  isplitl [Hz']; · iexact Hz'
  isplitl [Hs']; · iexact Hs'
  isplitl [Hcs]; · iexact Hcs
  isplitl [Hc]; · iexact Hc
  isplitl [Hkh]; · iexact Hkh
  isplitl [Hvh]; · iexact Hvh
  isplitl [Hq]; · iexact Hq
  isplitl [Hwo]; · iexact Hwo
  iexact Hdone

end Hops

end Cert.KernelIdeal.Ring

end
-- ==== Proof.KernelIdeal.Tail.lean ====
/-
# 01_k — `Tail`: the last hops

The last block of rows arrives, the last sums are sent and received, the result is stored, and every transfer of sums
is waited for.
-/
module

public import proofs.«01_k».proof.Proof.KernelIdeal.Hops
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
theorem back_val15 (c : Dev nD) : (c.val + 1) % 16 = (back c 15).val := by show _ = (c.val + 15 * 15) % 16; omega
theorem back_val14 (c : Dev nD) : (c.val + 18) % 16 = (back c 14).val := by show _ = (c.val + 15 * 14) % 16; omega
theorem off25 (c : Dev nD) : k0_off25 c = ![256 * (back c 15).val, 0] := by rw [← back_val15]; exact k0_off25_eq c

section Tail

variable (I : Ins F) (K : Dev nD × Fin 61 → ℕ)

theorem loop5 (c : Dev nD) (v2 v7 v : BitVec 32) (q : Blk F) (kh vh : Heads F) (t : Fin k0_t5_loop.trips) (acc : Unit) :
    iprop(chunk xM c (back c 14) (attUpTo q kh vh t.val) ∗ heads kM c kh 8 ∗ heads vM c vh 8)
      ⊢ wpc c (atArgs (k0_t5_body (F := F)) c v2 v7 v t acc) (fun _ => iprop(chunk xM c (back c 14) (attUpTo q kh vh (t.val + 1)) ∗ heads kM c kh 8 ∗ heads vM c vh 8)) := by
  have ht : t.val < 8 := t.isLt
  have ho := k0_off23_eq c t
  rw [back_val14 c] at ho
  unfold k0_t5_body
  simp only [Prog.lift, Prog.bind_op, Prog.bind_ret, Prog.pure_eq_ret]
  iintro H
  iapply (att_trip c (back c 14) q kh vh t.val ht _ _ _ _ ho ho _ _ (k0_off24_eq t) k0_pay32 rfl) $$ H
  iintro H
  iapply (ret_wpc c _)
  iexact H

theorem loop6 (c : Dev nD) (v7 x y z : BitVec 32) (q : Blk F) (kh vh : Heads F) (t : Fin k0_t6_loop.trips) (acc : Unit) :
    iprop(chunk xM c (back c 15) (attUpTo q kh vh t.val) ∗ heads kM c kh 8 ∗ heads vM c vh 8)
      ⊢ wpc c (atArgs (k0_t6_body (F := F)) c v7 x y z t acc) (fun _ => iprop(chunk xM c (back c 15) (attUpTo q kh vh (t.val + 1)) ∗ heads kM c kh 8 ∗ heads vM c vh 8)) := by
  have ht : t.val < 8 := t.isLt
  have ho := k0_off26_eq c t
  rw [back_val15 c] at ho
  unfold k0_t6_body
  simp only [Prog.lift, Prog.bind_op, Prog.bind_ret, Prog.pure_eq_ret]
  iintro H
  iapply (att_trip c (back c 15) q kh vh t.val ht _ _ _ _ ho ho _ _ (k0_off27_eq t) k0_pay36 rfl) $$ H
  iintro H
  iapply (ret_wpc c _)
  iexact H

/-- The last arrival of rows, the attention of block `c - 14`, and the arrival of the sum it is added to. -/
theorem part15 (c : Dev nD) {α : Type} {Q : α → sProp 𝕄} (v2 v7 v : BitVec 32)
    (k : (Σ' (v320 : BitVec 32) (v340 : FVec F S256x1024 .f32), BitVec 32) → Prog (TpuEff nD τ sig (Elt F) Λ₀ .tc) α) :
    iprop(records (x16 I) (sumv I) K ∗ levAts L lv ∗ owe c (owed c 15 13) ∗ waits c 19 14 ∗ zeros c 19 14 ∗ waits c 49 12 ∗ zeros c 49 12
        ∗ chunk xM c (back c 14) (x16 I (back c 14)) ∗ heads kM c (kh I c) 8 ∗ heads vM c (vh I c) 8 ∗ buf c cc0_scratch5 (wq16 I c))
      ⊢ iprop((∀ x y, (owe c (owed c 15 13) ∗ zeros c 19 15 ∗ waits c 49 13 ∗ zeros c 49 13
        ∗ chunk xM c (back c 14) (att I c (back c 14)) ∗ chunk xM c (back c 15) (x16 I (back c 15)) ∗ heads kM c (kh I c) 8 ∗ heads vM c (vh I c) 8 ∗ buf c cc0_scratch5 (wq16 I c)
        ∗ chunk rM c (slot 13) (sumv I (prv c) 12)) -∗ wpc c (k ⟨x, k0_pay33 (sumv I (prv c) 12), y⟩) Q)
        -∗ wpc c (atArgs (k0_part15 (F := F)) c v2 v7 v >>= k) Q) := by
  simp only [k0_part15_eq_skeleton]
  unfold k0_part15_skel
  simp only [Prog.lift, Prog.bind_op, Prog.bind_ret, Prog.pure_eq_ret, Prog.bind_assoc]
  iintro ⟨#HK, #Hlev, Ho, Hw, Hzw, Hw', Hz', Hc, Hkh, Hvh, Hq⟩ Hk
  iapply (wait_recv (x16 I) (sumv I) K c 19 14 (by omega) (by omega) _ (pay_agR (x16 I) (sumv I) c 14 (by omega)) _
    (ssem 19 _ _ _ 14 (by omega) rfl) _ _ rfl 15 13 (fun h => absurd h (by decide)) (fun _ => by rw [lv_agR _ (by omega)]; omega)) $$ [Hw Hzw Ho]
  · isplitr; · iexact HK
    isplitr; · iexact Hlev
    isplitl [Hw]; · iexact Hw
    isplitl [Hzw]; · iexact Hzw
    iexact Ho
  iintro ⟨Hn, Hw, Hzw, Ho⟩
  iapply (ld_chunk xM c (back c 14) _ _ _ (off6b c)) $$ Hc
  iintro Hc
  iapply (ld_at c (Memref.whole cc0_scratch5) _ _ (wq16 I c) (Memref.readAt_unit_zero (Elt F) cc0_scratch5 hz2 _ _)) $$ Hq
  iintro Hq
  iapply (ld_chunk xM c (back c 14) _ _ _ (off6b c)) $$ Hc
  iintro Hc
  iapply (st_chunk xM c (back c 14) _ _ _ _ (off6b c)) $$ Hc
  iintro Hc
  iapply (att_loop c (back c 14) _ (kh I c) (vh I c) k0_t5_loop k0_t5_ok (by decide) _ (loop5 c v2 v7 v _ (kh I c) (vh I c)) _) $$ [Hc Hkh Hvh]
  · isplitl [Hc]; · iexact Hc
    isplitl [Hkh]; · iexact Hkh
    iexact Hvh
  iintro ⟨Hc, Hkh, Hvh⟩
  iapply (wait_recv (x16 I) (sumv I) K c 49 12 (by omega) (by omega) _ (pay_rsR (x16 I) (sumv I) c 12 (by omega)) _
    (ssem 49 _ _ _ 12 (by omega) rfl) _ _ rfl 15 13 (fun h => absurd h (by decide)) (fun _ => by rw [lv_rsR _ (by omega)]; omega)) $$ [Hw' Hz' Ho]
  · isplitr; · iexact HK
    isplitr; · iexact Hlev
    isplitl [Hw']; · iexact Hw'
    isplitl [Hz']; · iexact Hz'
    iexact Ho
  iintro ⟨Hr, Hw', Hz', Ho⟩
  iapply (ld_chunk rM c (slot 13) _ _ _ rfl) $$ Hr
  iintro Hr
  iapply Hk
  isplitl [Ho]; · iexact Ho
  isplitl [Hzw]; · iexact Hzw
  isplitl [Hw']; · iexact Hw'
  isplitl [Hz']; · iexact Hz'
  isplitl [Hc]; · iexact Hc
  isplitl [Hn]; · iexact Hn
  isplitl [Hkh]; · iexact Hkh
  isplitl [Hvh]; · iexact Hvh
  isplitl [Hq]; · iexact Hq
  iexact Hr

/-- The sum of hop 14 is sent on, and the last block's queries are computed. -/
theorem part16 (c : Dev nD) {α : Type} {Q : α → sProp 𝕄} (v2 v7 x y : BitVec 32)
    (k : (Σ' (v360 : BitVec 32) (v371 : BitVec 32), BitVec 32) → Prog (TpuEff nD τ sig (Elt F) Λ₀ .tc) α) :
    iprop(records (x16 I) (sumv I) K ∗ owe c (owed c 15 13) ∗ rsSends c 13 ∗ creds c 0 13
        ∗ chunk xM c (back c 14) (att I c (back c 14)) ∗ chunk xM c (back c 15) (x16 I (back c 15)) ∗ buf c cc0_scratch5 (wq16 I c) ∗ buf c cc0_scratch6 (wo16 I c)
        ∗ chunk rM c (slot 13) (sumv I (prv c) 12))
      ⊢ iprop((∀ x y z, (owe c (owed c 15 14) ∗ rsSends c 14 ∗ creds c 0 14
        ∗ chunk xM c (back c 14) (att I c (back c 14)) ∗ chunk xM c (back c 15) (qry I c (back c 15)) ∗ buf c cc0_scratch5 (wq16 I c) ∗ buf c cc0_scratch6 (wo16 I c))
           -∗ wpc c (k ⟨x, y, z⟩) Q)
        -∗ wpc c (atArgs (k0_part16 (F := F)) c v2 v7 x (k0_pay33 (sumv I (prv c) 12)) y >>= k) Q) := by
  simp only [k0_part16_eq_skeleton]
  unfold k0_part16_skel
  simp only [Prog.lift, Prog.bind_op, Prog.bind_ret, Prog.pure_eq_ret, Prog.bind_assoc]
  iintro ⟨#HK, Ho, Hs', Hcs, Hc, Hn, Hq, Hwo, Hr⟩ Hk
  iapply (ld_chunk xM c (back c 14) _ _ _ (off6b c)) $$ Hc
  iintro Hc
  iapply (ld_at c (Memref.whole cc0_scratch6) _ _ (wo16 I c) (Memref.readAt_unit_zero (Elt F) cc0_scratch6 hz2 _ _)) $$ Hwo
  iintro Hwo
  iapply (ld_chunk rM c (slot 13) _ _ _ rfl) $$ Hr
  iintro Hr
  iapply (st_chunk rM c (slot 13) _ _ _ _ rfl) $$ Hr
  iintro Hr
  iapply (send_rs (x16 I) (sumv I) K c 13 15 (by omega) _ (sumv_succ I c 12).symm _ (Fin.ext (k0_dev9_eq c)) _ _
    (ssem 34 _ _ _ 13 (by omega) rfl) (ssem 49 _ _ _ 13 (by omega) rfl) _ _ _ _ rfl rfl) $$ [Hs' Hr Ho Hcs]
  · isplitr; · iexact HK
    isplitl [Hs']; · iexact Hs'
    isplitl [Hr]; · iexact Hr
    isplitl [Ho]; · iexact Ho
    iexact Hcs
  iintro ⟨Hs', Ho, Hcs⟩
  iapply (ld_chunk xM c (back c 15) _ _ _ (off25 c)) $$ Hn
  iintro Hn
  iapply (ld_at c (Memref.whole cc0_scratch5) _ _ (wq16 I c) (Memref.readAt_unit_zero (Elt F) cc0_scratch5 hz2 _ _)) $$ Hq
  iintro Hq
  iapply (ld_chunk xM c (back c 15) _ _ _ (off25 c)) $$ Hn
  iintro Hn
  iapply (st_chunk xM c (back c 15) _ _ _ _ (off25 c)) $$ Hn
  iintro Hn
  iapply Hk
  isplitl [Ho]; · iexact Ho
  isplitl [Hs']; · iexact Hs'
  isplitl [Hcs]; · iexact Hcs
  isplitl [Hc]; · iexact Hc
  isplitl [Hn]; · iexact Hn
  isplitl [Hq]; · iexact Hq
  iexact Hwo

/-- The attention of the last block, and the last sum sent. -/
theorem part17 (c : Dev nD) {α : Type} {Q : α → sProp 𝕄} (v7 x y z : BitVec 32) (k : BitVec 32 → Prog (TpuEff nD τ sig (Elt F) Λ₀ .tc) α) :
    iprop(records (x16 I) (sumv I) K ∗ levAts L lv ∗ owe c (owed c 15 14) ∗ rsSends c 14 ∗ creds c 0 14 ∗ waits c 49 13 ∗ zeros c 49 13
        ∗ chunk xM c (back c 15) (qry I c (back c 15)) ∗ heads kM c (kh I c) 8 ∗ heads vM c (vh I c) 8 ∗ buf c cc0_scratch6 (wo16 I c))
      ⊢ iprop((∀ x, (owe c (owed c 15 15) ∗ creds c 0 15 ∗ waits c 49 14 ∗ zeros c 49 14
        ∗ chunk xM c (back c 15) (att I c (back c 15)) ∗ heads kM c (kh I c) 8 ∗ heads vM c (vh I c) 8 ∗ buf c cc0_scratch6 (wo16 I c)) -∗ wpc c (k x) Q)
        -∗ wpc c (atArgs (k0_part17 (F := F)) c v7 x y z >>= k) Q) := by
  simp only [k0_part17_eq_skeleton]
  unfold k0_part17_skel
  simp only [Prog.lift, Prog.bind_op, Prog.bind_ret, Prog.pure_eq_ret, Prog.bind_assoc]
  iintro ⟨#HK, #Hlev, Ho, Hs', Hcs, Hw', Hz', Hc, Hkh, Hvh, Hwo⟩ Hk
  iapply (att_loop c (back c 15) _ (kh I c) (vh I c) k0_t6_loop k0_t6_ok (by decide) _ (loop6 c v7 x y z _ (kh I c) (vh I c)) _) $$ [Hc Hkh Hvh]
  · isplitl [Hc]; · iexact Hc
    isplitl [Hkh]; · iexact Hkh
    iexact Hvh
  rw [show attUpTo (qry I c (back c 15)) (kh I c) (vh I c) 8 = att I c (back c 15) from rfl]
  iintro ⟨Hc, Hkh, Hvh⟩
  iapply (wait_recv (x16 I) (sumv I) K c 49 13 (by omega) (by omega) _ (pay_rsR (x16 I) (sumv I) c 13 (by omega)) _
    (ssem 49 _ _ _ 13 (by omega) rfl) _ _ rfl 15 14 (fun h => absurd h (by decide)) (fun _ => by rw [lv_rsR _ (by omega)]; omega)) $$ [Hw' Hz' Ho]
  · isplitr; · iexact HK
    isplitr; · iexact Hlev
    isplitl [Hw']; · iexact Hw'
    isplitl [Hz']; · iexact Hz'
    iexact Ho
  iintro ⟨Hr, Hw', Hz', Ho⟩
  iapply (ld_chunk rM c (slot 14) _ _ _ rfl) $$ Hr
  iintro Hr
  iapply (ld_chunk xM c (back c 15) _ _ _ (off25 c)) $$ Hc
  iintro Hc
  iapply (ld_at c (Memref.whole cc0_scratch6) _ _ (wo16 I c) (Memref.readAt_unit_zero (Elt F) cc0_scratch6 hz2 _ _)) $$ Hwo
  iintro Hwo
  iapply (ld_chunk rM c (slot 14) _ _ _ rfl) $$ Hr
  iintro Hr
  iapply (st_chunk rM c (slot 14) _ _ _ _ rfl) $$ Hr
  iintro Hr
  iapply (send_rs (x16 I) (sumv I) K c 14 15 (by omega) _ (sumv_succ I c 13).symm _ (Fin.ext (k0_dev10_eq c)) _ _
    (ssem 34 _ _ _ 14 (by omega) rfl) (ssem 49 _ _ _ 14 (by omega) rfl) _ _ _ _ rfl rfl) $$ [Hs' Hr Ho Hcs]
  · isplitr; · iexact HK
    isplitl [Hs']; · iexact Hs'
    isplitl [Hr]; · iexact Hr
    isplitl [Ho]; · iexact Ho
    iexact Hcs
  iintro ⟨Hs', Ho, Hcs⟩
  iapply Hk
  isplitl [Ho]; · iexact Ho
  isplitl [Hcs]; · iexact Hcs
  isplitl [Hw']; · iexact Hw'
  isplitl [Hz']; · iexact Hz'
  isplitl [Hc]; · iexact Hc
  isplitl [Hkh]; · iexact Hkh
  isplitl [Hvh]; · iexact Hvh
  iexact Hwo

/-- What the last loop finds at trip `t`: the first `t` sums' blocks are back. -/
def drainInv (c : Dev nD) (t : ℕ) : sProp 𝕄 :=
  iprop(owe c (owed c 15 15) ∗ creds c t 15 ∗ poss c 34 t ∗ zeros c 34 t ∗ bigSep (Finset.range t) fun s => anyChunk rM c (slot s))

theorem drain (c : Dev nD) (t : Fin k0_t7_loop.trips) (acc : Unit) :
    iprop(records (x16 I) (sumv I) K ∗ levAts L lv ∗ drainInv c t.val)
      ⊢ wpc c (atArgs (k0_t7_body (F := F)) t acc) (fun _ => iprop(records (x16 I) (sumv I) K ∗ levAts L lv ∗ drainInv c (t.val + 1))) := by
  have ht : t.val < 15 := t.isLt
  unfold k0_t7_body drainInv
  simp only [Prog.lift, Prog.bind_op, Prog.bind_ret, Prog.pure_eq_ret, Prog.bind_assoc]
  rw [creds_peel c t.val 15 ht]
  iintro ⟨#HK, #Hlev, Ho, ⟨Hcr, Hcs⟩, Hp, Hz, Hdone⟩
  iapply (wait_sent (x16 I) (sumv I) K c 34 t.val ht (Or.inr rfl) _ (pay_rsS (x16 I) (sumv I) c t.val ht) _
    (ssem 34 _ _ _ t.val ht (k0_off28_eq t)) _ _ rfl 15 15) $$ [Hp Hcr Hz Ho]
  · isplitr; · iexact HK
    isplitr; · iexact Hlev
    isplitl [Hp]; · iexact Hp
    isplitl [Hcr]; · iexact Hcr
    isplitl [Hz]; · iexact Hz
    iexact Ho
  iintro ⟨Hc, Hp, Hz, Ho⟩
  iapply (ret_wpc c _)
  rw [bigSep_range_succ t.val]
  isplitr; · iexact HK
  isplitr; · iexact Hlev
  isplitl [Ho]; · iexact Ho
  isplitl [Hcs]; · iexact Hcs
  isplitl [Hp]; · iexact Hp
  isplitl [Hz]; · iexact Hz
  isplitl [Hc]; · iapply (chunk_any rM c _ _); iexact Hc
  iexact Hdone

theorem trips7 : Scf.trips k0_t7_loop.lb k0_t7_loop.ub k0_t7_loop.st = 15 := by
  show k0_t7_loop.trips = 15
  decide

/-- The last loop, whole. -/
theorem drain_all (c : Dev nD) {α : Type} {Q : α → sProp 𝕄} (k : Unit → Prog (TpuEff nD τ sig (Elt F) Λ₀ .tc) α) :
    iprop(records (x16 I) (sumv I) K ∗ levAts L lv ∗ owe c (owed c 15 15) ∗ creds c 0 15 ∗ poss c 34 0)
      ⊢ iprop(((owe c (owed c 15 15) ∗ zeros c 34 15 ∗ bigSep (Finset.range 15) fun s => anyChunk rM c (slot s)) -∗ wpc c (k ⟨⟩) Q)
        -∗ wpc c (Scf.Loop.for k0_t7_loop k0_t7_ok ⟨⟩ (atArgs (k0_t7_body (F := F))) >>= k) Q) := by
  iintro ⟨#HK, #Hlev, Ho, Hcs, Hp⟩ Hk
  iapply (Scf.wp_for_bind frame (wpE (defs₀ (F := F)) 𝒱₀ (c : Thread nD τ) none) Set.univ k0_t7_loop.lb k0_t7_loop.ub k0_t7_loop.st k0_t7_ok () _
    (fun t _ => iprop(records (x16 I) (sumv I) K ∗ levAts L lv ∗ drainInv c t)) (drain I K c)) $$ [Ho Hcs Hp]
  · isplitr; · iexact HK
    isplitr; · iexact Hlev
    unfold drainInv
    rw [zeros_zero, Finset.range_zero, bigSep_empty]
    isplitl [Ho]; · iexact Ho
    isplitl [Hcs]; · iexact Hcs
    isplitl [Hp]; · iexact Hp
    isplitr; · iempintro
    iempintro
  iintro %acc ⟨-, -, H⟩
  rw [trips7]
  unfold drainInv
  icases H with ⟨Ho, -, -, Hz, Hdone⟩
  iapply Hk
  isplitl [Ho]; · iexact Ho
  isplitl [Hz]; · iexact Hz
  iexact Hdone

end Tail

end Cert.KernelIdeal.Ring

end
-- ==== Proof.KernelIdeal.Body.lean ====
/-
# 01_k — `Body`: the whole body on one device

The two ring buffers are cut into their blocks at the start and put together again at the end; in between the parts of the
body run one after another. The body ends with the result stored and every semaphore at zero.
-/
module

public import proofs.«01_k».proof.Proof.KernelIdeal.Early
public import proofs.«01_k».proof.Proof.KernelIdeal.Tail
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
section Body

variable (I : Ins F) (K : Dev nD × Fin 61 → ℕ)

/-! ## The sixteen blocks, counted from a device's own -/

theorem univ_of (f : ℕ → Fin 16) (S : Finset ℕ) (hS : S.image f = Finset.univ) (hf : Set.InjOn f S) (Φ : Fin 16 → sProp 𝕄) :
    bigSep Finset.univ Φ = bigSep S fun h => Φ (f h) := by
  rw [← hS, bigSep_image_of_injOn hf]

theorem back_inj (c : Dev nD) : Set.InjOn (fun h => back c h) (Finset.Ico 0 16 : Finset ℕ) := fun a ha b hb h => by
  have ha' := (Finset.mem_Ico.mp (Finset.mem_coe.mp ha)).2
  have hb' := (Finset.mem_Ico.mp (Finset.mem_coe.mp hb)).2
  have := dev_lt c
  have h' : (c.val + 15 * a) % 16 = (c.val + 15 * b) % 16 := congrArg Fin.val h
  omega

theorem slot_inj : Set.InjOn slot (Finset.Ico 0 16 : Finset ℕ) := fun a ha b hb h => by
  have ha' := (Finset.mem_Ico.mp (Finset.mem_coe.mp ha)).2
  have hb' := (Finset.mem_Ico.mp (Finset.mem_coe.mp hb)).2
  have h' : a % 16 = b % 16 := congrArg Fin.val h
  omega

theorem all_blocks (f : ℕ → Fin 16) (hf : Set.InjOn f (Finset.Ico 0 16 : Finset ℕ)) : (Finset.Ico 0 16).image f = (Finset.univ : Finset (Fin 16)) :=
  Finset.eq_univ_of_card _ (by rw [Finset.card_image_of_injOn hf]; rfl)

/-- One block and the fifteen after it. -/
theorem split_first (f : ℕ → Fin 16) (hf : Set.InjOn f (Finset.Ico 0 16 : Finset ℕ)) (Φ : Fin 16 → sProp 𝕄) :
    bigSep Finset.univ Φ = iprop(Φ (f 0) ∗ bigSep (Finset.Ico 0 15) fun h => Φ (f (h + 1))) := by
  rw [univ_of f _ (all_blocks f hf) hf, bigSep_Ico_succ_bot (by decide : 0 < 16)]
  have himg : Finset.Ico (0 + 1) 16 = (Finset.Ico 0 15).image (fun h => h + 1) := by decide
  rw [himg, bigSep_image_of_injOn (fun a _ b _ h => Nat.succ.inj h)]

/-- The buffer of rows at the start: the device's own block, and the fifteen that arrive. -/
theorem rows_split (c : Dev nD) (f : Buf (Elt F) (xM.view.loc (c : Thread nD τ))) :
    (xM.view.loc (c : Thread nD τ) ↦{fullShare} f) ⊢ (iprop((∃ v, chunk xM c c v) ∗ bigSep (Finset.Ico 0 15) fun h => anyChunk xM c (back c (h + 1))) : sProp 𝕄) := by
  refine (split_chunks xM (View.set_whole _) c f).trans (Entails.of_eq ?_)
  rw [split_first (fun h => back c h) (back_inj c), back_zero]
  rfl

/-- The buffer of sums at the start: the first block, and the fifteen that arrive. -/
theorem sums_split (c : Dev nD) (f : Buf (Elt F) (rM.view.loc (c : Thread nD τ))) :
    (rM.view.loc (c : Thread nD τ) ↦{fullShare} f) ⊢ (iprop((∃ v, chunk rM c (slot 0) v) ∗ bigSep (Finset.Ico 0 15) fun s => anyChunk rM c (slot (s + 1))) : sProp 𝕄) := by
  refine (split_chunks rM (View.set_whole _) c f).trans (Entails.of_eq ?_)
  rw [split_first slot slot_inj]
  rfl

/-- The buffer of rows, when the body is done: every block is back. -/
theorem join_rows (c : Dev nD) (v v' v'' : Blk F) [Nonempty (Buf (Elt F) (xM.view.loc (c : Thread nD τ)))] :
    iprop(chunk xM c c v ∗ (bigSep (Finset.range 13) fun k => anyChunk xM c (back c (k + 1))) ∗ chunk xM c (back c 14) v' ∗ chunk xM c (back c 15) v'')
      ⊢ (iprop(∃ f : Buf (Elt F) (xM.view.loc (c : Thread nD τ)), xM.view.loc (c : Thread nD τ) ↦{fullShare} f) : sProp 𝕄) := by
  refine BIBase.Entails.trans ?_ (join_chunks xM (View.set_whole _) c)
  rw [split_first (fun h => back c h) (back_inj c), bigSep_Ico_succ_top (by decide : 0 ≤ 14), bigSep_Ico_succ_top (by decide : 0 ≤ 13), back_zero, ← Finset.range_eq_Ico]
  iintro ⟨H0, H, H14, H15⟩
  isplitl [H0]; · iapply (chunk_any xM c c _); iexact H0
  isplitl [H15]; · iapply (chunk_any xM c _ _); iexact H15
  isplitl [H14]; · iapply (chunk_any xM c _ _); iexact H14
  iexact H

/-- The buffer of sums, when the body is done: every block is back. -/
theorem join_sums (c : Dev nD) (v : Blk F) [Nonempty (Buf (Elt F) (rM.view.loc (c : Thread nD τ)))] :
    iprop((bigSep (Finset.range 15) fun s => anyChunk rM c (slot s)) ∗ chunk rM c (slot 15) v)
      ⊢ (iprop(∃ f : Buf (Elt F) (rM.view.loc (c : Thread nD τ)), rM.view.loc (c : Thread nD τ) ↦{fullShare} f) : sProp 𝕄) := by
  refine BIBase.Entails.trans ?_ (join_chunks rM (View.set_whole _) c)
  rw [univ_of slot _ (all_blocks slot slot_inj) slot_inj, bigSep_Ico_succ_top (by decide : 0 ≤ 15), ← Finset.range_eq_Ico]
  iintro ⟨H, H15⟩
  isplitl [H15]; · iapply (chunk_any rM c _ _); iexact H15
  iexact H

theorem owed_end (c : Dev nD) : owed c 15 15 = 0 := by unfold owed; simp

/-! ## The body -/

/-- A buffer of device `c`, at some contents. -/
abbrev anyBuf (c : Dev nD) (b : Ref sig .tc) : sProp 𝕄 := iprop(∃ f : Buf (Elt F) ((c : Thread nD τ).loc b), ((c : Thread nD τ).loc b) ↦{fullShare} f)

/-- The body's working buffers. -/
def scratch (c : Dev nD) : sProp 𝕄 :=
  iprop(anyBuf c cc0_scratch0 ∗ anyBuf c cc0_scratch1 ∗ anyBuf c cc0_scratch2 ∗ anyBuf c cc0_scratch3 ∗ anyBuf c cc0_scratch4
    ∗ anyBuf c cc0_scratch5 ∗ anyBuf c cc0_scratch6)

/-- What device `c` alone holds of the exchange's accounts at the start: its duties, its positions, the credits of what it waits for, and the counter of
    the local copies. -/
def linear (c : Dev nD) : sProp 𝕄 :=
  iprop(dutyTok ER (barCell (prv c)) 0 true ∗ dutyTok ER (barCell (nxt c)) 0 false ∗ agToks c ∗ rsToks c
    ∗ atPos ER (barCell c) 0 ∅ 0 ∗ poss c 4 0 ∗ poss c 34 0 ∗ semVal ((c : Thread nD τ), SemLoc.dma (dsem 64)) 0)

/-- The arrivals device `c` waits for. -/
def arrivals (c : Dev nD) : sProp 𝕄 := iprop(cred (tallyAt (barCell c) () 2) ∗ waits c 19 0 ∗ waits c 49 0)

/-- Every semaphore of device `c` at zero. -/
def quiet (c : Dev nD) : sProp 𝕄 :=
  iprop(semVal (barCell c) 0 ∗ zeros c 4 15 ∗ zeros c 19 15 ∗ zeros c 34 15 ∗ zeros c 49 15 ∗ semVal ((c : Thread nD τ), SemLoc.dma (dsem 64)) 0)

theorem heads_start (M : Memref sig .tc .vmem S8x4096x128 .bf16) (c : Dev nD) (kh : Heads F) (f : Buf (Elt F) (M.view.loc (c : Thread nD τ))) :
    (M.view.loc (c : Thread nD τ) ↦{fullShare} f) ⊢ (heads M c kh 0 : sProp 𝕄) := by
  unfold heads
  iintro H
  iexists (M.view.read (Elt F) f); iexists f
  isplitr
  · ipureintro; rw [kvFill_zero]
  iexact H

theorem heads_end (M : Memref sig .tc .vmem S8x4096x128 .bf16) (c : Dev nD) (kh : Heads F) (n : ℕ) :
    (heads M c kh n : sProp 𝕄) ⊢ iprop(∃ f : Buf (Elt F) (M.view.loc (c : Thread nD τ)), M.view.loc (c : Thread nD τ) ↦{fullShare} f) := by
  unfold heads
  iintro ⟨%f0, %g, -, H⟩
  iexists g
  iexact H

set_option maxHeartbeats 2000000 in
/-- The whole body of device `c`. -/
theorem body_run (c : Dev nD) (Kt : PUnit → sProp 𝕄) (g : Vec F S1x256x1024 .f32) :
    iprop((records (x16 I) (sumv I) K ∗ levAts L lv ∗ owe c (O₀ c) ∗ linear c ∗ arrivals c
        ∗ buf c cc0_stg0_0 (I.x c) ∗ buf c cc0_stg1_0 (I.wq c) ∗ buf c cc0_stg2_0 (I.wo c) ∗ buf c cc0_stg3_0 g
        ∗ kvIn KA c (I.k c) ∗ kvIn VA c (I.v c) ∗ scratch c)
      ∗ ((owe c 0 ∗ quiet c ∗ buf c cc0_stg0_0 (I.x c) ∗ buf c cc0_stg1_0 (I.wq c) ∗ buf c cc0_stg2_0 (I.wo c) ∗ buf c cc0_stg3_0 (out I c)
        ∗ kvIn KA c (I.k c) ∗ kvIn VA c (I.v c) ∗ scratch c) -∗ Kt ⟨⟩))
      ⊢ wpc c (atArgs (cc0_body (F := F))) Kt := by
  simp only [cc0_body_eq_skeleton]
  unfold cc0_body_skel
  simp only [Prog.lift, Prog.bind_op, Prog.bind_ret, Prog.pure_eq_ret, Prog.bind_assoc]
  unfold linear arrivals scratch
  iintro ⟨⟨#HK, #Hlev, Ho, ⟨Ht, Ht', Hag, Hrs, Hat, Hp4, Hp34, Hkv⟩, ⟨Hcb, Hw19, Hw49⟩, Hx, Hq, Hwo, Hout, Hka, Hva, ⟨%f0, H0⟩, ⟨%f1, H1⟩, ⟨%f2, H2⟩, ⟨%f3, H3⟩, ⟨%f4, H4⟩, ⟨%f5, H5⟩, ⟨%f6, H6⟩⟩, Hk⟩
  ihave H0 := (rows_split c f0) $$ H0
  icases H0 with ⟨⟨%w0, Hown⟩, Hlx⟩
  ihave H1 := (sums_split c f1) $$ H1
  icases H1 with ⟨⟨%w1, Hs0⟩, Hlr⟩
  iapply (part3 I K c w0 _) $$ [Ho Ht Ht' Hlx Hlr Hcb Hat Hx Hown]
  · isplitr; · iexact HK
    isplitr; · iexact Hlev
    isplitl [Ho]; · iexact Ho
    isplitl [Ht]; · iexact Ht
    isplitl [Ht']; · iexact Ht'
    isplitl [Hlx Hlr]
    · unfold landing
      isplitl [Hlx]; · iexact Hlx
      iexact Hlr
    isplitl [Hcb]; · iexact Hcb
    isplitl [Hat]; · iexact Hat
    isplitl [Hx]; · iexact Hx
    iexact Hown
  iintro %v2 %v7 ⟨Ho, Hl, Hzb, Hx, Hown⟩
  ihave Hs := (sends_ready c) $$ [Hag Hrs Hl]
  · isplitl [Hag]; · iexact Hag
    isplitl [Hrs]; · iexact Hrs
    iexact Hl
  icases Hs with ⟨Hag, Hrs⟩
  iapply (part4 I K c v2 f5 f6 f2 _) $$ [Ho Hag Hown Hq H5 Hwo H6 H3 H4 Hka Hva H2 Hkv]
  · isplitr; · iexact HK
    isplitr; · iexact Hlev
    isplitl [Ho]; · iexact Ho
    isplitl [Hag]; · iexact Hag
    isplitl [Hown]; · iexact Hown
    isplitl [Hq]; · iexact Hq
    isplitl [H5]; · iexact H5
    isplitl [Hwo]; · iexact Hwo
    isplitl [H6]; · iexact H6
    isplitl [H3]; · iapply (heads_start kM c (kh I c) f3); iexact H3
    isplitl [H4]; · iapply (heads_start vM c (vh I c) f4); iexact H4
    isplitl [Hka]; · iexact Hka
    isplitl [Hva]; · iexact Hva
    isplitl [H2]; · unfold staged; iexact H2
    iexact Hkv
  iintro ⟨Hag, Hcr, Hq, H5, Hwo, H6, HL⟩
  iapply (part5 I c v2 _) $$ [HL]
  · isplitr; · iexact Hlev
    iexact HL
  iintro HL
  iapply (part6 I c v2 _) $$ [HL]
  · isplitr; · iexact Hlev
    iexact HL
  iintro HL
  iapply (part7 I c v2 _) $$ [HL]
  · isplitr; · iexact Hlev
    iexact HL
  iintro HL
  iapply (part8 I c v2 _) $$ [HL]
  · isplitr; · iexact Hlev
    iexact HL
  iintro HL
  iapply (part9 I c v2 _) $$ [HL]
  · isplitr; · iexact Hlev
    iexact HL
  iintro HL
  iapply (part10 I c v2 _) $$ [HL]
  · isplitr; · iexact Hlev
    iexact HL
  iintro HL
  iapply (part11 I K c v2 v7 _) $$ [HL Hp4 Hcr Hw19]
  · isplitr; · iexact HK
    isplitr; · iexact Hlev
    isplitl [HL]; · iexact HL
    isplitl [Hp4]; · iexact Hp4
    isplitl [Hcr]; · iexact Hcr
    iexact Hw19
  iintro ⟨Ho, Hhk, Hhv, Hka, Hva, Hg, Hkv, Hp4, Hz4, Hw19, Hz19, Hown, Hn⟩
  iapply (part12 I K c v2 v7 _) $$ [Ho Hag Hp4 Hz4 Hn Hown Hhk Hhv H5]
  · isplitr; · iexact HK
    isplitr; · iexact Hlev
    isplitl [Ho]; · iexact Ho
    isplitl [Hag]; · iexact Hag
    isplitl [Hp4]; · iexact Hp4
    isplitl [Hz4]; · iexact Hz4
    isplitl [Hn]; · iexact Hn
    isplitl [Hown]; · iexact Hown
    isplitl [Hhk]; · iexact Hhk
    isplitl [Hhv]; · iexact Hhv
    iexact H5
  iintro ⟨Ho, Hag, Hp4, Hz4, Hn, Hown, Hhk, Hhv, H5⟩
  iapply (part13 I K c v2 v7 _) $$ [Ho Hag Hw19 Hz19 Hn Hhk Hhv H5]
  · isplitr; · iexact HK
    isplitr; · iexact Hlev
    isplitl [Ho]; · iexact Ho
    isplitl [Hag]; · iexact Hag
    isplitl [Hw19]; · iexact Hw19
    isplitl [Hz19]; · iexact Hz19
    isplitl [Hn]; · iexact Hn
    isplitl [Hhk]; · iexact Hhk
    isplitl [Hhv]; · iexact Hhv
    iexact H5
  iintro %v286 ⟨Ho, Hag, Hcr, Hw19, Hz19, Hn, Hhk, Hhv, H5⟩
  iapply (part14 I K c v2 v7 v286 w1 _) $$ [Ho Hag Hcr Hp4 Hz4 Hw19 Hz19 Hw49 Hrs Hn Hs0 Hhk Hhv H5 H6]
  · isplitr; · iexact HK
    isplitr; · iexact Hlev
    isplitl [Ho]; · iexact Ho
    isplitl [Hag]; · iexact Hag
    isplitl [Hcr]; · iexact Hcr
    isplitl [Hp4]; · iexact Hp4
    isplitl [Hz4]; · iexact Hz4
    isplitl [Hw19]; · iexact Hw19
    isplitl [Hz19]; · iexact Hz19
    isplitl [Hw49]; · iexact Hw49
    isplitl [Hrs]; · iexact Hrs
    isplitl [Hn]; · iexact Hn
    isplitl [Hs0]; · iexact Hs0
    isplitl [Hhk]; · iexact Hhk
    isplitl [Hhv]; · iexact Hhv
    isplitl [H5]; · iexact H5
    iexact H6
  iintro %v312 ⟨Ho, -, Hz4, Hw19, Hz19, Hw49, Hz49, Hrs, Hcs, H14, Hhk, Hhv, H5, H6, Hback⟩
  iapply (part15 I K c v2 v7 v312 _) $$ [Ho Hw19 Hz19 Hw49 Hz49 H14 Hhk Hhv H5]
  · isplitr; · iexact HK
    isplitr; · iexact Hlev
    isplitl [Ho]; · iexact Ho
    isplitl [Hw19]; · iexact Hw19
    isplitl [Hz19]; · iexact Hz19
    isplitl [Hw49]; · iexact Hw49
    isplitl [Hz49]; · iexact Hz49
    isplitl [H14]; · iexact H14
    isplitl [Hhk]; · iexact Hhk
    isplitl [Hhv]; · iexact Hhv
    iexact H5
  iintro %x1 %x2 ⟨Ho, Hz19, Hw49, Hz49, H14, H15, Hhk, Hhv, H5, Hr⟩
  iapply (part16 I K c v2 v7 x1 x2 _) $$ [Ho Hrs Hcs H14 H15 H5 H6 Hr]
  · isplitr; · iexact HK
    isplitl [Ho]; · iexact Ho
    isplitl [Hrs]; · iexact Hrs
    isplitl [Hcs]; · iexact Hcs
    isplitl [H14]; · iexact H14
    isplitl [H15]; · iexact H15
    isplitl [H5]; · iexact H5
    isplitl [H6]; · iexact H6
    iexact Hr
  iintro %y1 %y2 %y3 ⟨Ho, Hrs, Hcs, H14, H15, H5, H6⟩
  iapply (part17 I K c v7 y1 y2 y3 _) $$ [Ho Hrs Hcs Hw49 Hz49 H15 Hhk Hhv H6]
  · isplitr; · iexact HK
    isplitr; · iexact Hlev
    isplitl [Ho]; · iexact Ho
    isplitl [Hrs]; · iexact Hrs
    isplitl [Hcs]; · iexact Hcs
    isplitl [Hw49]; · iexact Hw49
    isplitl [Hz49]; · iexact Hz49
    isplitl [H15]; · iexact H15
    isplitl [Hhk]; · iexact Hhk
    isplitl [Hhv]; · iexact Hhv
    iexact H6
  iintro %z1 ⟨Ho, Hcs, Hw49, Hz49, H15, Hhk, Hhv, H6⟩
  iapply (wait_recv (x16 I) (sumv I) K c 49 14 (by omega) (by omega) _ (pay_rsR (x16 I) (sumv I) c 14 (by omega)) _
    (ssem 49 _ _ _ 14 (by omega) rfl) _ _ rfl 15 15 (fun h => absurd h (by decide)) (fun h => absurd h (by decide))) $$ [Hw49 Hz49 Ho]
  · isplitr; · iexact HK
    isplitr; · iexact Hlev
    isplitl [Hw49]; · iexact Hw49
    isplitl [Hz49]; · iexact Hz49
    iexact Ho
  iintro ⟨Hr, -, Hz49, Ho⟩
  iapply (ld_chunk rM c (slot 15) _ _ _ rfl) $$ Hr
  iintro Hr
  iapply (ld_chunk xM c c _ _ _ (off1 c)) $$ Hown
  iintro Hown
  iapply (ld_at c (Memref.whole cc0_scratch6) _ _ (wo16 I c) (Memref.readAt_unit_zero (Elt F) cc0_scratch6 hz2 _ _)) $$ H6
  iintro H6
  iapply (ld_at c (Memref.whole cc0_stg3_0) _ _ g (Memref.readAt_unit_zero (Elt F) cc0_stg3_0 hz3 _ _)) $$ Hout
  iintro Hout
  iapply (st_at c (Memref.whole cc0_stg3_0) _ _ (out I c) _ (Memref.write_access_unit_zero_univ (Elt F) cc0_stg3_0 hz3 _ _ _)) $$ Hout
  iintro Hout
  iapply (drain_all I K c _) $$ [Ho Hcs Hp34]
  · isplitr; · iexact HK
    isplitr; · iexact Hlev
    isplitl [Ho]; · iexact Ho
    isplitl [Hcs]; · iexact Hcs
    iexact Hp34
  iintro ⟨Ho, Hz34, Hslots⟩
  iapply (ret_wpc c _)
  iapply Hk
  isplitl [Ho]; · rw [owed_end]; iexact Ho
  isplitl [Hzb Hz4 Hz19 Hz34 Hz49 Hkv]
  · unfold quiet
    isplitl [Hzb]; · iexact Hzb
    isplitl [Hz4]; · iexact Hz4
    isplitl [Hz19]; · iexact Hz19
    isplitl [Hz34]; · iexact Hz34
    isplitl [Hz49]; · iexact Hz49
    iexact Hkv
  isplitl [Hx]; · iexact Hx
  isplitl [Hq]; · iexact Hq
  isplitl [Hwo]; · iexact Hwo
  isplitl [Hout]; · iexact Hout
  isplitl [Hka]; · iexact Hka
  isplitl [Hva]; · iexact Hva
  isplitl [Hown Hback H14 H15]
  · haveI : Nonempty (Buf (Elt F) (xM.view.loc (c : Thread nD τ))) := ⟨f0⟩
    iapply (join_rows c _ _ _)
    isplitl [Hown]; · iexact Hown
    isplitl [Hback]; · iexact Hback
    isplitl [H14]; · iexact H14
    iexact H15
  isplitl [Hslots Hr]
  · haveI : Nonempty (Buf (Elt F) (rM.view.loc (c : Thread nD τ))) := ⟨f1⟩
    iapply (join_sums c _)
    isplitl [Hslots]; · iexact Hslots
    iexact Hr
  isplitl [Hg]; · unfold staged; iexists _; iexact Hg
  isplitl [Hhk]; · iapply (heads_end kM c (kh I c) 8); iexact Hhk
  isplitl [Hhv]; · iapply (heads_end vM c (vh I c) 8); iexact Hhv
  isplitl [H5]; · iexists _; iexact H5
  iexists _; iexact H6

end Body

end Cert.KernelIdeal.Ring

end
-- ==== Proof.KernelIdeal.Deal.lean ====
/-
# 01_k — `Deal`: what each device starts with

The duties, positions and credits of all the semaphores of the sixteen devices are made once and dealt out: each device
gets those of the transfers it starts and of the waits it makes.
-/
module

public import proofs.«01_k».proof.Proof.KernelIdeal.Body
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## A device's sixty-one semaphores, family by family -/

/-- Sixty-one places: one, and four families of fifteen. -/
theorem places (Ψ : ℕ → sProp 𝕄) : bigSep (Finset.range 61) Ψ
    = iprop(Ψ 60 ∗ (bigSep (Finset.Ico 0 15) fun h => Ψ (0 + h)) ∗ (bigSep (Finset.Ico 0 15) fun h => Ψ (15 + h))
        ∗ (bigSep (Finset.Ico 0 15) fun h => Ψ (30 + h)) ∗ (bigSep (Finset.Ico 0 15) fun h => Ψ (45 + h))) := by
  rw [show Finset.range 61 = insert 60 ((Finset.Ico 0 15).map (addLeftEmbedding 0) ∪ ((Finset.Ico 0 15).map (addLeftEmbedding 15)
      ∪ ((Finset.Ico 0 15).map (addLeftEmbedding 30) ∪ (Finset.Ico 0 15).map (addLeftEmbedding 45)))) by decide,
    bigSep_insert (by decide), bigSep_union (by decide), bigSep_union (by decide), bigSep_union (by decide),
    BI.bigSep_map, BI.bigSep_map, BI.bigSep_map, BI.bigSep_map]
  rfl

theorem fin_places (Ψ : ℕ → sProp 𝕄) : bigSep Finset.univ (fun k : Fin 61 => Ψ k.val) = bigSep (Finset.range 61) Ψ := by
  rw [show Finset.range 61 = (Finset.univ : Finset (Fin 61)).map Fin.valEmbedding by decide, bigSep_map]
  rfl

/-- The semaphore at a place: a transfer's below sixty, the barrier at sixty. -/
abbrev place (n : ℕ) : SemLoc sig := if n < 60 then .dma (dsem (4 + n)) else .reg barS

theorem fam_place (Φ : SemLoc sig → sProp 𝕄) (b : ℕ) (hb : b ≤ 45) :
    (bigSep (Finset.Ico 0 15) fun h => Φ (place (b + h))) = bigSep (Finset.Ico 0 15) fun h => Φ (.dma (dsem (4 + b + h))) :=
  bigSep_congr fun h hh => by
    have := (Finset.mem_Ico.mp hh).2
    unfold place; rw [if_pos (by omega), show 4 + (b + h) = 4 + b + h by omega]

/-- Something of each of a device's semaphores: of the barrier, and of each of the four families. -/
def each (Φ : SemLoc sig → sProp 𝕄) : sProp 𝕄 :=
  iprop(Φ (.reg barS) ∗ (bigSep (Finset.Ico 0 15) fun h => Φ (.dma (dsem (4 + h)))) ∗ (bigSep (Finset.Ico 0 15) fun h => Φ (.dma (dsem (19 + h))))
    ∗ (bigSep (Finset.Ico 0 15) fun h => Φ (.dma (dsem (34 + h)))) ∗ (bigSep (Finset.Ico 0 15) fun h => Φ (.dma (dsem (49 + h)))))

theorem range_each (Φ : SemLoc sig → sProp 𝕄) : (bigSep (Finset.range 61) fun n => Φ (place n)) = each Φ := by
  rw [places, fam_place Φ 0 (by decide), fam_place Φ 15 (by decide), fam_place Φ 30 (by decide), fam_place Φ 45 (by decide)]
  rfl

theorem cells_each (Φ : SemLoc sig → sProp 𝕄) : (bigSep Finset.univ fun k : Fin 61 => Φ (csem k)) = each Φ :=
  (fin_places fun n => Φ (place n)).trans (range_each Φ)

theorem place_inj : Set.InjOn place (Finset.range 61 : Finset ℕ) := fun a ha b hb h => by
  have ha' := Finset.mem_range.mp (Finset.mem_coe.mp ha)
  have hb' := Finset.mem_range.mp (Finset.mem_coe.mp hb)
  unfold place at h
  by_cases h1 : a < 60 <;> by_cases h2 : b < 60
  · rw [if_pos h1, if_pos h2] at h
    have := dsem_inj (by omega) (by omega) (SemLoc.dma.inj h); omega
  · rw [if_pos h1, if_neg h2] at h; exact absurd h (dma_ne_bar _)
  · rw [if_neg h1, if_pos h2] at h; exact absurd h.symm (dma_ne_bar _)
  · omega

theorem kcell_injective : Function.Injective (kcell : Dev nD × Fin 61 → GSem nD τ sig) := by
  rintro ⟨c, k⟩ ⟨c', k'⟩ h
  have h1 : c = c' := congrArg (fun g : GSem nD τ sig => g.1.1) h
  have h2 : place k.val = place k'.val := congrArg Prod.snd h
  have h3 := place_inj (Finset.mem_coe.mpr (Finset.mem_range.mpr k.isLt)) (Finset.mem_coe.mpr (Finset.mem_range.mpr k'.isLt)) h2
  rw [h1, Fin.ext h3]

/-! ## What the launch deals -/

def ringCells : Finset (GSem nD τ sig) := Finset.univ.map ⟨kcell, kcell_injective⟩
/-- Every semaphore's duty `false`, and every barrier's duty `true`. -/
def falseToks : Finset (GSem nD τ sig × ℕ × Bool) :=
  Finset.univ.map ⟨fun ck : Dev nD × Fin 61 => (kcell ck, 0, false), fun a b h => kcell_injective (congrArg (fun x : GSem nD τ sig × ℕ × Bool => x.1) h)⟩
def trueToks : Finset (GSem nD τ sig × ℕ × Bool) :=
  Finset.univ.map ⟨fun c : Dev nD => (barCell c, 0, true), fun a b h => congrArg (fun x : GSem nD τ sig × ℕ × Bool => x.1.1.1) h⟩
def ringToks : Finset (GSem nD τ sig × ℕ × Bool) := falseToks ∪ trueToks

theorem toks_disjoint : Disjoint falseToks trueToks := Finset.disjoint_left.mpr fun x h h' => by
  unfold falseToks at h; unfold trueToks at h'
  obtain ⟨a, -, ha⟩ := Finset.mem_map.mp h
  obtain ⟨b, -, hb⟩ := Finset.mem_map.mp h'
  have h1 : x.2.2 = false := by rw [← ha]; rfl
  have h2 : x.2.2 = true := by rw [← hb]; rfl
  rw [h1] at h2; cases h2

def u₀ : UU :=
  (initOf (Pipeline.cells cfgs cellOf_inj) (Pipeline.launchToks cfgs cellOf_inj), initOf ringCells ringToks, 1)

/-- The duty tokens of device `c`'s own semaphores. -/
def toks (c : Dev nD) : sProp 𝕄 :=
  iprop(each (fun sm => dutyTok ER ((c : Thread nD τ), sm) 0 false) ∗ dutyTok ER (barCell c) 0 true)

section Values

variable (xv : Dev nD → Blk F) (sv : Dev nD → ℕ → Blk F)

/-- What each device is dealt. -/
def G (c : Dev nD) : sProp 𝕄 :=
  iprop((bigSep Finset.univ fun k : Fin 61 => roundState ER (ringRd xv sv) (kcell (c, k)) 0)
    ∗ (bigSep Finset.univ fun k : Fin 61 => iprop(atPos ER (kcell (c, k)) 0 ∅ 0 ∗ reached ER (kcell (c, k)) 0)) ∗ toks c)

theorem fund_ring : BI.own (ER (initOf ringCells ringToks)) ⊢ (|==> bigSep Finset.univ (G xv sv) : sProp 𝕄) := by
  have hX (Φ : GSem nD τ sig → sProp 𝕄) : bigSep ringCells Φ = bigSep Finset.univ fun c : Dev nD => bigSep Finset.univ fun k : Fin 61 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks
    rw [bigSep_union toks_disjoint]
    unfold falseToks trueToks toks
    rw [bigSep_map, bigSep_map, bigSep_univ_prod, bigSep_sep',
      ← bigSep_congr (s := Finset.univ) (fun (c : Dev nD) _ => cells_each fun sm => (dutyTok ER ((c : Thread nD τ), sm) 0 false : sProp 𝕄))]
    rfl
  iintro HX
  imod (Rounds.fund ER (ringRd xv sv) ringCells ringToks) $$ HX with ⟨Hst, Hr, Hat, Htok⟩
  imodintro
  ihave Hst' := (Entails.of_eq (hX fun g => roundState ER (ringRd xv sv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end Values

/-! ## The semaphores the kernel runs on, at zero -/

/-- The sixty transfer semaphores and the one of the local copies. -/
abbrev osem : Fin 61 → SemLoc sig := fun i => .dma (dsem (4 + i.val))

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (dsem 64)) 0 ∗ zeros c 4 15 ∗ zeros c 19 15 ∗ zeros c 34 15 ∗ zeros c 49 15) := by
  unfold Pipeline.ownSems0
  have h := (fin_places fun n => (semVal ((c : Thread nD τ), SemLoc.dma (dsem (4 + n))) 0 : sProp 𝕄)).trans (places _)
  have e (b : ℕ) : (bigSep (Finset.Ico 0 15) fun h => (semVal ((c : Thread nD τ), SemLoc.dma (dsem (4 + (b + h)))) 0 : sProp 𝕄)) = zeros c (4 + b) 15 := by
    unfold zeros; rw [Finset.range_eq_Ico]
    exact bigSep_congr fun h _ => by rw [show 4 + (b + h) = 4 + b + h by omega]
  rw [e, e, e, e] at h
  exact h

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 61 => semVal (kcell (c, k)) 0) ∗ semVal ((c : Thread nD τ), SemLoc.dma (dsem 64)) 0) : sProp 𝕄) := by
  have h : (bigSep Finset.univ fun k : Fin 61 => (semVal (kcell (c, k)) 0 : sProp 𝕄)) = each fun sm => semVal ((c : Thread nD τ), sm) 0 :=
    cells_each fun sm => (semVal ((c : Thread nD τ), sm) 0 : sProp 𝕄)
  rw [ownSems0_eq, unscopedSems0_eq, h]
  unfold each zeros
  rw [Finset.range_eq_Ico]
  iintro ⟨⟨Hk, H1, H2, H3, H4⟩, HB⟩
  isplitr [Hk]
  · isplitl [HB]; · iexact HB
    isplitl [H1]; · iexact H1
    isplitl [H2]; · iexact H2
    isplitl [H3] <;> iassumption
  iexact Hk

/-! ## Every device's share -/

/-- What device `c` alone holds once the tokens are dealt around the ring. -/
def held (c : Dev nD) : sProp 𝕄 := iprop(linear c ∗ poss c 19 0 ∗ poss c 49 0)

theorem toks_around : (bigSep Finset.univ fun c : Dev nD => (toks c : sProp 𝕄))
    ⊢ bigSep Finset.univ fun c : Dev nD => iprop(dutyTok ER (barCell (prv c)) 0 true ∗ dutyTok ER (barCell (nxt c)) 0 false ∗ agToks c ∗ rsToks c) := by
  unfold toks each agToks rsToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep (Finset.Ico 0 15) fun h => dutyTok ER (cell c (19 + h)) 0 false : sProp 𝕄)),
    bigSep_univ_equiv ring (fun c : Dev nD => (bigSep (Finset.Ico 0 15) fun h => dutyTok ER (cell c (49 + h)) 0 false : sProp 𝕄))]
  iintro ⟨⟨H1, H2, H3, H4, H5⟩, H6⟩
  isplitl [H6]; · iexact H6
  isplitl [H1]; · iexact H1
  isplitl [H2 H3]
  · isplitl [H2]; · iexact H2
    iexact H3
  isplitl [H4]; · iexact H4
  iexact H5

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Alloc

variable (xv : Dev nD → Blk F) (sv : Dev nD → ℕ → Blk F)

/-- One device's semaphores put under their invariants. -/
theorem core_alloc (c : Dev nD) :
    iprop(Pipeline.ownSems0 (Ix := Unit) (Name := ℕ) (U := UU) (Lvl := ℕ) (Val := Elt F) (τ := τ) osem c ∗ unscopedSems0 c ∗ G xv sv c)
      ⊢ |={Set.univ}=> iprop((bigSep Finset.univ fun k => iprop(∃ κ : ℕ, cellInv ER (ringRd xv sv) κ (kcell (c, k))))
          ∗ (bigSep Finset.univ fun k => iprop(atPos ER (kcell (c, k)) 0 ∅ 0 ∗ reached ER (kcell (c, k)) 0)) ∗ toks c
          ∗ semVal ((c : Thread nD τ), SemLoc.dma (dsem 64)) 0) := by
  unfold G
  iintro ⟨Hos, Hus, Hst, Hat, Htok⟩
  ihave Hv := (sems0_eq (F := F) c) $$ [Hos Hus]
  · isplitl [Hos] <;> iassumption
  icases Hv with ⟨Hv, Hkv⟩
  imod (show iprop((bigSep Finset.univ fun k : Fin 61 => semVal (kcell (c, k)) 0) ∗ bigSep Finset.univ fun k : Fin 61 => roundState ER (ringRd xv sv) (kcell (c, k)) 0)
      ⊢ (|={Set.univ}=> bigSep Finset.univ fun k => iprop(∃ κ : ℕ, cellInv ER (ringRd xv sv) κ (kcell (c, k))) : sProp 𝕄) from by
        rw [← bigSep_sep']
        exact (bigSep_mono fun k _ => (Rounds.body_intro ER (ringRd xv sv) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

/-- What device `c` starts from. -/
def G' (c : Dev nD) : sProp 𝕄 := iprop(∃ K, records xv sv K ∗ held c)

omit [FloatOps F] in
theorem share_intro (K : Dev nD × Fin 61 → ℕ) (c : Dev nD) : iprop(records xv sv K ∗ held c) ⊢ G' xv sv c := by
  unfold G'
  iintro ⟨H, H'⟩
  iexists K
  isplitl [H] <;> iassumption

theorem held_intro : iprop((bigSep Finset.univ fun c : Dev nD => bigSep Finset.univ fun k : Fin 61 => (atPos ER (kcell (c, k)) 0 ∅ 0 : sProp 𝕄))
      ∗ (bigSep Finset.univ fun c : Dev nD => (toks c : sProp 𝕄)) ∗ bigSep Finset.univ fun c : Dev nD => (semVal ((c : Thread nD τ), SemLoc.dma (dsem 64)) 0 : sProp 𝕄))
      ⊢ bigSep Finset.univ fun c : Dev nD => (held c : sProp 𝕄) := by
  rw [bigSep_congr (s := Finset.univ) (fun (c : Dev nD) _ => cells_each fun sm => (atPos ER ((c : Thread nD τ), sm) 0 ∅ 0 : sProp 𝕄))]
  refine (sep_mono_right (sep_mono_left toks_around)).trans ?_
  unfold held linear each poss
  simp only [bigSep_sep']
  iintro ⟨⟨P1, P2, P3, P4, P5⟩, ⟨T1, T2, T3, T4⟩, Hk⟩
  isplitr [P3 P5]
  · isplitl [T1]; · iexact T1
    isplitl [T2]; · iexact T2
    isplitl [T3]; · iexact T3
    isplitl [T4]; · iexact T4
    isplitl [P1]; · iexact P1
    isplitl [P2]; · iexact P2
    isplitl [P4]; · iexact P4
    iexact Hk
  isplitl [P3]; · iexact P3
  iexact P5

theorem regroup :
    (bigSep Finset.univ fun c : Dev nD => iprop((bigSep Finset.univ fun k => iprop(∃ κ : ℕ, cellInv ER (ringRd xv sv) κ (kcell (c, k))))
          ∗ (bigSep Finset.univ fun k => iprop(atPos ER (kcell (c, k)) 0 ∅ 0 ∗ reached ER (kcell (c, k)) 0)) ∗ toks c
          ∗ semVal ((c : Thread nD τ), SemLoc.dma (dsem 64)) 0) : sProp 𝕄)
      ⊢ bigSep Finset.univ (G' xv sv) := by
  rw [bigSep_sep', bigSep_sep', bigSep_sep', ← bigSep_univ_prod (fun ck : Dev nD × Fin 61 => iprop(∃ κ : ℕ, cellInv ER (ringRd xv sv) κ (kcell ck))),
    bigSep_congr (s := Finset.univ) (fun (c : Dev nD) _ => bigSep_sep' Finset.univ (fun k : Fin 61 => (atPos ER (kcell (c, k)) 0 ∅ 0 : sProp 𝕄)) (fun k => reached ER (kcell (c, k)) 0)),
    bigSep_sep', ← bigSep_univ_prod (fun ck : Dev nD × Fin 61 => (reached ER (kcell ck) 0 : sProp 𝕄))]
  iintro ⟨HI, ⟨Hat, #HR⟩, Htok, Hk⟩
  ihave HK := (BI.bigSep_exists_pi Finset.univ (fun (ck : Dev nD × Fin 61) (κ : ℕ) => (cellInv ER (ringRd xv sv) κ (kcell ck) : sProp 𝕄))) $$ HI
  icases HK with ⟨%K, #HI⟩
  iapply (bigSep_with_persistent (R := records xv sv K) fun c _ => share_intro xv sv K c)
  isplitr
  · unfold records; isplitl; · iexact HI
    iexact HR
  · iapply (held_intro (F := F))
    isplitl [Hat]; · iexact Hat
    isplitl [Htok]; · iexact Htok
    iexact Hk

/-- All devices at once. -/
theorem glob : (bigSep Finset.univ fun c => iprop(Pipeline.ownSems0 (Ix := Unit) (Name := ℕ) (U := UU) (Lvl := ℕ) (Val := Elt F) (τ := τ) osem c ∗ unscopedSems0 c ∗ G xv sv c) : sProp 𝕄)
    ⊢ |={Set.univ}=> bigSep Finset.univ (G' xv sv) :=
  ((bigSep_mono fun c _ => core_alloc xv sv c).trans (bigSep_fupd _ _)).trans (BI.fupd_mono (regroup xv sv))

end Alloc

/-! ## The launch credit -/

/-- What device `d` owes a semaphore of a family of arrivals of `nxt d`. -/
theorem fam_owed (d c : Dev nD) (b n : ℕ) (hb : b ≤ 49) (hn : n < 65) :
    (∑ h ∈ Finset.Ico 0 15, tallyAt (cell (nxt d) (b + h)) () N : CellTallies nD τ sig Unit) (cell c n) ()
      = if d = prv c ∧ b ≤ n ∧ n < b + 15 then N else 0 := by
  rw [Finset.sum_apply, Finsupp.finset_sum_apply]
  by_cases h : d = prv c ∧ b ≤ n ∧ n < b + 15
  · rw [if_pos h]
    obtain ⟨rfl, h1, h2⟩ := h
    rw [Finset.sum_eq_single_of_mem (n - b) (Finset.mem_Ico.mpr ⟨Nat.zero_le _, by omega⟩)]
    · rw [tallyAt_apply, nxt_prv, show b + (n - b) = n by omega, if_pos ⟨rfl, rfl⟩]
    · intro h hh hne
      have := (Finset.mem_Ico.mp hh).2
      rw [tallyAt_apply, if_neg]
      rintro ⟨e, -⟩
      have := dsem_inj (by omega) (by omega) (SemLoc.dma.inj (congrArg Prod.snd e))
      omega
  · rw [if_neg h]
    refine Finset.sum_eq_zero fun k hk => ?_
    have := (Finset.mem_Ico.mp hk).2
    rw [tallyAt_apply, if_neg]
    rintro ⟨e, -⟩
    have e1 : c = nxt d := congrArg (fun g : GSem nD τ sig => g.1.1) e
    have e2 := dsem_inj (by omega) (by omega) (SemLoc.dma.inj (congrArg Prod.snd e))
    exact h ⟨by rw [e1, prv_nxt], by omega, by omega⟩

theorem fam_owed_bar (d c : Dev nD) (b : ℕ) :
    (∑ h ∈ Finset.Ico 0 15, tallyAt (cell (nxt d) (b + h)) () N : CellTallies nD τ sig Unit) (barCell c) () = 0 := by
  rw [Finset.sum_apply, Finsupp.finset_sum_apply]
  refine Finset.sum_eq_zero fun k hk => ?_
  rw [tallyAt_apply, if_neg]
  rintro ⟨e, -⟩
  exact dma_ne_bar _ (congrArg Prod.snd e).symm

theorem bar_eq_iff {a b : Dev nD} : (barCell a = barCell b) ↔ (a = b) :=
  ⟨fun h => congrArg (fun g : GSem nD τ sig => g.1.1) h, fun h => h ▸ rfl⟩

theorem owed_bar (d c : Dev nD) : O₀ d (barCell c) () = (if d = prv c then 1 else 0) + (if d = nxt c then 1 else 0) := by
  unfold O₀ O₁ owed
  rw [Pi.add_apply, Finsupp.add_apply, Pi.add_apply, Finsupp.add_apply, Pi.add_apply, Finsupp.add_apply, fam_owed_bar, fam_owed_bar,
    tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

theorem owed_cell (d c : Dev nD) (n : ℕ) (hn : n < 65) (h : (19 ≤ n ∧ n < 34) ∨ (49 ≤ n ∧ n < 64)) : O₀ d (cell c n) () = if d = prv c then N else 0 := by
  unfold O₀ O₁ owed
  rw [Pi.add_apply, Finsupp.add_apply, Pi.add_apply, Finsupp.add_apply, Pi.add_apply, Finsupp.add_apply, fam_owed d c 19 n (by decide) hn, fam_owed d c 49 n (by decide) hn,
    tallyAt_ne_cell (fun h => dma_ne_bar _ (congrArg Prod.snd h)), tallyAt_ne_cell (fun h => dma_ne_bar _ (congrArg Prod.snd h)), Finsupp.zero_apply, Nat.add_zero, Nat.add_zero]
  by_cases hd : d = prv c
  · rw [if_pos hd]
    rcases h with h | h
    · rw [if_pos (show d = prv c ∧ 19 ≤ n ∧ n < 19 + 15 from ⟨hd, h.1, by omega⟩), if_neg (fun h' : d = prv c ∧ 49 ≤ n ∧ n < 49 + 15 => by omega), Nat.add_zero]
    · rw [if_neg (fun h' : d = prv c ∧ 19 ≤ n ∧ n < 19 + 15 => by omega), if_pos (show d = prv c ∧ 49 ≤ n ∧ n < 49 + 15 from ⟨hd, h.1, by omega⟩), Nat.zero_add]
  · rw [if_neg hd, if_neg (fun h' => hd h'.1), if_neg (fun h' => hd h'.1)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_cell (c : Dev nD) (n : ℕ) (hn : n < 65) (h : (19 ≤ n ∧ n < 34) ∨ (49 ≤ n ∧ n < 64)) :
    tallyOn (cell c n) (launchCredit (Pipeline.owing O₀) 0 (cell c n)) = (tallyAt (cell c n) () N : CellTallies nD τ sig Unit) := by
  unfold tallyAt; refine congrArg _ (Finsupp.ext fun u => ?_); cases u
  rw [Pipeline.launchCredit_owing, Finsupp.single_eq_same, Finset.sum_congr rfl fun d _ => owed_cell d c n hn h, Finset.sum_ite_eq' Finset.univ (prv c) fun _ => N,
    if_pos (Finset.mem_univ _)]

/-- The credits of device `c`'s arrivals. -/
theorem creds_launch (c : Dev nD) : (Pipeline.launchCred O₀ c : sProp 𝕄)
    ⊢ iprop(cred (tallyAt (barCell c) () 2) ∗ (bigSep (Finset.Ico 0 15) fun h => cred (tallyAt (cell c (19 + h)) () N))
        ∗ bigSep (Finset.Ico 0 15) fun h => cred (tallyAt (cell c (49 + h)) () N)) := by
  unfold Pipeline.launchCred
  have e19 : (bigSep (Finset.Ico 0 15) fun h => (cred (tallyAt (cell c (19 + h)) () N) : sProp 𝕄))
      = bigSep (Finset.Ico 0 15) fun h => cred (tallyOn (cell c (19 + h)) (launchCredit (Pipeline.owing O₀) 0 (cell c (19 + h)))) :=
    bigSep_congr fun h hh => by
      have := (Finset.mem_Ico.mp hh).2
      rw [launch_cell c (19 + h) (by omega) (Or.inl ⟨by omega, by omega⟩)]
  have e49 : (bigSep (Finset.Ico 0 15) fun h => (cred (tallyAt (cell c (49 + h)) () N) : sProp 𝕄))
      = bigSep (Finset.Ico 0 15) fun h => cred (tallyOn (cell c (49 + h)) (launchCredit (Pipeline.owing O₀) 0 (cell c (49 + h)))) :=
    bigSep_congr fun h hh => by
      have := (Finset.mem_Ico.mp hh).2
      rw [launch_cell c (49 + h) (by omega) (Or.inr ⟨by omega, by omega⟩)]
  have h : (bigSep Finset.univ fun sm : SemLoc sig => (cred (tallyOn ((c : Thread nD τ), sm) (launchCredit (Pipeline.owing O₀) 0 ((c : Thread nD τ), sm))) : sProp 𝕄))
      ⊢ each fun sm => cred (tallyOn ((c : Thread nD τ), sm) (launchCredit (Pipeline.owing O₀) 0 ((c : Thread nD τ), sm))) := by
    have e := bigSep_image_of_injOn place_inj fun sm : SemLoc sig => (cred (tallyOn ((c : Thread nD τ), sm) (launchCredit (Pipeline.owing O₀) 0 ((c : Thread nD τ), sm))) : sProp 𝕄)
    rw [← range_each, ← e]
    exact bigSep_subset (Finset.subset_univ _)
  rw [e19, e49, ← launch_bar]
  refine h.trans ?_
  unfold each
  iintro ⟨H1, -, H2, -, H3⟩
  isplitl [H1]; · iexact H1
  isplitl [H2]; · iexact H2
  iexact H3

end Cert.KernelIdeal.Ring

end
-- ==== Proof.KernelIdeal.Launch.lean ====
/-
# 01_k — `Launch`: the launch on sixteen devices

The body on every device, with the copies that bring its operands in and take its result out, makes the whole program's run.
-/
module

public import proofs.«01_k».proof.Proof.KernelIdeal.Deal
public import Idealize.ShloMosaic.Lib.Pipeline.CollectiveSegs
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ) (ρ : Dev nD → PrngReg)

/-- A memory with every counter at zero. -/
def s₀ : MemSt nD τ sig (Elt F) := ⟨m, fun _ => 0, ρ⟩

/-- What every device holds in its argument arrays. -/
def ins : Ins F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  k c := KA.view.read (Elt F) (m ((c : Thread nD τ).loc main_arg2))
  v c := VA.view.read (Elt F) (m ((c : Thread nD τ).loc main_arg3))

/-- Device `c`'s array at its launch contents. -/
abbrev atLaunch (c : Dev nD) (b : Ref sig .tc) : sProp 𝕄 := ((c : Thread nD τ).loc b ↦{fullShare} m ((c : Thread nD τ).loc b))

/-- What device `c` starts from: its share of the exchange, its credits and the two arrays it copies from. -/
def start (c : Dev nD) : sProp 𝕄 :=
  iprop((∃ K, records (x16 (ins m)) (sumv (ins m)) K ∗ linear c) ∗ arrivals c ∗ levAts L lv ∗ atLaunch m c main_arg2 ∗ atLaunch m c main_arg3)

def Φ₀ (c : Dev nD) : sProp 𝕄 := iprop(start m c ∗ scratch c)
/-- After the body: every semaphore at zero, the two arrays unchanged. -/
def Φ₁ (c : Dev nD) : sProp 𝕄 := iprop(quiet c ∗ atLaunch m c main_arg2 ∗ atLaunch m c main_arg3 ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).wo c
    | ⟨3, _⟩ => out (ins m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body at the one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win 0).fetch t = true := by rw [fin_N t]; rfl
theorem fetch_1 (t : Fin cfg0.N) : (cfg0.win 1).fetch t = true := by rw [fin_N t]; rfl
theorem fetch_2 (t : Fin cfg0.N) : (cfg0.win 2).fetch t = true := by rw [fin_N t]; rfl

theorem owns_whole_eq (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

set_option maxRecDepth 4000 in
def bodyPost (c : Dev nD) : sProp 𝕄 :=
  iprop(Φ₁ m c ∗ (dats m ρ 0 c).owesAt () t₀.succ
    ∗ stg c cc0_stg0_0 ((ins m).x c) ∗ stg c cc0_stg1_0 ((ins m).wq c) ∗ stg c cc0_stg2_0 ((ins m).wo c) ∗ stg c cc0_stg3_0 (out (ins m) c))

theorem kvIn_intro (A : SrcM) (c : Dev nD) (f : Buf (Elt F) (A.view.loc (c : Thread nD τ))) :
    (A.view.loc (c : Thread nD τ) ↦{fullShare} f) ⊢ (kvIn A c (A.view.read (Elt F) f) : sProp 𝕄) := by
  unfold kvIn
  iintro H
  iexists f
  isplitr
  · ipureintro; rfl
  iexact H

theorem kIn_elim (c : Dev nD) : (kvIn KA c ((ins m).k c) : sProp 𝕄) ⊢ atLaunch m c main_arg2 := by
  unfold kvIn
  iintro ⟨%f, %h, H⟩
  have e : f = m ((c : Thread nD τ).loc main_arg2) := h
  subst e
  iexact H

theorem vIn_elim (c : Dev nD) : (kvIn VA c ((ins m).v c) : sProp 𝕄) ⊢ atLaunch m c main_arg3 := by
  unfold kvIn
  iintro ⟨%f, %h, H⟩
  have e : f = m ((c : Thread nD τ).loc main_arg3) := h
  subst e
  iexact H

/-- Device `c`'s body from what it starts from to what it leaves. -/
theorem sound_body (c : Dev nD) : bodyPre m ρ c ⊢ wpc c (atArgs (cc0_body (F := F))) (fun _ => bodyPost m ρ c) := by
  unfold bodyPre Φ₀ start
  iintro ⟨⟨⟨⟨%K, HK, Hlin⟩, Harr, Hlev, Hk, Hv⟩, Hscr⟩, Ho, ⟨%d0, %g0, %hg0, H0⟩, ⟨%d1, %g1, %hg1, H1⟩, ⟨%d2, %g2, %hg2, H2⟩, ⟨%d3, %g3, %hg3, H3⟩⟩
  have h0 : g0 = (ins m).x c := by rw [hg0]; unfold Dat.before; rw [if_pos (fetch_0 t₀)]; rfl
  have h1 : g1 = (ins m).wq c := by rw [hg1]; unfold Dat.before; rw [if_pos (fetch_1 t₀)]; rfl
  have h2 : g2 = (ins m).wo c := by rw [hg2]; unfold Dat.before; rw [if_pos (fetch_2 t₀)]; rfl
  subst h0 h1 h2
  unfold Dat.owesAt Pipeline.owesWithin
  icases Ho with ⟨%W, %hW, HO⟩
  rw [show (dats m ρ 0 c).owed t₀.castSucc = O₀ c from rfl]
  ihave Hk := (kvIn_intro KA c _) $$ Hk
  ihave Hv := (kvIn_intro VA c _) $$ Hv
  iapply (body_run (ins m) K c (fun _ => bodyPost m ρ c) g3)
  isplitr []
  · isplitl [HK]; · iexact HK
    isplitl [Hlev]; · iexact Hlev
    isplitl [HO]; · unfold owe; iexists W; iexact HO
    isplitl [Hlin]; · iexact Hlin
    isplitl [Harr]; · iexact Harr
    isplitl [H0]; · iexact H0
    isplitl [H1]; · iexact H1
    isplitl [H2]; · iexact H2
    isplitl [H3]; · iexact H3
    isplitl [Hk]; · iexact Hk
    isplitl [Hv]; · iexact Hv
    iexact Hscr
  iintro ⟨HO, Hq, H0, H1, H2, H3, Hk, Hv, Hscr⟩
  ihave Hk := (kIn_elim m c) $$ Hk
  ihave Hv := (vIn_elim m c) $$ Hv
  unfold bodyPost Φ₁ Dat.owesAt Pipeline.owesWithin owe
  rw [show (dats m ρ 0 c).owed t₀.succ = 0 from rfl]
  icases HO with ⟨%W', HO⟩
  isplitl [Hq Hk Hv Hscr]
  · isplitl [Hq]; · iexact Hq
    isplitl [Hk]; · iexact Hk
    isplitl [Hv]; · iexact Hv
    iexact Hscr
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 8000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wpc c (atArgs (cc0_body (F := F))) (fun _ => bodyPost m ρ c)
  exact sound_body m ρ c

/-! ## The launch -/

set_option maxRecDepth 20000 in
theorem ownSemFacts : Pipeline.OwnSemFacts cfg0.spec osem := by decide

theorem share_eq (c : Dev nD) (w : Fin cfg0.W) : (dats m ρ 0 c).share w = fullShare := by unfold Dat.share; split <;> rfl

theorem arrivals_intro (c : Dev nD) : iprop(poss c 19 0 ∗ poss c 49 0 ∗ Pipeline.launchCred O₀ c) ⊢ (arrivals c : sProp 𝕄) := by
  refine (sep_mono_right (sep_mono_right (creds_launch c))).trans ?_
  unfold arrivals poss waits
  rw [bigSep_sep', bigSep_sep']
  iintro ⟨P1, P2, H1, H2, H3⟩
  isplitl [H1]; · iexact H1
  isplitl [P1 H2]
  · isplitl [P1]; · iexact P1
    iexact H2
  isplitl [P2]; · iexact P2
  iexact H3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (x16 (ins m)) (sumv (ins m)) c)
      ⊢ |={Set.univ}=> iprop(start m c ∗ emp) := by
  rw [Pipeline.unscopedRestP_none, unscopedRest0_eq]
  unfold G' held start
  iintro ⟨⟨Hk, Hv⟩, Hlev, Hcr, -, ⟨%K, HK, Hlin, P1, P2⟩⟩
  ihave Harr := (arrivals_intro (F := F) c) $$ [P1 P2 Hcr]
  · isplitl [P1]; · iexact P1
    isplitl [P2] <;> iassumption
  imodintro
  isplitl
  · isplitl [HK Hlin]
    · iexists K
      isplitl [HK] <;> iassumption
    isplitl [Harr]; · iexact Harr
    isplitl [Hlev]; · iexact Hlev
    isplitl [Hk] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What is kept to the end: the barrier at zero and the two arrays. -/
def keep (c : Dev nD) : sProp 𝕄 := iprop(unscopedSems0 c ∗ atLaunch m c main_arg2 ∗ atLaunch m c main_arg3)

theorem phi1_exit (c : Dev nD) :
    (dats m ρ 0 c).Φ (Fin.last cfg0.N) ⊢ iprop(keep m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ keep quiet scratch
  rw [unscopedSems0_eq]
  iintro ⟨⟨HB, H1, H2, H3, H4, Hkv⟩, Hk, Hv, Hr⟩
  isplitl [HB Hk Hv]
  · isplitl [HB]; · iexact HB
    isplitl [Hk] <;> iassumption
  isplitr [Hr]
  · isplitl [Hkv]; · iexact Hkv
    isplitl [H1]; · iexact H1
    isplitl [H2]; · iexact H2
    isplitl [H3] <;> iassumption
  iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What every final state holds: the windows' arrays at what the body left, the two other arrays as at the launch. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem keep_read (c : Dev nD) (s' : Phys nD τ sig (Elt F)) :
    iprop(keep m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ SI s') := by
  unfold keep
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hk, Buf.eq_of_forall_mem_univ hv⟩
  iexact HSI

set_option maxRecDepth 8000 in
/-- From any memory with zero counters every run of the sixteen devices ends, at the stated contents, with every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G (x16 (ins m)) (sumv (ins m))) (G' := G' (x16 (ins m)) (sumv (ins m))) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring (x16 (ins m)) (sumv (ins m))) $$ HX with HG
      imodintro
      isplitl [HP] <;> iassumption)
    (hglob := glob (x16 (ins m)) (sumv (ins m)))
    (hA := fun _ _ => rfl) (hpf := fun _ k => k.elim0)
    (X := start m) (Y := keep m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => keep_read m c s')
    (hQ := fun _ h hs => ⟨fun c => ⟨(h c).1, (h c).2.2.2⟩, sem_eq_zero hs fun c => (h c).2.2.1⟩)

end Cert.KernelIdeal.Ring

end
-- ==== Proof.KernelIdeal.Final.lean ====
/-
# 01_k — `Final`: the program's run

What every run of the sixteen devices ends with: the result, the unchanged arguments, and every semaphore at zero.
-/
module

public import proofs.«01_k».proof.Proof.KernelIdeal.Launch
public import Idealize.ShloMosaic.Lib.Pipeline.Value
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ) (ρ : Dev nD → PrngReg)

theorem final_in0 (c : Dev nD) : finalA m ρ c (0 : Fin 4) = m ((c : Thread nD τ).loc main_arg0) := (dats (F := F) m ρ 0 c).arrAt_in (0 : Fin 4) rfl _
theorem final_in1 (c : Dev nD) : finalA m ρ c (1 : Fin 4) = m ((c : Thread nD τ).loc main_arg1) := (dats (F := F) m ρ 0 c).arrAt_in (1 : Fin 4) rfl _
theorem final_in2 (c : Dev nD) : finalA m ρ c (2 : Fin 4) = m ((c : Thread nD τ).loc main_arg4) := (dats (F := F) m ρ 0 c).arrAt_in (2 : Fin 4) rfl _

theorem final_out (c : Dev nD) : finalA m ρ c (3 : Fin 4) = out (ins m) c := by
  refine (dats (F := F) m ρ 0 c).arrAt_eq_of_after_last 3 t₀ (by decide +kernel) _ fun j => ?_
  rfl

/-- From any memory with zero counters every run of the sixteen devices ends; the result array of device `c` then holds
    `out (ins m) c`, the arguments hold what they held and every semaphore is at zero. -/
theorem run_out : θ_run defs (onTc (τ := τ) (main (F := F))) ⟨m, fun _ => 0, ρ⟩ (fun r => (∀ c : Dev nD,
      r.2.mem ((c : Thread nD τ).loc main_v1) = out (ins m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run _ _ _).mono (fun r h => ⟨fun c => ⟨((h.1 c).1 3).trans (final_out m ρ c), ((h.1 c).1 0).trans (final_in0 m ρ c), ((h.1 c).1 1).trans (final_in1 m ρ c),
    (h.1 c).2.1, (h.1 c).2.2, ((h.1 c).1 2).trans (final_in2 m ρ c)⟩, h.2⟩) (run_main m ρ)

end Cert.KernelIdeal.Ring

end
-- ==== Proof.Value.Online.lean ====
/-
# 01_k — `Online`: weighted sums of exponentials over the extended reals

A sum of exponentials taken chunk by chunk, each time rescaled to a new reference point, is the plain sum up to one positive
factor, and the quotient of two such sums is the quotient of the plain sums. The scores and the reference points are real; the
weights are any extended reals.
-/
module

public import Idealize.ShloMosaic.PureOps.Ideal.Laws
public import Mathlib.Data.EReal.Inv

@[expose] public section

noncomputable section

namespace Cert.Attention

open Idealize.ShloMosaic
open scoped BigOperators

/-- The exponential of a real number is the real exponential. -/
theorem exp_coe (r : ℝ) : Ideal.exp (r : EReal) = ((Real.exp r : ℝ) : EReal) := rfl

/-- A real factor that is not negative distributes over a sum of two extended reals. -/
theorem coe_mul_add (e : ℝ) (he : 0 ≤ e) (a b : EReal) : (e : EReal) * (a + b) = (e : EReal) * a + (e : EReal) * b :=
  EReal.left_distrib_of_nonneg_of_ne_top (EReal.coe_nonneg.2 he) (EReal.coe_ne_top e) a b

/-- A real factor that is not negative distributes over a finite sum of extended reals. -/
theorem coe_mul_sum {ι : Type} (e : ℝ) (he : 0 ≤ e) (s : Finset ι) (f : ι → EReal) :
    (e : EReal) * ∑ j ∈ s, f j = ∑ j ∈ s, (e : EReal) * f j := by
  classical
  induction s using Finset.induction_on with
  | empty => simp
  | insert a s ha ih => rw [Finset.sum_insert ha, Finset.sum_insert ha, coe_mul_add e he, ih]

/-- A finite sum of real numbers, summed as extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The state of the running softmax at the reference point `m`: `l` is `a` and `o` is `b`, both times the exponential of
    `-m`; before the first chunk there is no reference point and all of them are zero. -/
def State (m l o a b : EReal) : Prop :=
  (m = ⊥ ∧ l = 0 ∧ o = 0 ∧ a = 0 ∧ b = 0) ∨
    ∃ M : ℝ, m = (M : EReal) ∧ l = ((Real.exp (-M) : ℝ) : EReal) * a ∧ o = ((Real.exp (-M) : ℝ) : EReal) * b

theorem state_start : State ⊥ 0 0 0 0 := Or.inl ⟨rfl, rfl, rfl, rfl, rfl⟩

/-- The exponential of a real score less a real reference point. -/
theorem exp_sub (s M : ℝ) : Ideal.exp ((s : EReal) - (M : EReal)) = ((Real.exp (-M) : ℝ) : EReal) * Ideal.exp (s : EReal) := by
  rw [← EReal.coe_sub, exp_coe, exp_coe, ← EReal.coe_mul, ← Real.exp_add]
  congr 2
  ring

/-- One chunk of the running softmax, at any real new reference point. -/
theorem state_step {ι : Type} [Fintype ι] {m l o a b : EReal} (h : State m l o a b) (M : ℝ) (s : ι → ℝ) (w : ι → EReal) :
    State (M : EReal) (l * Ideal.exp (m - (M : EReal)) + ∑ j, Ideal.exp ((s j : EReal) - (M : EReal)))
      (o * Ideal.exp (m - (M : EReal)) + ∑ j, w j * Ideal.exp ((s j : EReal) - (M : EReal)))
      (a + ∑ j, Ideal.exp (s j : EReal)) (b + ∑ j, w j * Ideal.exp (s j : EReal)) := by
  have he : 0 ≤ Real.exp (-M) := (Real.exp_pos _).le
  have hs : ∑ j, Ideal.exp ((s j : EReal) - (M : EReal)) = ((Real.exp (-M) : ℝ) : EReal) * ∑ j, Ideal.exp (s j : EReal) := by
    rw [coe_mul_sum _ he]
    exact Finset.sum_congr rfl fun j _ => exp_sub (s j) M
  have hw : ∑ j, w j * Ideal.exp ((s j : EReal) - (M : EReal)) = ((Real.exp (-M) : ℝ) : EReal) * ∑ j, w j * Ideal.exp (s j : EReal) := by
    rw [coe_mul_sum _ he]
    refine Finset.sum_congr rfl fun j _ => ?_
    rw [exp_sub (s j) M, mul_left_comm]
  refine Or.inr ⟨M, rfl, ?_, ?_⟩
  · rw [hs, coe_mul_add _ he]
    congr 1
    rcases h with ⟨_, hl, _, ha, _⟩ | ⟨M', hm, hl, _⟩
    · rw [hl, ha, zero_mul, mul_zero]
    · rw [hl, hm, exp_sub M' M, exp_coe, mul_right_comm, ← mul_assoc, mul_right_comm _ _ ((Real.exp M' : ℝ) : EReal),
        ← EReal.coe_mul, ← EReal.coe_mul]
      congr 2
      rw [← Real.exp_add, ← Real.exp_add]
      congr 1
      ring
  · rw [hw, coe_mul_add _ he]
    congr 1
    rcases h with ⟨_, _, ho, _, hb⟩ | ⟨M', hm, _, ho⟩
    · rw [ho, hb, zero_mul, mul_zero]
    · rw [ho, hm, exp_sub M' M, exp_coe, mul_right_comm, ← mul_assoc, mul_right_comm _ _ ((Real.exp M' : ℝ) : EReal),
        ← EReal.coe_mul, ← EReal.coe_mul]
      congr 2
      rw [← Real.exp_add, ← Real.exp_add]
      congr 1
      ring

/-- At the end the quotient is that of the plain sums, when the plain sum of exponentials is a positive real. -/
theorem state_div {M : ℝ} {l o a b : EReal} (h : State (M : EReal) l o a b) (A : ℝ) (hA : 0 < A) (ha : a = (A : EReal)) :
    Ideal.div o l = Ideal.div b a := by
  rcases h with ⟨hm, _⟩ | ⟨M', _, hl, ho⟩
  · exact absurd hm (EReal.coe_ne_bot M)
  · have he : 0 < Real.exp (-M') := Real.exp_pos _
    have h1 : ((Real.exp (-M') * A : ℝ) : EReal) ≠ 0 := by exact_mod_cast (mul_pos he hA).ne'
    have h2 : ((A : ℝ) : EReal) ≠ 0 := by exact_mod_cast hA.ne'
    rw [hl, ho, ha, ← EReal.coe_mul]
    unfold Ideal.div
    rw [if_neg h1, if_neg h2, ← EReal.coe_inv, ← EReal.coe_inv, mul_comm _ b, mul_assoc, ← EReal.coe_mul]
    congr 2
    field_simp

/-- A sum of exponentials of real scores over a nonempty range is a positive real. -/
theorem sum_exp_pos {ι : Type} [Fintype ι] [Nonempty ι] (s : ι → ℝ) :
    0 < ∑ j, Real.exp (s j) ∧ ∑ j, Ideal.exp (s j : EReal) = ((∑ j, Real.exp (s j) : ℝ) : EReal) := by
  refine ⟨Finset.sum_pos (fun j _ => Real.exp_pos _) Finset.univ_nonempty, ?_⟩
  rw [coe_sum]
  rfl

/-- The greatest of a nonempty family of real numbers, taken from below all of them, is real. -/
theorem fold_max_real {ι : Type} [Fintype ι] [Nonempty ι] (s : ι → ℝ) :
    ∃ M : ℝ, Finset.univ.fold max (⊥ : EReal) (fun j => (s j : EReal)) = (M : EReal) := by
  classical
  obtain ⟨j, _, hj⟩ := Finset.exists_mem_eq_sup' (Finset.univ_nonempty (α := ι)) (fun j => (s j : EReal))
  refine ⟨s j, ?_⟩
  rw [← hj, Finset.sup'_eq_sup]
  rfl

end Cert.Attention

end
-- ==== Proof.Value.Reference.lean ====
/-
# 01_k — `Reference`: the reference in stages

The reference's result as a chain of stages: the queries, the scores of one chunk of keys, the running maximum, the running sum
of exponentials, the running weighted values, and the quotient multiplied by the output weights; and each stage at one index.
-/
module

public import proofs.«01_k».proof.Proof.Gen.ReferenceIdeal.Run
public import Idealize.ShloMosaic.Lib.Pointwise
public import Idealize.ShloMosaic.Lib.Tactic.CleanTypes

@[expose] public section

noncomputable section

namespace Cert.Attention

open Cert.ReferenceIdeal Cert.ReferenceIdeal.Gen
open Idealize.ShloMosaic Idealize.ShloMosaic.TcCoe

/-- The queries: the rows times the query weights, cut into heads. -/
def queries (x : FVec Ideal S1x4096x1024 .f32) (wq : FVec Ideal S1024x16384 .f32) : FVec Ideal S1x4096x128x128 .f32 :=
  shapeCast S1x4096x128x128 (Host.dotGeneral dot_S1x4096x1024_S1024x16384_S1x4096x16384_2_0_01_1_n_n none x wq) shapeCasts_S1x4096x16384_S1x4096x128x128

/-- The scores of the queries against one chunk of keys. -/
def scores (q : FVec Ideal S1x4096x128x128 .f32) (kj : FVec Ideal S1x1024x128x128 .f32) : FVec Ideal S1x128x4096x1024 .f32 :=
  mulf (Host.dotGeneral dot_S1x4096x128x128_S1x1024x128x128_S1x128x4096x1024_3_3_1_1_02_02 none q kj)
    (broadcastInDim S1x128x4096x1024 ![] bcast_S_S1x128x4096x1024 (constant S_ .f32 0x3DB504F3#32))

/-- The running maximum after one more chunk. -/
def maxNext (m : FVec Ideal S1x128x4096x1 .f32) (s : FVec Ideal S1x128x4096x1024 .f32) : FVec Ideal S1x128x4096x1 .f32 :=
  maximumf m (broadcastInDim S1x128x4096x1 ![0, 1, 2] bcast_S1x128x4096_S1x128x4096x1_0_1_2
    (Host.reduce FloatOps.maximumf s (constant S_ .f32 0xFF800000#32) reducesTo_S1x128x4096x1024_S1x128x4096_d3 h_S_))

/-- The exponentials of one chunk's scores less the running maximum. -/
def weights (m' : FVec Ideal S1x128x4096x1 .f32) (s : FVec Ideal S1x128x4096x1024 .f32) : FVec Ideal S1x128x4096x1024 .f32 :=
  Host.exp (subf s (broadcastInDim S1x128x4096x1024 ![0, 1, 2, 3] bcast_S1x128x4096x1_S1x128x4096x1024_0_1_2_3 m'))

/-- The running sum of exponentials after one more chunk. -/
def sumNext (l m m' : FVec Ideal S1x128x4096x1 .f32) (s : FVec Ideal S1x128x4096x1024 .f32) : FVec Ideal S1x128x4096x1 .f32 :=
  addf (mulf l (Host.exp (subf m m'))) (broadcastInDim S1x128x4096x1 ![0, 1, 2] bcast_S1x128x4096_S1x128x4096x1_0_1_2
    (Host.reduceAdd (weights m' s) (constant S_ .f32 0x00000000#32) reducesTo_S1x128x4096x1024_S1x128x4096_d3 h_S_))

/-- The running weighted values after one more chunk. -/
def outNext (o : FVec Ideal S1x4096x128x128 .f32) (m m' : FVec Ideal S1x128x4096x1 .f32) (s : FVec Ideal S1x128x4096x1024 .f32)
    (vj : FVec Ideal S1x1024x128x128 .f32) : FVec Ideal S1x4096x128x128 .f32 :=
  addf (mulf o (broadcastInDim S1x4096x128x128 ![0, 1, 2, 3] bcast_S1x4096x128x1_S1x4096x128x128_0_1_2_3
      (transpose S1x4096x128x1 [0, 2, 1, 3] (Host.exp (subf m m')) transposes_S1x128x4096x1_S1x4096x128x1_0_2_1_3)))
    (transpose S1x4096x128x128 [0, 3, 1, 2] (Host.dotGeneral dot_S1x1024x128x128_S1x128x4096x1024_S1x128x128x4096_1_3_3_2_02_01 none vj (weights m' s))
      transposes_S1x128x128x4096_S1x4096x128x128_0_3_1_2)

/-- The quotient, times the output weights. -/
def finish (o : FVec Ideal S1x4096x128x128 .f32) (l : FVec Ideal S1x128x4096x1 .f32) (wo : FVec Ideal S16384x1024 .f32) : FVec Ideal S1x4096x1024 .f32 :=
  Host.dotGeneral dot_S1x4096x16384_S16384x1024_S1x4096x1024_2_0_01_1_n_n none
    (shapeCast S1x4096x16384 (Host.divf o (broadcastInDim S1x4096x128x128 ![0, 1, 2, 3] bcast_S1x4096x128x1_S1x4096x128x128_0_1_2_3
      (transpose S1x4096x128x1 [0, 2, 1, 3] l transposes_S1x128x4096x1_S1x4096x128x1_0_2_1_3))) shapeCasts_S1x4096x128x128_S1x4096x16384) wo

/-! ## The stages at one index -/

set_option maxRecDepth 16384

theorem heads_apply (y : FVec Ideal S1x4096x16384 .f32) (r : Fin 4096) (h d : Fin 128) :
    shapeCast S1x4096x128x128 y shapeCasts_S1x4096x16384_S1x4096x128x128 (ix4 0 r h d) = y (ix3 0 r ⟨h.val * 128 + d.val, by omega⟩) := by
  pointwise

theorem project_apply (x : FVec Ideal S1x4096x1024 .f32) (wq : FVec Ideal S1024x16384 .f32) (r : Fin 4096) (c : Fin 16384) :
    Host.dotGeneral (F := Ideal) (φ₁ := .f32) (φ₂ := .f32) dot_S1x4096x1024_S1024x16384_S1x4096x16384_2_0_01_1_n_n none x wq (ix3 0 r c)
      = ∑ k : Fin 1024, x (ix3 0 r k) * wq (ix2 k c) := by
  pointwise

theorem queries_apply (x : FVec Ideal S1x4096x1024 .f32) (wq : FVec Ideal S1024x16384 .f32) (r : Fin 4096) (h d : Fin 128) :
    queries x wq (ix4 0 r h d) = ∑ k : Fin 1024, x (ix3 0 r k) * wq (ix2 k ⟨h.val * 128 + d.val, by omega⟩) :=
  (heads_apply _ r h d).trans (project_apply x wq r _)

theorem scores_apply (q : FVec Ideal S1x4096x128x128 .f32) (kj : FVec Ideal S1x1024x128x128 .f32) (h : Fin 128) (r : Fin 4096) (j : Fin 1024) :
    scores q kj (ix4 0 h r j) = (∑ d : Fin 128, q (ix4 0 r h d) * kj (ix4 0 j h d)) * Ideal.ofBits .f32 0x3DB504F3#32 := by
  pointwise [scores]

/-- A maximum along the last of four axes, at one index. -/
theorem reduceMax_apply {n0 n1 n2 n3 : ℕ} {u : Shape} (s : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (i0 : Fin n0) (i1 : Fin n1) (i2 : Fin n2) :
    Host.reduce FloatOps.maximumf s init h hu (ix3 i0 i1 i2)
      = Finset.univ.fold max (init (Shape.Idx.first hu)) fun k : Fin n3 => s (ix4 i0 i1 i2 k) := by
  rw [Host.reduce_eq_fold]
  exact h.fold_fiber_r4_a3 (ix3 i0 i1 i2) max _ s

theorem column_apply (y : FVec Ideal S1x128x4096 .f32) (h : Fin 128) (r : Fin 4096) :
    broadcastInDim S1x128x4096x1 ![0, 1, 2] bcast_S1x128x4096_S1x128x4096x1_0_1_2 y (ix4 0 h r 0) = y (ix3 0 h r) := by
  pointwise

theorem maxNext_apply (m : FVec Ideal S1x128x4096x1 .f32) (s : FVec Ideal S1x128x4096x1024 .f32) (h : Fin 128) (r : Fin 4096) :
    maxNext m s (ix4 0 h r 0) = max (m (ix4 0 h r 0)) (Finset.univ.fold max (Ideal.ofBits .f32 0xFF800000#32) fun j : Fin 1024 => s (ix4 0 h r j)) :=
  congrArg (max (m (ix4 0 h r 0))) ((column_apply _ h r).trans
    (reduceMax_apply (n0 := 1) (n1 := 128) (n2 := 4096) (n3 := 1024) s _ reducesTo_S1x128x4096x1024_S1x128x4096_d3 h_S_ 0 h r))

theorem weights_apply (m' : FVec Ideal S1x128x4096x1 .f32) (s : FVec Ideal S1x128x4096x1024 .f32) (h : Fin 128) (r : Fin 4096) (j : Fin 1024) :
    weights m' s (ix4 0 h r j) = Ideal.exp (s (ix4 0 h r j) - m' (ix4 0 h r 0)) := by
  pointwise [weights]

theorem sumNext_apply (l m m' : FVec Ideal S1x128x4096x1 .f32) (s : FVec Ideal S1x128x4096x1024 .f32) (h : Fin 128) (r : Fin 4096) :
    sumNext l m m' s (ix4 0 h r 0)
      = l (ix4 0 h r 0) * Ideal.exp (m (ix4 0 h r 0) - m' (ix4 0 h r 0)) + ∑ j : Fin 1024, Ideal.exp (s (ix4 0 h r j) - m' (ix4 0 h r 0)) := by
  pointwise [sumNext, weights]

theorem outNext_apply (o : FVec Ideal S1x4096x128x128 .f32) (m m' : FVec Ideal S1x128x4096x1 .f32) (s : FVec Ideal S1x128x4096x1024 .f32)
    (vj : FVec Ideal S1x1024x128x128 .f32) (r : Fin 4096) (h d : Fin 128) :
    outNext o m m' s vj (ix4 0 r h d)
      = o (ix4 0 r h d) * Ideal.exp (m (ix4 0 h r 0) - m' (ix4 0 h r 0)) + ∑ j : Fin 1024, vj (ix4 0 j h d) * Ideal.exp (s (ix4 0 h r j) - m' (ix4 0 h r 0)) := by
  pointwise [outNext, weights]

theorem finish_apply (o : FVec Ideal S1x4096x128x128 .f32) (l : FVec Ideal S1x128x4096x1 .f32) (wo : FVec Ideal S16384x1024 .f32) (r : Fin 4096) (e : Fin 1024) :
    finish o l wo (ix3 0 r e)
      = ∑ q : Fin 16384, Ideal.div (o (ix4 0 r ⟨q.val / 128, by omega⟩ ⟨q.val % 128, by omega⟩)) (l (ix4 0 ⟨q.val / 128, by omega⟩ r 0)) * wo (ix2 q e) := by
  pointwise [finish]

end Cert.Attention

end
-- ==== Proof.Value.Softmax.lean ====
/-
# 01_k — `Softmax`: the reference's result at one index

The four stages of the reference, one for each chunk of a thousand and twenty-four keys, and what comes out of them when every
score is a real number: the plain softmax over all keys, applied to the values and multiplied by the output weights.
-/
module

public import proofs.«01_k».proof.Proof.Value.Online
public import proofs.«01_k».proof.Proof.Value.Reference

@[expose] public section

noncomputable section

namespace Cert.Attention

open Cert.ReferenceIdeal Cert.ReferenceIdeal.Gen
open Idealize.ShloMosaic Idealize.ShloMosaic.TcCoe

set_option maxRecDepth 16384

/-- The scale of the scores. -/
abbrev scale : EReal := Ideal.ofBits .f32 0x3DB504F3#32

/-- The scale is a real number. -/
theorem scale_real : ∃ c : ℝ, scale = (c : EReal) := ⟨_, rfl⟩

/-- The pattern of minus infinity is below every extended real. -/
theorem ofBits_bot : Ideal.ofBits .f32 0xFF800000#32 = (⊥ : EReal) := by
  simp [Ideal.ofBits, Ideal.ieee]

/-! ## One chunk -/

/-- One chunk of the reference at one row, head and column: the state is kept, and the chunk's exponentials and weighted values
    are added to the plain sums. -/
theorem chunk_step (m l : FVec Ideal S1x128x4096x1 .f32) (o : FVec Ideal S1x4096x128x128 .f32) (s : FVec Ideal S1x128x4096x1024 .f32)
    (vj : FVec Ideal S1x1024x128x128 .f32) (r : Fin 4096) (h d : Fin 128) (a b : EReal) (σ : Fin 1024 → ℝ)
    (hs : ∀ j, s (ix4 0 h r j) = (σ j : EReal)) (hst : State (m (ix4 0 h r 0)) (l (ix4 0 h r 0)) (o (ix4 0 r h d)) a b) :
    ∃ M : ℝ, maxNext m s (ix4 0 h r 0) = (M : EReal) ∧
      State (M : EReal) (sumNext l m (maxNext m s) s (ix4 0 h r 0)) (outNext o m (maxNext m s) s vj (ix4 0 r h d))
        (a + ∑ j, Ideal.exp (σ j : EReal)) (b + ∑ j, vj (ix4 0 j h d) * Ideal.exp (σ j : EReal)) := by
  obtain ⟨X, hX⟩ := fold_max_real σ
  have hM : ∃ M : ℝ, maxNext m s (ix4 0 h r 0) = (M : EReal) := by
    rw [maxNext_apply, ofBits_bot, show (fun j : Fin 1024 => s (ix4 0 h r j)) = fun j => (σ j : EReal) from funext hs, hX]
    rcases hst with ⟨hm, _⟩ | ⟨M', hm, _⟩
    · exact ⟨X, by rw [hm]; exact max_eq_right bot_le⟩
    · exact ⟨max M' X, by rw [hm]; exact (EReal.coe_strictMono.monotone.map_max).symm⟩
  obtain ⟨M, hM⟩ := hM
  refine ⟨M, hM, ?_⟩
  rw [sumNext_apply, outNext_apply, hM]
  simp only [hs]
  exact state_step hst M σ fun j => vj (ix4 0 j h d)

/-! ## The four chunks -/

section Stages
variable (x : FVec Ideal S1x4096x1024 .f32) (wq : FVec Ideal S1024x16384 .f32) (k v : FVec Ideal S1x4096x128x128 .f32)

/-- The four chunks of keys or values. -/
def part0 : FVec Ideal S1x1024x128x128 .f32 := extractStridedSlice S1x1024x128x128 ![0, 0, 0, 0] k slices_S1x4096x128x128_S1x1024x128x128_0_0_0_0
def part1 : FVec Ideal S1x1024x128x128 .f32 := extractStridedSlice S1x1024x128x128 ![0, 1024, 0, 0] k slices_S1x4096x128x128_S1x1024x128x128_0_1024_0_0
def part2 : FVec Ideal S1x1024x128x128 .f32 := extractStridedSlice S1x1024x128x128 ![0, 2048, 0, 0] k slices_S1x4096x128x128_S1x1024x128x128_0_2048_0_0
def part3 : FVec Ideal S1x1024x128x128 .f32 := extractStridedSlice S1x1024x128x128 ![0, 3072, 0, 0] k slices_S1x4096x128x128_S1x1024x128x128_0_3072_0_0

theorem part0_apply (j : Fin 1024) (h d : Fin 128) : part0 k (ix4 0 j h d) = k (ix4 0 ⟨j.val + 1024 * 0, by omega⟩ h d) := by
  pointwise [part0]
theorem part1_apply (j : Fin 1024) (h d : Fin 128) : part1 k (ix4 0 j h d) = k (ix4 0 ⟨j.val + 1024 * 1, by omega⟩ h d) := by
  have e : (⟨j.val + 1024 * 1, by omega⟩ : Fin 4096) = ⟨1024 + j.val, by omega⟩ := Fin.ext (Nat.add_comm j.val 1024)
  rw [e]; pointwise [part1]
theorem part2_apply (j : Fin 1024) (h d : Fin 128) : part2 k (ix4 0 j h d) = k (ix4 0 ⟨j.val + 1024 * 2, by omega⟩ h d) := by
  have e : (⟨j.val + 1024 * 2, by omega⟩ : Fin 4096) = ⟨2048 + j.val, by omega⟩ := Fin.ext (Nat.add_comm j.val 2048)
  rw [e]; pointwise [part2]
theorem part3_apply (j : Fin 1024) (h d : Fin 128) : part3 k (ix4 0 j h d) = k (ix4 0 ⟨j.val + 1024 * 3, by omega⟩ h d) := by
  have e : (⟨j.val + 1024 * 3, by omega⟩ : Fin 4096) = ⟨3072 + j.val, by omega⟩ := Fin.ext (Nat.add_comm j.val 3072)
  rw [e]; pointwise [part3]

/-- The running maximum, the running sum and the running weighted values before any chunk. -/
def max0 : FVec Ideal S1x128x4096x1 .f32 := broadcastInDim S1x128x4096x1 ![] bcast_S_S1x128x4096x1 (constant S_ .f32 0xFF800000#32)
def sum0 : FVec Ideal S1x128x4096x1 .f32 := broadcastInDim S1x128x4096x1 ![] bcast_S_S1x128x4096x1 (constant S_ .f32 0x00000000#32)
def out0 : FVec Ideal S1x4096x128x128 .f32 := broadcastInDim S1x4096x128x128 ![] bcast_S_S1x4096x128x128 (constant S_ .f32 0x00000000#32)

theorem max0_apply (h : Fin 128) (r : Fin 4096) : max0 (ix4 0 h r 0) = (⊥ : EReal) := ofBits_bot
theorem sum0_apply (h : Fin 128) (r : Fin 4096) : sum0 (ix4 0 h r 0) = (0 : EReal) := Ideal.ofBits_zero_f32
theorem out0_apply (r : Fin 4096) (h d : Fin 128) : out0 (ix4 0 r h d) = (0 : EReal) := Ideal.ofBits_zero_f32

/-- The scores of each chunk. -/
def sc0 := scores (queries x wq) (part0 k)
def sc1 := scores (queries x wq) (part1 k)
def sc2 := scores (queries x wq) (part2 k)
def sc3 := scores (queries x wq) (part3 k)

/-- The running maximum after each chunk. -/
def max1 := maxNext max0 (sc0 x wq k)
def max2 := maxNext (max1 x wq k) (sc1 x wq k)
def max3 := maxNext (max2 x wq k) (sc2 x wq k)
def max4 := maxNext (max3 x wq k) (sc3 x wq k)

/-- The running sum after each chunk. -/
def sum1 := sumNext sum0 max0 (max1 x wq k) (sc0 x wq k)
def sum2 := sumNext (sum1 x wq k) (max1 x wq k) (max2 x wq k) (sc1 x wq k)
def sum3 := sumNext (sum2 x wq k) (max2 x wq k) (max3 x wq k) (sc2 x wq k)
def sum4 := sumNext (sum3 x wq k) (max3 x wq k) (max4 x wq k) (sc3 x wq k)

/-- The running weighted values after each chunk. -/
def out1 := outNext out0 max0 (max1 x wq k) (sc0 x wq k) (part0 v)
def out2 := outNext (out1 x wq k v) (max1 x wq k) (max2 x wq k) (sc1 x wq k) (part1 v)
def out3 := outNext (out2 x wq k v) (max2 x wq k) (max3 x wq k) (sc2 x wq k) (part2 v)
def out4 := outNext (out3 x wq k v) (max3 x wq k) (max4 x wq k) (sc3 x wq k) (part3 v)

/-- The reference's result of its five arguments. -/
def reference (wo : FVec Ideal S16384x1024 .f32) : FVec Ideal S1x4096x1024 .f32 := finish (out4 x wq k v) (sum4 x wq k) wo

end Stages

/-- A sum over four chunks of `n`, chunk by chunk. -/
theorem sum_four (n : ℕ) (f : Fin (4 * n) → EReal) :
    ∑ j, f j = 0 + (∑ j : Fin n, f ⟨j.val + n * 0, by omega⟩) + (∑ j : Fin n, f ⟨j.val + n * 1, by omega⟩)
      + (∑ j : Fin n, f ⟨j.val + n * 2, by omega⟩) + ∑ j : Fin n, f ⟨j.val + n * 3, by omega⟩ := by
  rw [← Equiv.sum_comp finProdFinEquiv f, Fintype.sum_prod_type, Fin.sum_univ_four, zero_add]
  rfl

/-- A sum over four thousand and ninety-six keys, chunk by chunk. -/
theorem sum_chunks (f : Fin 4096 → EReal) :
    ∑ j : Fin 4096, f j = 0 + (∑ j : Fin 1024, f ⟨j.val + 1024 * 0, by omega⟩) + (∑ j : Fin 1024, f ⟨j.val + 1024 * 1, by omega⟩)
      + (∑ j : Fin 1024, f ⟨j.val + 1024 * 2, by omega⟩) + ∑ j : Fin 1024, f ⟨j.val + 1024 * 3, by omega⟩ :=
  sum_four 1024 f

/-- The reference's quotient at one row, head and column is that of the plain sums over all keys. -/
theorem quotient_apply (x : FVec Ideal S1x4096x1024 .f32) (wq : FVec Ideal S1024x16384 .f32) (k v : FVec Ideal S1x4096x128x128 .f32)
    (r : Fin 4096) (h d : Fin 128) (σ : Fin 4096 → ℝ)
    (hσ : ∀ j, (∑ d : Fin 128, queries x wq (ix4 0 r h d) * k (ix4 0 j h d)) * scale = (σ j : EReal)) :
    Ideal.div (out4 x wq k v (ix4 0 r h d)) (sum4 x wq k (ix4 0 h r 0))
      = Ideal.div (∑ j : Fin 4096, v (ix4 0 j h d) * Ideal.exp (σ j : EReal)) (∑ j : Fin 4096, Ideal.exp (σ j : EReal)) := by
  have st0 : State (max0 (ix4 0 h r 0)) (sum0 (ix4 0 h r 0)) (out0 (ix4 0 r h d)) 0 0 := by
    rw [max0_apply, sum0_apply, out0_apply]; exact state_start
  obtain ⟨M1, h1, st1⟩ := chunk_step max0 sum0 out0 (sc0 x wq k) (part0 v) r h d 0 0 (fun j => σ ⟨j.val + 1024 * 0, by omega⟩)
    (fun j => by rw [sc0, scores_apply]; simp only [part0_apply]; exact hσ _) st0
  obtain ⟨M2, h2, st2⟩ := chunk_step (max1 x wq k) (sum1 x wq k) (out1 x wq k v) (sc1 x wq k) (part1 v) r h d _ _ (fun j => σ ⟨j.val + 1024 * 1, by omega⟩)
    (fun j => by rw [sc1, scores_apply]; simp only [part1_apply]; exact hσ _) (by rw [max1, h1]; exact st1)
  obtain ⟨M3, h3, st3⟩ := chunk_step (max2 x wq k) (sum2 x wq k) (out2 x wq k v) (sc2 x wq k) (part2 v) r h d _ _ (fun j => σ ⟨j.val + 1024 * 2, by omega⟩)
    (fun j => by rw [sc2, scores_apply]; simp only [part2_apply]; exact hσ _) (by rw [max2, h2]; exact st2)
  obtain ⟨M4, h4, st4⟩ := chunk_step (max3 x wq k) (sum3 x wq k) (out3 x wq k v) (sc3 x wq k) (part3 v) r h d _ _ (fun j => σ ⟨j.val + 1024 * 3, by omega⟩)
    (fun j => by rw [sc3, scores_apply]; simp only [part3_apply]; exact hσ _) (by rw [max3, h3]; exact st3)
  simp only [part0_apply, part1_apply, part2_apply, part3_apply] at st4
  rw [← sum_chunks fun j => Ideal.exp (σ j : EReal), ← sum_chunks fun j => v (ix4 0 j h d) * Ideal.exp (σ j : EReal)] at st4
  obtain ⟨hpos, hsum⟩ := sum_exp_pos σ
  exact state_div st4 _ hpos hsum

/-- The reference's result at one index. -/
theorem reference_apply (x : FVec Ideal S1x4096x1024 .f32) (wq : FVec Ideal S1024x16384 .f32) (k v : FVec Ideal S1x4096x128x128 .f32)
    (wo : FVec Ideal S16384x1024 .f32) (σ : Fin 4096 → Fin 128 → Fin 4096 → ℝ)
    (hσ : ∀ r h j, (∑ d : Fin 128, queries x wq (ix4 0 r h d) * k (ix4 0 j h d)) * scale = (σ r h j : EReal)) (r : Fin 4096) (e : Fin 1024) :
    reference x wq k v wo (ix3 0 r e)
      = ∑ q : Fin 16384, Ideal.div (∑ j : Fin 4096, v (ix4 0 j ⟨q.val / 128, by omega⟩ ⟨q.val % 128, by omega⟩) * Ideal.exp (σ r ⟨q.val / 128, by omega⟩ j : EReal))
          (∑ j : Fin 4096, Ideal.exp (σ r ⟨q.val / 128, by omega⟩ j : EReal)) * wo (ix2 q e) := by
  rw [reference, finish_apply]
  exact Finset.sum_congr rfl fun q _ => congrArg (· * wo (ix2 q e)) (quotient_apply x wq k v r _ _ _ fun j => hσ r _ j)

/-- What the reference's run leaves in its result. -/
theorem res_eq (m : (ℓ : Loc nD τ sig) → Buf (Elt Ideal) ℓ) (c : Dev nD) :
    Value.res_main_v101 m c = reference (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v101
  rfl

end Cert.Attention

end
-- ==== Proof.Value.Blocks.lean ====
/-
# 01_k — `Blocks`: the kernel's values at one index

Over the extended reals, the element that each of the kernel's block computations leaves at one row and column: the queries, one
head's attention, a product with the output weights, and the sum that has travelled around the ring.
-/
module

public import proofs.«01_k».proof.Proof.KernelIdeal.Values
public import proofs.«01_k».proof.Proof.Value.Softmax

@[expose] public section

noncomputable section

namespace Cert.Attention

open Cert.KernelIdeal Cert.KernelIdeal.Gen Cert.KernelIdeal.Ring
open Idealize.ShloMosaic Idealize.ShloMosaic.TcCoe

set_option maxRecDepth 16384

/-! ## One block computation -/

theorem rows_apply (x : Vec Ideal S1x256x1024 .f32) (i : Fin 256) (k : Fin 1024) : k0_pay5 (F := Ideal) x (ix2 i k) = x (ix3 0 i k) := by
  pointwise [k0_pay5]

theorem scaled_apply (w : Vec Ideal S1024x1024 .f32) (k c : Fin 1024) : k0_pay6 (F := Ideal) w (ix2 k c) = w (ix2 k c) * scale := by
  pointwise [k0_pay6]

theorem plain_apply (w : Vec Ideal S1024x1024 .f32) (k c : Fin 1024) : k0_pay7 (F := Ideal) w (ix2 k c) = w (ix2 k c) := by
  pointwise [k0_pay7]

theorem head_apply (k : Vec Ideal S4096x128 .f32) (j : Fin 4096) (d : Fin 128) : k0_pay8 (F := Ideal) k (ix3 0 j d) = k (ix2 j d) := by
  pointwise [k0_pay8]

theorem query_apply (x : Vec Ideal S256x1024 .bf16) (w : Vec Ideal S1024x1024 .bf16) (i : Fin 256) (c : Fin 1024) :
    k0_pay25 (F := Ideal) x w (ix2 i c) = ∑ k : Fin 1024, x (ix2 i k) * w (ix2 k c) := by
  pointwise [k0_pay25]

theorem attend_apply (q : Vec Ideal S256x128 .bf16) (k v : Vec Ideal S1x4096x128 .bf16) (i : Fin 256) (d : Fin 128) :
    k0_pay26 (F := Ideal) q k v (ix2 i d)
      = Ideal.div (∑ j : Fin 4096, Ideal.exp (∑ d' : Fin 128, q (ix2 i d') * k (ix3 0 j d')) * v (ix3 0 j d))
          (∑ j : Fin 4096, Ideal.exp (∑ d' : Fin 128, q (ix2 i d') * k (ix3 0 j d'))) := by
  pointwise [k0_pay26]

theorem first_apply (a : Vec Ideal S256x1024 .bf16) (w : Vec Ideal S1024x1024 .bf16) (i : Fin 256) (e : Fin 1024) :
    k0_pay29 (F := Ideal) a w (ix2 i e) = ∑ k : Fin 1024, a (ix2 i k) * w (ix2 k e) := by
  pointwise [k0_pay29]

theorem next_apply (s a : Vec Ideal S256x1024 .bf16) (w : Vec Ideal S1024x1024 .bf16) (i : Fin 256) (e : Fin 1024) :
    k0_pay30 (F := Ideal) (k0_pay4 (F := Ideal) s a w) (ix2 i e) = s (ix2 i e) + ∑ k : Fin 1024, a (ix2 i k) * w (ix2 k e) := by
  pointwise [k0_pay30, k0_pay4]

theorem last_apply (s a : Vec Ideal S256x1024 .bf16) (w : Vec Ideal S1024x1024 .bf16) (i : Fin 256) (e : Fin 1024) :
    k0_pay1 (F := Ideal) s a w (ix3 0 i e) = s (ix2 i e) + ∑ k : Fin 1024, a (ix2 i k) * w (ix2 k e) := by
  pointwise [k0_pay1]

/-! ## The attention of one device -/

section Ring
variable (I : Ins Ideal)

/-- The query of row `i` of device `j`'s block in column `c` of device `d`'s weights. -/
def query (d j : Dev nD) (i : Fin 256) (c : Fin 1024) : EReal := ∑ k : Fin 1024, I.x j (ix3 0 i k) * (I.wq d (ix2 k c) * scale)

theorem qry_apply (d j : Dev nD) (i : Fin 256) (c : Fin 1024) : qry I d j (ix2 i c) = query I d j i c := by
  refine (query_apply _ _ i c).trans (Finset.sum_congr rfl fun k _ => ?_)
  exact congrArg₂ (· * ·) (rows_apply (I.x j) i k) (scaled_apply (I.wq d) k c)

/-- The score of row `i` of device `j`'s block against key `t` in head `h` of device `d`. -/
def score (d j : Dev nD) (i : Fin 256) (h : ℕ) (t : Fin 4096) : EReal :=
  ∑ d' : Fin 128, query I d j i ⟨(128 * h + d'.val) % 1024, Nat.mod_lt _ (by decide)⟩ * I.k d (ix4 0 t ⟨(8 * d.val + h) % 128, Nat.mod_lt _ (by decide)⟩ d')

theorem att_apply (d j : Dev nD) (i : Fin 256) (c : Fin 1024) :
    att I d j (ix2 i c)
      = Ideal.div (∑ t : Fin 4096, I.v d (ix4 0 t ⟨(8 * d.val + c.val / 128) % 128, Nat.mod_lt _ (by decide)⟩ ⟨c.val % 128, Nat.mod_lt _ (by decide)⟩)
            * Ideal.exp (score I d j i (c.val / 128) t)) (∑ t : Fin 4096, Ideal.exp (score I d j i (c.val / 128) t)) := by
  have hc : c.val / 128 < 8 := by omega
  have hs : ∀ t : Fin 4096, (∑ d' : Fin 128, colOf (qry I d j) (c.val / 128) (ix2 i d') * kh I d (c.val / 128) (ix3 0 t d')) = score I d j i (c.val / 128) t := by
    intro t
    refine Finset.sum_congr rfl fun d' _ => congrArg₂ (· * ·) ?_ (head_apply _ t d')
    exact qry_apply I d j i ⟨(128 * (c.val / 128) + d'.val) % 1024, Nat.mod_lt _ (by decide)⟩
  have hv : ∀ t : Fin 4096, vh I d (c.val / 128) (ix3 0 t ⟨c.val % 128, Nat.mod_lt _ (by decide)⟩)
      = I.v d (ix4 0 t ⟨(8 * d.val + c.val / 128) % 128, Nat.mod_lt _ (by decide)⟩ ⟨c.val % 128, Nat.mod_lt _ (by decide)⟩) :=
    fun t => head_apply _ t _
  have ha : att I d j (ix2 i c) = k0_pay26 (F := Ideal) (colOf (qry I d j) (c.val / 128)) (kh I d (c.val / 128)) (vh I d (c.val / 128))
      (ix2 i ⟨c.val % 128, Nat.mod_lt _ (by decide)⟩) := by
    unfold att attUpTo
    rw [if_pos (show ((ix2 i c : S256x1024.Idx) 1).val / 128 < 8 from hc)]
    congr 1
    funext a
    fin_cases a <;> rfl
  rw [ha, attend_apply]
  simp only [hs, hv]
  congr 1
  exact Finset.sum_congr rfl fun t _ => mul_comm _ _

/-! ## The sum around the ring -/

theorem back_zero (d : Dev nD) : back d 0 = d := by
  have h : d.val < 16 := d.isLt
  exact Fin.ext (by show (d.val + 15 * 0) % 16 = d.val; omega)

theorem back_prv (d : Dev nD) (t : ℕ) : back (prv d) t = back d (t + 1) :=
  Fin.ext (by show ((d.val + 15 * 1) % 16 + 15 * t) % 16 = (d.val + 15 * (t + 1)) % 16; omega)

theorem back_round (d : Dev nD) : back d 16 = d := by
  have h : d.val < 16 := d.isLt
  exact Fin.ext (by show (d.val + 15 * 16) % 16 = d.val; omega)

/-- Device `d`'s share of the result at row `i` of device `j`'s block and column `e`. -/
def share (d j : Dev nD) (i : Fin 256) (e : Fin 1024) : EReal := ∑ c : Fin 1024, att I d j (ix2 i c) * I.wo d (ix2 c e)

theorem product_eq (d j : Dev nD) (i : Fin 256) (e : Fin 1024) :
    ∑ c : Fin 1024, att I d j (ix2 i c) * wo16 I d (ix2 c e) = share I d j i e :=
  Finset.sum_congr rfl fun c _ => congrArg (att I d j (ix2 i c) * ·) (plain_apply (I.wo d) c e)

/-- The sum that device `d` sends on after `s` hops holds the shares of the `s + 1` devices it has been through. -/
theorem sumv_apply (s : ℕ) : ∀ (d : Dev nD) (i : Fin 256) (e : Fin 1024),
    sumv I d s (ix2 i e) = ∑ t ∈ Finset.range (s + 1), share I (back d t) (back d (s + 1)) i e := by
  induction s with
  | zero =>
    intro d i e
    rw [sumv_zero, first_apply, product_eq, Finset.sum_range_one, back_zero]
  | succ s ih =>
    intro d i e
    rw [sumv_succ, next_apply, product_eq, ih, Finset.sum_range_succ' _ (s + 1), back_zero]
    simp only [back_prv]

/-- A sum over the devices, taken backwards around the ring from any one of them. -/
theorem sum_back (c : Dev nD) (f : Dev nD → EReal) : ∑ t ∈ Finset.range 16, f (back c t) = ∑ d, f d := by
  rw [Finset.sum_range fun t => f (back c t), ← Equiv.sum_comp (Equiv.subLeft (c : Fin 16)) f]
  refine Finset.sum_congr rfl fun t _ => congrArg f (Fin.ext ?_)
  show (c.val + 15 * t.val) % 16 = (Equiv.subLeft (c : Fin 16) t).val
  rw [Equiv.subLeft_apply, Fin.sub_def]
  have := t.isLt
  show _ = (16 - t.val + c.val) % 16
  omega

/-- Device `c`'s result is the sum of every device's share for its rows. -/
theorem out_apply (c : Dev nD) (i : Fin 256) (e : Fin 1024) : Ring.out I c (ix3 0 i e) = ∑ d, share I d c i e := by
  unfold Ring.out
  rw [last_apply, product_eq, sumv_apply, ← sum_back c fun d => share I d c i e, Finset.sum_range_succ' _ 15, back_zero]
  have h : back c (14 + 1 + 1) = c := back_round c
  simp only [back_prv, h]

end Ring

end Cert.Attention

end
-- ==== Proof.Value.Equation.lean ====
/-
# 01_k — `Equation`: the kernel's result is a block of the reference's

Sixteen devices hold blocks of five whole arrays: rows of the activations, columns of the query weights, rows of the output
weights, and all of the keys and values. When the activations, the query weights and the keys are real numbers, what device `c`
ends with is block `c` of the reference's result on the whole arrays: every score is the same real number, and the sum over all
columns of all heads is the sum over the devices of the sum over each device's columns.
-/
module

public import proofs.«01_k».proof.Proof.Value.Blocks

@[expose] public section

noncomputable section

namespace Cert.Attention

open Cert.KernelIdeal.Ring
open Idealize.ShloMosaic

/-! ## Real scores -/

/-- Scaling the weights is scaling the score. -/
theorem scale_out {ι κ : Type} [Fintype ι] [Fintype κ] (x : κ → ℝ) (w : κ → ι → ℝ) (k : ι → ℝ) (c : ℝ) :
    ∑ d, (∑ a, x a * (w a d * c)) * k d = (∑ d, (∑ a, x a * w a d) * k d) * c := by
  rw [Finset.sum_mul]
  refine Finset.sum_congr rfl fun d _ => ?_
  have h : ∑ a, x a * (w a d * c) = (∑ a, x a * w a d) * c := by
    rw [Finset.sum_mul]; exact Finset.sum_congr rfl fun a _ => (mul_assoc _ _ _).symm
  rw [h]; ring

/-- A score of real rows, weights and keys is a real number; -/
theorem real_score {ι κ : Type} [Fintype ι] [Fintype κ] (x : κ → ℝ) (w : κ → ι → ℝ) (k : ι → ℝ) (c : ℝ) :
    (∑ d, (∑ a, (x a : EReal) * (w a d : EReal)) * (k d : EReal)) * (c : EReal) = (((∑ d, (∑ a, x a * w a d) * k d) * c : ℝ) : EReal) := by
  simp only [← EReal.coe_mul, ← coe_sum]

/-- with the weights scaled first it is the same one. -/
theorem real_score_scaled {ι κ : Type} [Fintype ι] [Fintype κ] (x : κ → ℝ) (w : κ → ι → ℝ) (k : ι → ℝ) (c : ℝ) :
    (∑ d, (∑ a, (x a : EReal) * ((w a d : EReal) * (c : EReal))) * (k d : EReal)) = (((∑ d, (∑ a, x a * w a d) * k d) * c : ℝ) : EReal) := by
  rw [← scale_out]; simp only [← EReal.coe_mul, ← coe_sum]

/-! ## A sum cut in equal parts -/

/-- A sum over `n` blocks of `k` indices, block by block. -/
theorem sum_blocks (n k : ℕ) (f : Fin (n * k) → EReal) (hb : ∀ (d : Fin n) (c : Fin k), c.val + k * d.val < n * k) :
    ∑ q, f q = ∑ d : Fin n, ∑ c : Fin k, f ⟨c.val + k * d.val, hb d c⟩ := by
  rw [← Equiv.sum_comp finProdFinEquiv f, Fintype.sum_prod_type]
  rfl

/-- A sum over the columns of all heads, device by device. -/
theorem sum_devices (f : Fin 16384 → EReal) :
    ∑ q : Fin 16384, f q = ∑ d : Fin 16, ∑ c : Fin 1024, f ⟨c.val + 1024 * d.val, by omega⟩ :=
  sum_blocks 16 1024 f fun d c => by omega

/-! ## The blocks -/

abbrev Rows : Shape := ⟨3, ![1, 4096, 1024]⟩
abbrev RowsBlock : Shape := ⟨3, ![1, 256, 1024]⟩
abbrev Cols : Shape := ⟨2, ![1024, 16384]⟩
abbrev Square : Shape := ⟨2, ![1024, 1024]⟩
abbrev OutRows : Shape := ⟨2, ![16384, 1024]⟩

theorem rows_block (c : Fin 16) (v : Rows.Idx → EReal) (i : Fin 256) (k : Fin 1024) :
    Layout.block RowsBlock Rows 1 16 c v (by decide) (ix3 0 i k) = v (ix3 0 ⟨256 * c.val + i.val, by omega⟩ k) := by
  rw [Layout.block_apply]
  refine congrArg v (funext fun b => Fin.ext ?_)
  rw [Layout.Tiles.idx_val]
  fin_cases b
  · rfl
  · exact congrArg (· + i.val) (Nat.mul_comm c.val 256)
  · rfl

theorem cols_block (c : Fin 16) (v : Cols.Idx → EReal) (k l : Fin 1024) :
    Layout.block Square Cols 1 16 c v (by decide) (ix2 k l) = v (ix2 k ⟨l.val + 1024 * c.val, by omega⟩) := by
  rw [Layout.block_apply]
  refine congrArg v (funext fun b => Fin.ext ?_)
  rw [Layout.Tiles.idx_val]
  fin_cases b
  · rfl
  · exact (Nat.add_comm _ _).trans (congrArg (l.val + ·) (Nat.mul_comm c.val 1024))

theorem outRows_block (c : Fin 16) (v : OutRows.Idx → EReal) (l e : Fin 1024) :
    Layout.block Square OutRows 0 16 c v (by decide) (ix2 l e) = v (ix2 ⟨l.val + 1024 * c.val, by omega⟩ e) := by
  rw [Layout.block_apply]
  refine congrArg v (funext fun b => Fin.ext ?_)
  rw [Layout.Tiles.idx_val]
  fin_cases b
  · exact (Nat.add_comm _ _).trans (congrArg (l.val + ·) (Nat.mul_comm c.val 1024))
  · rfl

/-! ## The equation -/

section
variable (I : Ins Ideal) (x : Rows.Idx → EReal) (wq : Cols.Idx → EReal) (k v : Shape.Idx ⟨4, ![1, 4096, 128, 128]⟩ → EReal)
  (wo : OutRows.Idx → EReal)
variable (xr : Fin 4096 → Fin 1024 → ℝ) (wr : Fin 1024 → Fin 16384 → ℝ) (kr : Fin 4096 → Fin 128 → Fin 128 → ℝ) (cr : ℝ)

/-- The score of row `r` against key `j` in head `h`. -/
def rscore (r : Fin 4096) (h : Fin 128) (j : Fin 4096) : ℝ :=
  (∑ d : Fin 128, (∑ a : Fin 1024, xr r a * wr a ⟨h.val * 128 + d.val, by omega⟩) * kr j h d) * cr

theorem reference_score (hc : scale = (cr : EReal)) (hx : ∀ r a, x (ix3 0 r a) = (xr r a : EReal)) (hw : ∀ a q, wq (ix2 a q) = (wr a q : EReal))
    (hk : ∀ j h d, k (ix4 0 j h d) = (kr j h d : EReal)) (r : Fin 4096) (h : Fin 128) (j : Fin 4096) :
    (∑ d : Fin 128, queries x wq (ix4 0 r h d) * k (ix4 0 j h d)) * scale = (rscore xr wr kr cr r h j : EReal) := by
  simp only [queries_apply, hx, hw, hk, hc]
  exact real_score (xr r) (fun a (d : Fin 128) => wr a ⟨h.val * 128 + d.val, by omega⟩) (kr j h) cr

theorem kernel_score (hc : scale = (cr : EReal)) (hx : ∀ r a, x (ix3 0 r a) = (xr r a : EReal)) (hw : ∀ a q, wq (ix2 a q) = (wr a q : EReal))
    (hk : ∀ j h d, k (ix4 0 j h d) = (kr j h d : EReal))
    (bx : ∀ c : Fin 16, I.x c = Layout.block RowsBlock Rows 1 16 c x) (bw : ∀ c : Fin 16, I.wq c = Layout.block Square Cols 1 16 c wq)
    (bk : ∀ c : Fin 16, I.k c = k) (d j : Fin 16) (i : Fin 256) (h : ℕ) (hh : h < 8) (t : Fin 4096) :
    score I d j i h t = (rscore xr wr kr cr ⟨256 * j.val + i.val, by omega⟩ ⟨8 * d.val + h, by omega⟩ t : EReal) := by
  have e : ∀ d' : Fin 128, (⟨(128 * h + d'.val) % 1024 + 1024 * d.val, by omega⟩ : Fin 16384) = ⟨(8 * d.val + h) * 128 + d'.val, by omega⟩ :=
    fun d' => Fin.ext (by show (128 * h + d'.val) % 1024 + 1024 * d.val = (8 * d.val + h) * 128 + d'.val; omega)
  have e' : (⟨(8 * d.val + h) % 128, Nat.mod_lt _ (by decide)⟩ : Fin 128) = ⟨8 * d.val + h, by omega⟩ :=
    Fin.ext (Nat.mod_eq_of_lt (by omega))
  unfold score query
  simp only [bx, bw, bk]
  simp only [rows_block, cols_block, hx, hw, hk, hc, e, e']
  exact real_score_scaled (xr _) (fun a (d' : Fin 128) => wr a ⟨(8 * d.val + h) * 128 + d'.val, by omega⟩) (kr t _) cr

/-- What device `c` ends with is block `c` of the reference's result. -/
theorem out_eq (hx : ∀ r a, x (ix3 0 r a) = (xr r a : EReal)) (hw : ∀ a q, wq (ix2 a q) = (wr a q : EReal))
    (hk : ∀ j h d, k (ix4 0 j h d) = (kr j h d : EReal))
    (bx : ∀ c : Fin 16, I.x c = Layout.block RowsBlock Rows 1 16 c x) (bw : ∀ c : Fin 16, I.wq c = Layout.block Square Cols 1 16 c wq)
    (bk : ∀ c : Fin 16, I.k c = k) (bv : ∀ c : Fin 16, I.v c = v) (bo : ∀ c : Fin 16, I.wo c = Layout.block Square OutRows 0 16 c wo) (c : Fin 16) :
    Cert.KernelIdeal.Ring.out I c = Layout.block RowsBlock Rows 1 16 c (reference x wq k v wo) := by
  obtain ⟨cr, hc⟩ := scale_real
  funext a
  obtain ⟨i, e, rfl⟩ : ∃ (i : Fin 256) (e : Fin 1024), a = ix3 0 i e :=
    ⟨a 1, a 2, funext fun b => by
      fin_cases b
      · exact Subsingleton.elim (α := Fin 1) _ _
      · rfl
      · rfl⟩
  rw [rows_block, out_apply, reference_apply x wq k v wo (rscore xr wr kr cr) (reference_score x wq k xr wr kr cr hc hx hw hk), sum_devices]
  refine Finset.sum_congr rfl fun d _ => Finset.sum_congr rfl fun q _ => ?_
  have hd : d.val < 16 := d.isLt
  have hs := fun t => kernel_score I x wq k xr wr kr cr hc hx hw hk bx bw bk d c i (q.val / 128) (by omega) t
  have e1 : (⟨(8 * d.val + q.val / 128) % 128, Nat.mod_lt _ (by decide)⟩ : Fin 128) = ⟨(q.val + 1024 * d.val) / 128, by omega⟩ :=
    Fin.ext (by show (8 * d.val + q.val / 128) % 128 = (q.val + 1024 * d.val) / 128; omega)
  have e2 : (⟨8 * d.val + q.val / 128, by omega⟩ : Fin 128) = ⟨(q.val + 1024 * d.val) / 128, by omega⟩ :=
    Fin.ext (by show 8 * d.val + q.val / 128 = (q.val + 1024 * d.val) / 128; omega)
  have e3 : (⟨q.val % 128, Nat.mod_lt _ (by decide)⟩ : Fin 128) = ⟨(q.val + 1024 * d.val) % 128, by omega⟩ :=
    Fin.ext (by show q.val % 128 = (q.val + 1024 * d.val) % 128; omega)
  rw [att_apply, bo, outRows_block]
  simp only [hs, bv, e1, e2, e3]

end

/-! ## Finite entries -/

/-- An extended real of magnitude below infinity is a real number. -/
theorem real_of_abs_lt {a : EReal} (h : max a (-a) < ⊤) : ∃ r : ℝ, a = (r : EReal) := by
  induction a with
  | bot => exact absurd h (by simp)
  | top => exact absurd h (by simp)
  | coe r => exact ⟨r, rfl⟩

theorem ofBits_top : Ideal.ofBits .f32 0x7F800000#32 = ⊤ := by simp [Ideal.ofBits, Ideal.ieee]

/-- An entry that passes the test of the precondition is a real number. -/
theorem real_of_test (S : Shape) (a : FVec Ideal S .f32) (hb : Shape.BroadcastsInDim ⟨0, ![]⟩ S (![] : Fin 0 → Fin S.rank))
    (h : cmpf .olt (Host.absf a) (broadcastInDim S ![] hb (constant (F := Ideal) ⟨0, ![]⟩ .f32 0x7F800000#32)) = fun _ => 1#1) (i : S.Idx) :
    ∃ r : ℝ, a i = (r : EReal) := by
  have h1 := congrFun h i
  have h2 : BitVec.ofBool (decide (max (a i) (-(a i)) < Ideal.ofBits .f32 0x7F800000#32)) = 1#1 := h1
  rw [ofBits_top] at h2
  refine real_of_abs_lt ?_
  by_contra hn
  rw [decide_eq_false hn] at h2
  exact absurd h2 (by decide)

/-- Real blocks are blocks of a real array: of the rows, -/
theorem rows_real (x : Rows.Idx → EReal) (b : Fin 16 → RowsBlock.Idx → EReal) (bx : ∀ c, b c = Layout.block RowsBlock Rows 1 16 c x)
    (h : ∀ c i, ∃ r : ℝ, b c i = (r : EReal)) : ∃ xr : Fin 4096 → Fin 1024 → ℝ, ∀ r a, x (ix3 0 r a) = (xr r a : EReal) := by
  suffices hs : ∀ (r : Fin 4096) (a : Fin 1024), ∃ y : ℝ, x (ix3 0 r a) = (y : EReal) by
    choose f hf using hs; exact ⟨f, hf⟩
  intro r a
  obtain ⟨y, hy⟩ := h ⟨r.val / 256, by omega⟩ (ix3 0 ⟨r.val % 256, Nat.mod_lt _ (by decide)⟩ a)
  rw [bx, rows_block] at hy
  have e : (⟨256 * (r.val / 256) + r.val % 256, by omega⟩ : Fin 4096) = r := Fin.ext (Nat.div_add_mod _ _)
  exact ⟨y, by rw [← hy, e]⟩

/-- and of the columns. -/
theorem cols_real (w : Cols.Idx → EReal) (b : Fin 16 → Square.Idx → EReal) (bw : ∀ c, b c = Layout.block Square Cols 1 16 c w)
    (h : ∀ c i, ∃ r : ℝ, b c i = (r : EReal)) : ∃ wr : Fin 1024 → Fin 16384 → ℝ, ∀ a q, w (ix2 a q) = (wr a q : EReal) := by
  suffices hs : ∀ (a : Fin 1024) (q : Fin 16384), ∃ y : ℝ, w (ix2 a q) = (y : EReal) by
    choose f hf using hs; exact ⟨f, hf⟩
  intro a q
  obtain ⟨y, hy⟩ := h ⟨q.val / 1024, by omega⟩ (ix2 a ⟨q.val % 1024, Nat.mod_lt _ (by decide)⟩)
  rw [bw, cols_block] at hy
  have e : (⟨q.val % 1024 + 1024 * (q.val / 1024), by omega⟩ : Fin 16384) = q := Fin.ext (Nat.mod_add_div _ _)
  exact ⟨y, by rw [← hy, e]⟩

end Cert.Attention

end
-- ==== Proof.Value.Inputs.lean ====
/-
# 01_k — `Inputs`: what the kernel reads is what its arguments hold

Each argument is read whole, through a window that covers its array.
-/
module

public import proofs.«01_k».proof.Proof.KernelIdeal.Launch

@[expose] public section

noncomputable section

namespace Cert.Attention

open Cert.KernelIdeal Cert.KernelIdeal.Gen Cert.KernelIdeal.Ring
open Idealize.ShloMosaic Idealize.ShloMosaic.TcCoe

variable {F : FTy → Type} [FloatOps F] (m : (ℓ : Loc nD τ sig) → Buf (Elt F) ℓ) (c : Dev nD)

theorem ins_k : (ins m).k c = m ((c : Thread nD τ).loc main_arg2) := rfl

theorem ins_v : (ins m).v c = m ((c : Thread nD τ).loc main_arg3) := rfl

theorem ins_x : (ins m).x c = m ((c : Thread nD τ).loc main_arg0) := by
  funext i
  exact congrArg (m ((c : Thread nD τ).loc main_arg0)) (funext fun b => Fin.ext (by fin_cases b <;> simp <;> rfl))

theorem ins_wq : (ins m).wq c = m ((c : Thread nD τ).loc main_arg1) := by
  funext i
  exact congrArg (m ((c : Thread nD τ).loc main_arg1)) (funext fun b => Fin.ext (by fin_cases b <;> simp <;> rfl))

theorem ins_wo : (ins m).wo c = m ((c : Thread nD τ).loc main_arg4) := by
  funext i
  exact congrArg (m ((c : Thread nD τ).loc main_arg4)) (funext fun b => Fin.ext (by fin_cases b <;> simp <;> rfl))

end Cert.Attention

end
-- ==== Proof.lean ====
/- The proof of the certificate's claims. The kernel's run on sixteen devices is `Ring.run_out` (Proof/KernelIdeal/Final.lean,
   generic in the float values, and its copy in Proof/Kernel/Final.lean for the kernel as compiled); the reference's run is
   `Value.run`. Each frame is one of these with the result forgotten. That the two results agree over the extended reals is
   `Attention.out_eq` (Proof/Value/Equation.lean). -/
module

public import proofs.«01_k».proof.Defs
public import proofs.«01_k».proof.Proof.Kernel.Final
public import proofs.«01_k».proof.Proof.KernelIdeal.Final
public import proofs.«01_k».proof.Proof.Value.Equation
public import proofs.«01_k».proof.Proof.Value.Inputs
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel as compiled ends with its arguments unchanged and every semaphore at zero. -/
theorem frame_kernel : Cert.quiescent_Kernel (hKernel := Cert.Kernel.Gen.facts) := fun m g _ =>
  (θ_run _ _ _).mono (fun _ h => ⟨fun c => (h.1 c).2, h.2⟩) (Cert.Kernel.Ring.run_out m g)

/-- So does the kernel over the extended reals. -/
theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Ring.run_out m g)

/-- So does the reference; it has no semaphore. -/
theorem frame_reference : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run m g)

/-- The shapes the precondition's operations take, on one device of the kernel; -/
theorem facts_kernel : Cert.Pre_finite_inputs_KernelIdeal.Facts := ⟨by decide, by decide, by decide⟩

/-- and on the reference's device. -/
theorem facts_reference : Cert.Pre_finite_inputs_ReferenceIdeal.Facts := ⟨by decide, by decide, by decide⟩

/-- Over the extended reals, with finite rows, query weights and keys, each device ends with its block of the reference's result. -/
theorem algebraic : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := facts_kernel) := by
  intro m g m' g' hpre hargs
  have fx := fun c => Attention.real_of_test _ _ _ (hpre c).1
  have fw := fun c => Attention.real_of_test _ _ _ (hpre c).2.1
  have fk := Attention.real_of_test _ _ _ (hpre 0).2.2
  obtain ⟨xr, hx⟩ := Attention.rows_real _ _ (fun c => (hargs c).1) fx
  obtain ⟨wr, hw⟩ := Attention.cols_real _ _ (fun c => (hargs c).2.1) fw
  have hk := fun j h d => fk (ix4 0 j h d)
  choose kr hk using hk
  rw [(hargs 0).2.2.1] at hk
  refine ⟨Cert.ReferenceIdeal.Value.res_main_v101 m' 0, ?_, ?_⟩
  · refine (θ_run _ _ _).mono (fun r h c => ⟨(h.1 c).1.trans ?_, (h.1 c).2⟩) (Cert.KernelIdeal.Ring.run_out m g)
    rw [Attention.res_eq]
    exact Attention.out_eq (Cert.KernelIdeal.Ring.ins m) _ _ _ _ _ xr wr kr hx hw hk (fun c => (Attention.ins_x m c).trans (hargs c).1)
      (fun c => (Attention.ins_wq m c).trans (hargs c).2.1) (fun c => (Attention.ins_k m c).trans (hargs c).2.2.1)
      (fun c => (Attention.ins_v m c).trans (hargs c).2.2.2.1) (fun c => (Attention.ins_wo m c).trans (hargs c).2.2.2.2) c
  · exact (θ_run _ _ _).mono (fun r h => h 0) (Cert.ReferenceIdeal.Value.run m' g')

theorem claim : Cert.Claim :=
  ⟨Cert.Kernel.Gen.facts, Cert.KernelIdeal.Gen.facts, Cert.ReferenceIdeal.Gen.facts, facts_kernel, facts_reference, frame_kernel,
    frame_kernelIdeal, fun m g _ => frame_kernelIdeal m g trivial, frame_reference, fun m g _ => frame_reference m g trivial, trivial, algebraic⟩

end Cert.Proof

end
